-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)) (v3 : (c : Dev Cert.Kernel2Ideal.nD) → Buf (Elt Ideal) ((c.tc : Thread Cert.Kernel2Ideal.nD Cert.Kernel2Ideal.τ).loc Cert.Kernel2Ideal.main_v19_3)) (v4 : (c : Dev Cert.Kernel2Ideal.nD) → Buf (Elt Ideal) ((c.tc : Thread Cert.Kernel2Ideal.nD Cert.Kernel2Ideal.τ).loc Cert.Kernel2Ideal.main_v19_4)) (v5 : (c : Dev Cert.Kernel2Ideal.nD) → Buf (Elt Ideal) ((c.tc : Thread Cert.Kernel2Ideal.nD Cert.Kernel2Ideal.τ).loc Cert.Kernel2Ideal.main_v19_5)) (v6 : (c : Dev Cert.Kernel2Ideal.nD) → Buf (Elt Ideal) ((c.tc : Thread Cert.Kernel2Ideal.nD Cert.Kernel2Ideal.τ).loc Cert.Kernel2Ideal.main_v19_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_v19_3) = v3 c
          ∧ r.2.mem ((c.tc : Thread Cert.Kernel2Ideal.nD Cert.Kernel2Ideal.τ).loc Cert.Kernel2Ideal.main_v19_4) = v4 c
          ∧ r.2.mem ((c.tc : Thread Cert.Kernel2Ideal.nD Cert.Kernel2Ideal.τ).loc Cert.Kernel2Ideal.main_v19_5) = v5 c
          ∧ r.2.mem ((c.tc : Thread Cert.Kernel2Ideal.nD Cert.Kernel2Ideal.τ).loc Cert.Kernel2Ideal.main_v19_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v176) = v0 c
          ∧ r.2.mem ((c.tc : Thread Cert.Reference2Ideal.nD Cert.Reference2Ideal.τ).loc Cert.Reference2Ideal.main_v177) = v1 c
          ∧ r.2.mem ((c.tc : Thread Cert.Reference2Ideal.nD Cert.Reference2Ideal.τ).loc Cert.Reference2Ideal.main_v178) = v2 c
          ∧ r.2.mem ((c.tc : Thread Cert.Reference2Ideal.nD Cert.Reference2Ideal.τ).loc Cert.Reference2Ideal.main_v179) = v3 c
          ∧ r.2.mem ((c.tc : Thread Cert.Reference2Ideal.nD Cert.Reference2Ideal.τ).loc Cert.Reference2Ideal.main_v170) = v4 c
          ∧ r.2.mem ((c.tc : Thread Cert.Reference2Ideal.nD Cert.Reference2Ideal.τ).loc Cert.Reference2Ideal.main_v175) = v5 c
          ∧ r.2.mem ((c.tc : Thread Cert.Reference2Ideal.nD Cert.Reference2Ideal.τ).loc Cert.Reference2Ideal.main_v180) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_v138) = v1 c
          ∧ r.2.mem ((c.tc : Thread Cert.Reference3Ideal.nD Cert.Reference3Ideal.τ).loc Cert.Reference3Ideal.main_v139) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S24576x512 : Shape := ⟨2, ![24576, 512]⟩
abbrev S24576x128 : Shape := ⟨2, ![24576, 128]⟩
abbrev S_ : Shape := ⟨0, ![]⟩

class Facts : Prop where
  bitsLt_bf16_f32 : FTy.bits .bf16 < FTy.bits .f32
  bcast_S_S24576x512 : S_.BroadcastsInDim S24576x512 (![] : Fin 0 → Fin S24576x512.rank)
  reducesTo_S24576x512_S_d0_1 : S24576x512.ReducesTo [0, 1] S_
  h_S_ : 0 < S_.numel
  bcast_S_S24576x128 : S_.BroadcastsInDim S24576x128 (![] : Fin 0 → Fin S24576x128.rank)
  reducesTo_S24576x128_S_d0_1 : S24576x128.ReducesTo [0, 1] S_

variable [Facts]

def fn_part1 {F : FTy → Type} [FloatOps F] (main_v4 : IVec S_ 1) (main_v9 : IVec S_ 1) (main_v14 : IVec S_ 1) (main_v15 : FVec F S24576x128 .f32) (main_v16 : FVec F S24576x128 .f32) : IVec S_ 1 × IVec S_ 1 × IVec S_ 1 × IVec S_ 1 :=
  let main_v17 : IVec S24576x128 1 := cmpf .olt main_v15 main_v16
  let main_c_5 : IVec S_ 1 := constantI S_ 1 1#1
  let main_v18 : IVec S_ 1 := (fun x v => Host.reduce IntOp.andi x v reducesTo_S24576x128_S_d0_1 h_S_) main_v17 main_c_5
  (main_v4, main_v9, main_v14, main_v18)

def fn {F : FTy → Type} [FloatOps F] (main_arg0 : FVec F S24576x512 .bf16) (main_arg1 : FVec F S24576x512 .bf16) (main_arg2 : FVec F S24576x512 .bf16) (main_arg3 : FVec F S24576x128 .f32) : IVec S_ 1 × IVec S_ 1 × IVec S_ 1 × IVec S_ 1 :=
  let main_v0 : FVec F S24576x512 .f32 := (extf .f32 · bitsLt_bf16_f32) main_arg0
  let main_v1 : FVec F S24576x512 .f32 := Host.absf main_v0
  let main_cst : FVec F S_ .f32 := constant S_ .f32 0x7F800000#32
  let main_v2 : FVec F S24576x512 .f32 := broadcastInDim S24576x512 ![] bcast_S_S24576x512 main_cst
  let main_v3 : IVec S24576x512 1 := cmpf .olt main_v1 main_v2
  let main_c : IVec S_ 1 := constantI S_ 1 1#1
  let main_v4 : IVec S_ 1 := (fun x v => Host.reduce IntOp.andi x v reducesTo_S24576x512_S_d0_1 h_S_) main_v3 main_c
  let main_v5 : FVec F S24576x512 .f32 := (extf .f32 · bitsLt_bf16_f32) main_arg1
  let main_v6 : FVec F S24576x512 .f32 := Host.absf main_v5
  let main_cst_0 : FVec F S_ .f32 := constant S_ .f32 0x7F800000#32
  let main_v7 : FVec F S24576x512 .f32 := broadcastInDim S24576x512 ![] bcast_S_S24576x512 main_cst_0
  let main_v8 : IVec S24576x512 1 := cmpf .olt main_v6 main_v7
  let main_c_1 : IVec S_ 1 := constantI S_ 1 1#1
  let main_v9 : IVec S_ 1 := (fun x v => Host.reduce IntOp.andi x v reducesTo_S24576x512_S_d0_1 h_S_) main_v8 main_c_1
  let main_v10 : FVec F S24576x512 .f32 := (extf .f32 · bitsLt_bf16_f32) main_arg2
  let main_v11 : FVec F S24576x512 .f32 := Host.absf main_v10
  let main_cst_2 : FVec F S_ .f32 := constant S_ .f32 0x7F800000#32
  let main_v12 : FVec F S24576x512 .f32 := broadcastInDim S24576x512 ![] bcast_S_S24576x512 main_cst_2
  let main_v13 : IVec S24576x512 1 := cmpf .olt main_v11 main_v12
  let main_c_3 : IVec S_ 1 := constantI S_ 1 1#1
  let main_v14 : IVec S_ 1 := (fun x v => Host.reduce IntOp.andi x v reducesTo_S24576x512_S_d0_1 h_S_) main_v13 main_c_3
  let main_v15 : FVec F S24576x128 .f32 := Host.absf main_arg3
  let main_cst_4 : FVec F S_ .f32 := constant S_ .f32 0x7F800000#32
  let main_v16 : FVec F S24576x128 .f32 := broadcastInDim S24576x128 ![] bcast_S_S24576x128 main_cst_4
  fn_part1 (F := F) main_v4 main_v9 main_v14 main_v15 main_v16
-- ==== Pre_finite3.lean ====
abbrev S8192x1024 : Shape := ⟨2, ![8192, 1024]⟩
abbrev S16384x1024 : Shape := ⟨2, ![16384, 1024]⟩
abbrev S24576x512 : Shape := ⟨2, ![24576, 512]⟩
abbrev S8192x512 : Shape := ⟨2, ![8192, 512]⟩
abbrev S16384x512 : Shape := ⟨2, ![16384, 512]⟩
abbrev S8x6144 : Shape := ⟨2, ![8, 6144]⟩
abbrev S4x128 : Shape := ⟨2, ![4, 128]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S_ : Shape := ⟨0, ![]⟩

class Facts : Prop where
  bcast_S_S8x6144 : S_.BroadcastsInDim S8x6144 (![] : Fin 0 → Fin S8x6144.rank)
  reducesTo_S8x6144_S_d0_1 : S8x6144.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg14 : FVec F S128x128 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S128x128 .f32 := Host.absf main_arg14
  let main_cst_6 : FVec F S_ .f32 := constant S_ .f32 0x7F800000#32
  let main_v17 : FVec F S128x128 .f32 := broadcastInDim S128x128 ![] bcast_S_S128x128 main_cst_6
  let main_v18 : IVec S128x128 1 := cmpf .olt main_v16 main_v17
  let main_c_7 : IVec S_ 1 := constantI S_ 1 1#1
  let main_v19 : IVec S_ 1 := (fun x v => Host.reduce IntOp.andi x v reducesTo_S128x128_S_d0_1 h_S_) main_v18 main_c_7
  (main_v3, main_v7, main_v11, main_v15, main_v19)

def fn {F : FTy → Type} [FloatOps F] (main_arg0 : FVec F S8192x1024 .f32) (main_arg1 : FVec F S16384x1024 .f32) (main_arg2 : FVec F S24576x512 .bf16) (main_arg3 : FVec F S8192x512 .f32) (main_arg4 : FVec F S16384x512 .f32) (main_arg5 : FVec F S8192x512 .f32) (main_arg6 : FVec F S16384x512 .f32) (main_arg7 : FVec F S24576x512 .f32) (main_arg8 : FVec F S8x6144 .f32) (main_arg9 : FVec F S4x128 .f32) (main_arg10 : FVec F S1024x1024 .f32) (main_arg11 : FVec F S1024 .f32) (main_arg12 : FVec F S1024x2048 .f32) (main_arg13 : FVec F S128x128 .f32) (main_arg14 : FVec F S128x128 .f32) : IVec S_ 1 × IVec S_ 1 × IVec S_ 1 × IVec S_ 1 × IVec S_ 1 :=
  let main_v0 : FVec F S8x6144 .f32 := Host.absf main_arg8
  let main_cst : FVec F S_ .f32 := constant S_ .f32 0x7F800000#32
  let main_v1 : FVec F S8x6144 .f32 := broadcastInDim S8x6144 ![] bcast_S_S8x6144 main_cst
  let main_v2 : IVec S8x6144 1 := cmpf .olt main_v0 main_v1
  let main_c : IVec S_ 1 := constantI S_ 1 1#1
  let main_v3 : IVec S_ 1 := (fun x v => Host.reduce IntOp.andi x v reducesTo_S8x6144_S_d0_1 h_S_) main_v2 main_c
  let main_v4 : FVec F S1024 .f32 := Host.absf main_arg11
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2048 .f32 := Host.absf main_arg12
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S128x128 .f32 := Host.absf main_arg13
  let main_cst_4 : FVec F S_ .f32 := constant S_ .f32 0x7F800000#32
  let main_v13 : FVec F S128x128 .f32 := broadcastInDim S128x128 ![] bcast_S_S128x128 main_cst_4
  let main_v14 : IVec S128x128 1 := cmpf .olt main_v12 main_v13
  let main_c_5 : IVec S_ 1 := constantI S_ 1 1#1
  let main_v15 : IVec S_ 1 := (fun x v => Host.reduce IntOp.andi x v reducesTo_S128x128_S_d0_1 h_S_) main_v14 main_c_5
  fn_part1 (F := F) main_arg14 main_v3 main_v7 main_v11 main_v15
-- ==== Kernel.lean ====
abbrev S24576x512 : Shape := ⟨2, ![24576, 512]⟩
abbrev S24576x128 : Shape := ⟨2, ![24576, 128]⟩
abbrev S_ : Shape := ⟨0, ![]⟩
abbrev S32x2x4x128x128 : Shape := ⟨5, ![32, 2, 4, 128, 128]⟩
abbrev S32x2x4x128 : Shape := ⟨4, ![32, 2, 4, 128]⟩
abbrev S32x2x4 : Shape := ⟨3, ![32, 2, 4]⟩
abbrev S32x2x4x128x1 : Shape := ⟨5, ![32, 2, 4, 128, 1]⟩
abbrev S32x2x4x128x256 : Shape := ⟨5, ![32, 2, 4, 128, 256]⟩
abbrev S32x8x128x256 : Shape := ⟨4, ![32, 8, 128, 256]⟩
abbrev S32x8x1 : Shape := ⟨3, ![32, 8, 1]⟩
abbrev S32x8x128 : Shape := ⟨3, ![32, 8, 128]⟩
abbrev S128x24576 : Shape := ⟨2, ![128, 24576]⟩
abbrev S8192x512 : Shape := ⟨2, ![8192, 512]⟩
abbrev S256x512 : Shape := ⟨2, ![256, 512]⟩
abbrev S256x128 : Shape := ⟨2, ![256, 128]⟩
abbrev S128x256 : Shape := ⟨2, ![128, 256]⟩
abbrev S1x8x128x256 : Shape := ⟨4, ![1, 8, 128, 256]⟩
abbrev S1x8x128 : Shape := ⟨3, ![1, 8, 128]⟩
abbrev S8x128x256 : Shape := ⟨3, ![8, 128, 256]⟩
abbrev S8x128 : Shape := ⟨2, ![8, 128]⟩
abbrev S256x256 : Shape := ⟨2, ![256, 256]⟩
abbrev S256x1 : Shape := ⟨2, ![256, 1]⟩
abbrev S1x256 : Shape := ⟨2, ![1, 256]⟩
abbrev S1x128 : Shape := ⟨2, ![1, 128]⟩
abbrev S256 : Shape := ⟨1, ![256]⟩
abbrev S1x128x256 : Shape := ⟨3, ![1, 128, 256]⟩

abbrev nBuf : Space → Nat
  | .hbm => 21
  | .vmem => 34
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S24576x512, .bf16⟩
  | .hbm, ⟨3, _⟩ => ⟨S24576x128, .f32⟩
  | .hbm, ⟨4, _⟩ => ⟨S_, .f32⟩
  | .hbm, ⟨5, _⟩ => ⟨S32x2x4x128x128, .f32⟩
  | .hbm, ⟨6, _⟩ => ⟨S_, .f32⟩
  | .hbm, ⟨7, _⟩ => ⟨S32x2x4x128, .f32⟩
  | .hbm, ⟨8, _⟩ => ⟨S_, .f32⟩
  | .hbm, ⟨9, _⟩ => ⟨S32x2x4, .f32⟩
  | .hbm, ⟨10, _⟩ => ⟨S32x2x4x128x1, .f32⟩
  | .hbm, ⟨11, _⟩ => ⟨S32x2x4x128x128, .f32⟩
  | .hbm, ⟨12, _⟩ => ⟨S32x2x4x128x256, .f32⟩
  | .hbm, ⟨13, _⟩ => ⟨S32x8x128x256, .f32⟩
  | .hbm, ⟨14, _⟩ => ⟨S32x8x1, .f32⟩
  | .hbm, ⟨15, _⟩ => ⟨S32x8x128, .f32⟩
  | .hbm, ⟨16, _⟩ => ⟨S128x24576, .f32⟩
  | .hbm, ⟨17, _⟩ => ⟨S8192x512, .f32⟩
  | .hbm, ⟨18, _⟩ => ⟨S8192x512, .f32⟩
  | .hbm, ⟨19, _⟩ => ⟨S32x8x128x256, .f32⟩
  | .hbm, ⟨20, _⟩ => ⟨S32x8x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .f32⟩
  | .local _ .vmem, ⟨7, _⟩ => ⟨S256x128, .f32⟩
  | .local _ .vmem, ⟨8, _⟩ => ⟨S128x256, .f32⟩
  | .local _ .vmem, ⟨9, _⟩ => ⟨S128x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S256x128, .f32⟩
  | .local _ .vmem, ⟨18, _⟩ => ⟨S128x256, .f32⟩
  | .local _ .vmem, ⟨19, _⟩ => ⟨S128x256, .f32⟩
  | .local _ .vmem, ⟨20, _⟩ => ⟨S1x8x128x256, .f32⟩
  | .local _ .vmem, ⟨21, _⟩ => ⟨S1x8x128x256, .f32⟩
  | .local _ .vmem, ⟨22, _⟩ => ⟨S1x8x128, .f32⟩
  | .local _ .vmem, ⟨23, _⟩ => ⟨S1x8x128, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S1x8x128x256, .f32⟩
  | .local _ .vmem, ⟨29, _⟩ => ⟨S1x8x128x256, .f32⟩
  | .local _ .vmem, ⟨30, _⟩ => ⟨S1x8x128, .f32⟩
  | .local _ .vmem, ⟨31, _⟩ => ⟨S1x8x128, .f32⟩
  | .local _ .vmem, ⟨32, _⟩ => ⟨S8x128x256, .f32⟩
  | .local _ .vmem, ⟨33, _⟩ => ⟨S8x128, .f32⟩
  | _, _ => ⟨S24576x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_206 : BitVec 32 := 0#32
  let v672 : BitVec 1 := Scalar.cmpi .eq arg1 c0_i32_206
  let v673 : BitVec 32 := Scalar.extui v672
  let c0_i32_207 : BitVec 32 := 0#32
  let v674 : BitVec 1 := Scalar.cmpi .ne v673 c0_i32_207
  v674

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![c0_i32_2.toNat, v4.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S24576x512 : Shape := ⟨2, ![24576, 512]⟩
abbrev S24576x128 : Shape := ⟨2, ![24576, 128]⟩
abbrev S8192x512 : Shape := ⟨2, ![8192, 512]⟩
abbrev S32x256x4x128 : Shape := ⟨4, ![32, 256, 4, 128]⟩
abbrev S32x4x256x128 : Shape := ⟨4, ![32, 4, 256, 128]⟩
abbrev S32x8x256x128 : Shape := ⟨4, ![32, 8, 256, 128]⟩
abbrev S8192x8 : Shape := ⟨2, ![8192, 8]⟩
abbrev S32x256x2x4 : Shape := ⟨4, ![32, 256, 2, 4]⟩
abbrev S2x32x4x256 : Shape := ⟨4, ![2, 32, 4, 256]⟩
abbrev S1x32x4x256 : Shape := ⟨4, ![1, 32, 4, 256]⟩
abbrev S32x4x256 : Shape := ⟨3, ![32, 4, 256]⟩
abbrev S32x8x256 : Shape := ⟨3, ![32, 8, 256]⟩
abbrev S_ : Shape := ⟨0, ![]⟩
abbrev S32x8x128x128 : Shape := ⟨4, ![32, 8, 128, 128]⟩
abbrev S32x8x128 : Shape := ⟨3, ![32, 8, 128]⟩
abbrev S32x8 : Shape := ⟨2, ![32, 8]⟩
abbrev S64x64 : Shape := ⟨2, ![64, 64]⟩
abbrev S32x8x4x64x128 : Shape := ⟨5, ![32, 8, 4, 64, 128]⟩
abbrev S4x32x8x64x128 : Shape := ⟨5, ![4, 32, 8, 64, 128]⟩
abbrev S32x8x4x64 : Shape := ⟨4, ![32, 8, 4, 64]⟩
abbrev S4x32x8x64 : Shape := ⟨4, ![4, 32, 8, 64]⟩
abbrev S1x32x8x64x128 : Shape := ⟨5, ![1, 32, 8, 64, 128]⟩
abbrev S32x8x64x128 : Shape := ⟨4, ![32, 8, 64, 128]⟩
abbrev S1x32x8x64 : Shape := ⟨4, ![1, 32, 8, 64]⟩
abbrev S32x8x64 : Shape := ⟨3, ![32, 8, 64]⟩
abbrev S32x8x64x1 : Shape := ⟨4, ![32, 8, 64, 1]⟩
abbrev S32x8x1x64 : Shape := ⟨4, ![32, 8, 1, 64]⟩
abbrev S32x8x64x64 : Shape := ⟨4, ![32, 8, 64, 64]⟩
abbrev S32x8x1 : Shape := ⟨3, ![32, 8, 1]⟩
abbrev S32x8x1x1 : Shape := ⟨4, ![32, 8, 1, 1]⟩
abbrev S32x8x128x1 : Shape := ⟨4, ![32, 8, 128, 1]⟩
abbrev S32x8x128x256 : Shape := ⟨4, ![32, 8, 128, 256]⟩

abbrev nBuf : Space → Nat
  | .hbm => 209
  | .vmem => 0
  | .smem => 0
  | _ => 0

abbrev hbmTy0_0 (i : Nat) : BufTy := match i % 128 with
  | 0 => ⟨S24576x512, .bf16⟩
  | 1 => ⟨S24576x512, .bf16⟩
  | 2 => ⟨S24576x512, .bf16⟩
  | 3 => ⟨S24576x128, .f32⟩
  | 4 => ⟨S8192x512, .bf16⟩
  | 5 => ⟨S8192x512, .f32⟩
  | 6 => ⟨S32x256x4x128, .f32⟩
  | 7 => ⟨S32x4x256x128, .f32⟩
  | 8 => ⟨S32x4x256x128, .f32⟩
  | 9 => ⟨S32x8x256x128, .f32⟩
  | 10 => ⟨S8192x512, .bf16⟩
  | 11 => ⟨S8192x512, .f32⟩
  | 12 => ⟨S32x256x4x128, .f32⟩
  | 13 => ⟨S32x4x256x128, .f32⟩
  | 14 => ⟨S32x4x256x128, .f32⟩
  | 15 => ⟨S32x8x256x128, .f32⟩
  | 16 => ⟨S8192x512, .bf16⟩
  | 17 => ⟨S8192x512, .f32⟩
  | 18 => ⟨S32x256x4x128, .f32⟩
  | 19 => ⟨S32x4x256x128, .f32⟩
  | 20 => ⟨S32x4x256x128, .f32⟩
  | 21 => ⟨S32x8x256x128, .f32⟩
  | 22 => ⟨S8192x8, .f32⟩
  | 23 => ⟨S32x256x2x4, .f32⟩
  | 24 => ⟨S2x32x4x256, .f32⟩
  | 25 => ⟨S1x32x4x256, .f32⟩
  | 26 => ⟨S32x4x256, .f32⟩
  | 27 => ⟨S1x32x4x256, .f32⟩
  | 28 => ⟨S32x4x256, .f32⟩
  | 29 => ⟨S32x4x256, .f32⟩
  | 30 => ⟨S32x8x256, .f32⟩
  | 31 => ⟨S8192x8, .f32⟩
  | 32 => ⟨S32x256x2x4, .f32⟩
  | 33 => ⟨S2x32x4x256, .f32⟩
  | 34 => ⟨S1x32x4x256, .f32⟩
  | 35 => ⟨S32x4x256, .f32⟩
  | 36 => ⟨S1x32x4x256, .f32⟩
  | 37 => ⟨S32x4x256, .f32⟩
  | 38 => ⟨S32x4x256, .f32⟩
  | 39 => ⟨S32x8x256, .f32⟩
  | 40 => ⟨S_, .f32⟩
  | 41 => ⟨S32x8x128x128, .f32⟩
  | 42 => ⟨S_, .f32⟩
  | 43 => ⟨S32x8x128, .f32⟩
  | 44 => ⟨S_, .f32⟩
  | 45 => ⟨S32x8, .f32⟩
  | 46 => ⟨S_, .i1⟩
  | 47 => ⟨S64x64, .i1⟩
  | 48 => ⟨S64x64, .i32⟩
  | 49 => ⟨S_, .i32⟩
  | 50 => ⟨S64x64, .i32⟩
  | 51 => ⟨S64x64, .i32⟩
  | 52 => ⟨S64x64, .i32⟩
  | 53 => ⟨S64x64, .i1⟩
  | 54 => ⟨S_, .i1⟩
  | 55 => ⟨S64x64, .i1⟩
  | 56 => ⟨S64x64, .i1⟩
  | 57 => ⟨S32x8x4x64x128, .f32⟩
  | 58 => ⟨S4x32x8x64x128, .f32⟩
  | 59 => ⟨S32x8x4x64x128, .f32⟩
  | 60 => ⟨S4x32x8x64x128, .f32⟩
  | 61 => ⟨S32x8x4x64x128, .f32⟩
  | 62 => ⟨S4x32x8x64x128, .f32⟩
  | 63 => ⟨S32x8x4x64, .f32⟩
  | 64 => ⟨S4x32x8x64, .f32⟩
  | 65 => ⟨S32x8x4x64, .f32⟩
  | 66 => ⟨S4x32x8x64, .f32⟩
  | 67 => ⟨S_, .f32⟩
  | 68 => ⟨S4x32x8x64x128, .f32⟩
  | 69 => ⟨S_, .i32⟩
  | 70 => ⟨S4x32x8x64x128, .f32⟩
  | 71 => ⟨S4x32x8x64x128, .f32⟩
  | 72 => ⟨S4x32x8x64x128, .f32⟩
  | 73 => ⟨S4x32x8x64, .f32⟩
  | 74 => ⟨S4x32x8x64, .f32⟩
  | 75 => ⟨S64x64, .i1⟩
  | 76 => ⟨S_, .i32⟩
  | 77 => ⟨S32x8x128x128, .f32⟩
  | 78 => ⟨S32x8x128, .f32⟩
  | 79 => ⟨S32x8, .f32⟩
  | 80 => ⟨S4x32x8x64x128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x32x8x64x128, .f32⟩
  | 88 => ⟨S32x8x64x128, .f32⟩
  | 89 => ⟨S_, .i32⟩
  | 90 => ⟨S_, .i32⟩
  | 91 => ⟨S_, .i32⟩
  | 92 => ⟨S_, .i32⟩
  | 93 => ⟨S1x32x8x64x128, .f32⟩
  | 94 => ⟨S32x8x64x128, .f32⟩
  | 95 => ⟨S_, .i32⟩
  | 96 => ⟨S_, .i32⟩
  | 97 => ⟨S_, .i32⟩
  | 98 => ⟨S_, .i32⟩
  | 99 => ⟨S1x32x8x64x128, .f32⟩
  | 100 => ⟨S32x8x64x128, .f32⟩
  | 101 => ⟨S_, .i32⟩
  | 102 => ⟨S_, .i32⟩
  | 103 => ⟨S_, .i32⟩
  | 104 => ⟨S1x32x8x64, .f32⟩
  | 105 => ⟨S32x8x64, .f32⟩
  | 106 => ⟨S_, .i32⟩
  | 107 => ⟨S_, .i32⟩
  | 108 => ⟨S_, .i32⟩
  | 109 => ⟨S1x32x8x64, .f32⟩
  | 110 => ⟨S32x8x64, .f32⟩
  | 111 => ⟨S_, .f32⟩
  | 112 => ⟨S_, .f32⟩
  | 113 => ⟨S32x8x64, .f32⟩
  | 114 => ⟨S32x8x64x1, .f32⟩
  | 115 => ⟨S32x8x1x64, .f32⟩
  | 116 => ⟨S32x8x64x64, .f32⟩
  | 117 => ⟨S32x8x64x64, .f32⟩
  | 118 => ⟨S32x8x64x64, .f32⟩
  | 119 => ⟨S32x8x1x64, .f32⟩
  | 120 => ⟨S32x8x64x64, .f32⟩
  | 121 => ⟨S32x8x64x64, .f32⟩
  | 122 => ⟨S_, .f32⟩
  | 123 => ⟨S_, .f32⟩
  | 124 => ⟨S32x8x64x64, .i1⟩
  | 125 => ⟨S32x8x64x64, .f32⟩
  | 126 => ⟨S32x8x64x64, .f32⟩
  | 127 => ⟨S32x8x1, .f32⟩
  | _ => ⟨S24576x512, .bf16⟩

abbrev hbmTy0_1 (i : Nat) : BufTy := match i % 128 with
  | 0 => ⟨S32x8x64, .f32⟩
  | 1 => ⟨S32x8x64, .f32⟩
  | 2 => ⟨S_, .f32⟩
  | 3 => ⟨S32x8x64, .f32⟩
  | 4 => ⟨S32x8x64, .f32⟩
  | 5 => ⟨S32x8x64x64, .f32⟩
  | 6 => ⟨S32x8x64x1, .f32⟩
  | 7 => ⟨S32x8x64x64, .f32⟩
  | 8 => ⟨S32x8x64x64, .f32⟩
  | 9 => ⟨S32x8x64x64, .f32⟩
  | 10 => ⟨S32x8x64x64, .f32⟩
  | 11 => ⟨S32x8x64, .f32⟩
  | 12 => ⟨S32x8x64, .f32⟩
  | 13 => ⟨S32x8x64x1, .f32⟩
  | 14 => ⟨S32x8x64x128, .f32⟩
  | 15 => ⟨S32x8x64x128, .f32⟩
  | 16 => ⟨S32x8x64x128, .f32⟩
  | 17 => ⟨S32x8x64x128, .f32⟩
  | 18 => ⟨S32x8x64x128, .f32⟩
  | 19 => ⟨S32x8x64, .f32⟩
  | 20 => ⟨S32x8x64, .f32⟩
  | 21 => ⟨S_, .f32⟩
  | 22 => ⟨S32x8x64, .f32⟩
  | 23 => ⟨S32x8x64, .f32⟩
  | 24 => ⟨S32x8x64, .f32⟩
  | 25 => ⟨S32x8x64, .f32⟩
  | 26 => ⟨S32x8x64, .f32⟩
  | 27 => ⟨S32x8x64, .f32⟩
  | 28 => ⟨S32x8x64x1, .f32⟩
  | 29 => ⟨S32x8x64x128, .f32⟩
  | 30 => ⟨S32x8x64x128, .f32⟩
  | 31 => ⟨S32x8x1, .f32⟩
  | 32 => ⟨S32x8, .f32⟩
  | 33 => ⟨S32x8x1, .f32⟩
  | 34 => ⟨S32x8x64, .f32⟩
  | 35 => ⟨S32x8x64, .f32⟩
  | 36 => ⟨S32x8x64, .f32⟩
  | 37 => ⟨S32x8x1, .f32⟩
  | 38 => ⟨S32x8x64, .f32⟩
  | 39 => ⟨S32x8x64, .f32⟩
  | 40 => ⟨S32x8x64, .f32⟩
  | 41 => ⟨S32x8x1, .f32⟩
  | 42 => ⟨S32x8, .f32⟩
  | 43 => ⟨S32x8, .f32⟩
  | 44 => ⟨S32x8, .f32⟩
  | 45 => ⟨S32x8, .f32⟩
  | 46 => ⟨S32x8x1x1, .f32⟩
  | 47 => ⟨S32x8x128x128, .f32⟩
  | 48 => ⟨S32x8x128x128, .f32⟩
  | 49 => ⟨S32x8x64x1, .f32⟩
  | 50 => ⟨S32x8x64x128, .f32⟩
  | 51 => ⟨S32x8x64x128, .f32⟩
  | 52 => ⟨S32x8x128x128, .f32⟩
  | 53 => ⟨S32x8x128x128, .f32⟩
  | 54 => ⟨S32x8x1, .f32⟩
  | 55 => ⟨S32x8x128, .f32⟩
  | 56 => ⟨S32x8x128, .f32⟩
  | 57 => ⟨S32x8x128, .f32⟩
  | 58 => ⟨S32x8x128, .f32⟩
  | 59 => ⟨S1x32x8x64x128, .f32⟩
  | 60 => ⟨S_, .i32⟩
  | 61 => ⟨S_, .i32⟩
  | 62 => ⟨S_, .i32⟩
  | 63 => ⟨S_, .i32⟩
  | 64 => ⟨S4x32x8x64x128, .f32⟩
  | 65 => ⟨S_, .i32⟩
  | 66 => ⟨S_, .i32⟩
  | 67 => ⟨S32x8x4x64x128, .f32⟩
  | 68 => ⟨S32x8x256x128, .f32⟩
  | 69 => ⟨S32x8x128x1, .f32⟩
  | 70 => ⟨S32x8x128x128, .f32⟩
  | 71 => ⟨S32x8x128x256, .f32⟩
  | 72 => ⟨S32x4x256x128, .f32⟩
  | 73 => ⟨S32x256x4x128, .f32⟩
  | 74 => ⟨S8192x512, .f32⟩
  | 75 => ⟨S32x4x256x128, .f32⟩
  | 76 => ⟨S32x4x256x128, .f32⟩
  | 77 => ⟨S32x256x4x128, .f32⟩
  | 78 => ⟨S8192x512, .f32⟩
  | 79 => ⟨S32x8x1, .f32⟩
  | 80 => ⟨S32x8x128, .f32⟩
  | _ => ⟨S24576x512, .bf16⟩

abbrev hbmTy (i : Nat) : BufTy := match i / 128 with
  | 0 => hbmTy0_0 i
  | 1 => hbmTy0_1 i
  | _ => ⟨S24576x512, .bf16⟩

abbrev bufTy : (tb : Table) → Fin (tcTables nBuf tb) → BufTy
  | .hbm, ⟨i, _⟩ => hbmTy i
  | _, _ => ⟨S24576x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst : Ref sig .tc := ⟨.hbm, 40, rfl⟩
abbrev main_v36 : Ref sig .tc := ⟨.hbm, 41, rfl⟩
abbrev main_cst_0 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_call5_v0 : Ref sig .tc := ⟨.hbm, 48, rfl⟩
abbrev main_call5_c : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_call5_c_0 : Ref sig .tc := ⟨.hbm, 54, rfl⟩
abbrev main_call5_v5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_2 : Ref sig .tc := ⟨.hbm, 67, rfl⟩
abbrev main_v51 : Ref sig .tc := ⟨.hbm, 68, rfl⟩
abbrev main_c_3 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev main_v52_3 : Ref sig .tc := ⟨.hbm, 73, rfl⟩
abbrev main_v52_4 : Ref sig .tc := ⟨.hbm, 74, rfl⟩
abbrev main_v52_5 : Ref sig .tc := ⟨.hbm, 75, rfl⟩
abbrev main_v52_6 : Ref sig .tc := ⟨.hbm, 76, rfl⟩
abbrev main_v52_7 : Ref sig .tc := ⟨.hbm, 77, rfl⟩
abbrev main_v52_8 : Ref sig .tc := ⟨.hbm, 78, rfl⟩
abbrev main_v52_9 : Ref sig .tc := ⟨.hbm, 79, rfl⟩
abbrev main_v52_10 : Ref sig .tc := ⟨.hbm, 80, rfl⟩
abbrev main_while0c_c_14 : Ref sig .tc := ⟨.hbm, 81, rfl⟩
abbrev main_while0c_v67 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_call6_v0 : Ref sig .tc := ⟨.hbm, 87, rfl⟩
abbrev main_while0b_v67 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_c_2 : Ref sig .tc := ⟨.hbm, 92, rfl⟩
abbrev main_while0b_call7_v0 : Ref sig .tc := ⟨.hbm, 93, rfl⟩
abbrev main_while0b_v68 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_call8_c_2 : Ref sig .tc := ⟨.hbm, 98, rfl⟩
abbrev main_while0b_call8_v0 : Ref sig .tc := ⟨.hbm, 99, rfl⟩
abbrev main_while0b_v69 : Ref sig .tc := ⟨.hbm, 100, rfl⟩
abbrev main_while0b_call9_c : Ref sig .tc := ⟨.hbm, 101, rfl⟩
abbrev main_while0b_call9_c_0 : Ref sig .tc := ⟨.hbm, 102, rfl⟩
abbrev main_while0b_call9_c_1 : Ref sig .tc := ⟨.hbm, 103, rfl⟩
abbrev main_while0b_call9_v0 : Ref sig .tc := ⟨.hbm, 104, rfl⟩
abbrev main_while0b_v70 : Ref sig .tc := ⟨.hbm, 105, rfl⟩
abbrev main_while0b_call10_c : Ref sig .tc := ⟨.hbm, 106, rfl⟩
abbrev main_while0b_call10_c_0 : Ref sig .tc := ⟨.hbm, 107, rfl⟩
abbrev main_while0b_call10_c_1 : Ref sig .tc := ⟨.hbm, 108, rfl⟩
abbrev main_while0b_call10_v0 : Ref sig .tc := ⟨.hbm, 109, rfl⟩
abbrev main_while0b_v71 : Ref sig .tc := ⟨.hbm, 110, rfl⟩
abbrev main_while0b_call11_call0_cst : Ref sig .tc := ⟨.hbm, 111, rfl⟩
abbrev main_while0b_call11_call0_v0 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_cst_14 : Ref sig .tc := ⟨.hbm, 122, rfl⟩
abbrev main_while0b_call12_v0 : Ref sig .tc := ⟨.hbm, 123, rfl⟩
abbrev main_while0b_call12_v1 : Ref sig .tc := ⟨.hbm, 124, rfl⟩
abbrev main_while0b_call12_v2 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_cst_15 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_cst_16 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_v138 : Ref sig .tc := ⟨.hbm, 185, rfl⟩
abbrev main_while0b_v139 : Ref sig .tc := ⟨.hbm, 186, rfl⟩
abbrev main_while0b_call13_v0 : Ref sig .tc := ⟨.hbm, 187, rfl⟩
abbrev main_while0b_call13_c : Ref sig .tc := ⟨.hbm, 188, rfl⟩
abbrev main_while0b_call13_c_0 : Ref sig .tc := ⟨.hbm, 189, rfl⟩
abbrev main_while0b_call13_c_1 : Ref sig .tc := ⟨.hbm, 190, rfl⟩
abbrev main_while0b_call13_c_2 : Ref sig .tc := ⟨.hbm, 191, rfl⟩
abbrev main_while0b_v140 : Ref sig .tc := ⟨.hbm, 192, rfl⟩
abbrev main_while0b_c_17 : Ref sig .tc := ⟨.hbm, 193, rfl⟩
abbrev main_while0b_v141 : Ref sig .tc := ⟨.hbm, 194, rfl⟩
abbrev main_v53 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_v60 : Ref sig .tc := ⟨.hbm, 202, rfl⟩
abbrev main_v61 : Ref sig .tc := ⟨.hbm, 203, rfl⟩
abbrev main_v62 : Ref sig .tc := ⟨.hbm, 204, rfl⟩
abbrev main_v63 : Ref sig .tc := ⟨.hbm, 205, rfl⟩
abbrev main_v64 : Ref sig .tc := ⟨.hbm, 206, rfl⟩
abbrev main_v65 : Ref sig .tc := ⟨.hbm, 207, rfl⟩
abbrev main_v66 : Ref sig .tc := ⟨.hbm, 208, rfl⟩

abbrev nD : Nat := 1
abbrev τ : Topo := Topo.v7x

variable {F : FTy → Type} [FloatOps F]

abbrev main_while0_count : Scf.Loop 32 := ⟨0#32, 4#32, 1#32⟩
-- ==== Kernel2.lean ====
abbrev S8192x1024 : Shape := ⟨2, ![8192, 1024]⟩
abbrev S16384x1024 : Shape := ⟨2, ![16384, 1024]⟩
abbrev S8x6144 : Shape := ⟨2, ![8, 6144]⟩
abbrev S1024 : Shape := ⟨1, ![1024]⟩
abbrev S1024x3600 : Shape := ⟨2, ![1024, 3600]⟩
abbrev S2x4 : Shape := ⟨2, ![2, 4]⟩
abbrev S3x512 : Shape := ⟨2, ![3, 512]⟩
abbrev S512 : Shape := ⟨1, ![512]⟩
abbrev S1024x3584 : Shape := ⟨2, ![1024, 3584]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x128 : Shape := ⟨2, ![1, 128]⟩
abbrev S8 : Shape := ⟨1, ![8]⟩
abbrev S16 : Shape := ⟨1, ![16]⟩
abbrev S2 : Shape := ⟨1, ![2]⟩
abbrev S1x1024 : Shape := ⟨2, ![1, 1024]⟩
abbrev S128x1024 : Shape := ⟨2, ![128, 1024]⟩
abbrev S128x1 : Shape := ⟨2, ![128, 1]⟩
abbrev S1x512 : Shape := ⟨2, ![1, 512]⟩
abbrev S24576x512 : Shape := ⟨2, ![24576, 512]⟩
abbrev S24576x128 : Shape := ⟨2, ![24576, 128]⟩
abbrev S128x24576 : Shape := ⟨2, ![128, 24576]⟩
abbrev S512x1024 : Shape := ⟨2, ![512, 1024]⟩
abbrev S512x512 : Shape := ⟨2, ![512, 512]⟩
abbrev S512x128 : Shape := ⟨2, ![512, 128]⟩
abbrev S128x512 : Shape := ⟨2, ![128, 512]⟩
abbrev S512x1 : Shape := ⟨2, ![512, 1]⟩
abbrev S1024x512 : Shape := ⟨2, ![1024, 512]⟩

abbrev nBuf : Space → Nat
  | .hbm => 40
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S8x6144, .f32⟩
  | .hbm, ⟨3, _⟩ => ⟨S1024, .f32⟩
  | .hbm, ⟨4, _⟩ => ⟨S1024x3600, .f32⟩
  | .hbm, ⟨5, _⟩ => ⟨S2x4, .f32⟩
  | .hbm, ⟨6, _⟩ => ⟨S2x4, .f32⟩
  | .hbm, ⟨7, _⟩ => ⟨S3x512, .f32⟩
  | .hbm, ⟨8, _⟩ => ⟨S512, .f32⟩
  | .hbm, ⟨9, _⟩ => ⟨S1024x3584, .f32⟩
  | .hbm, ⟨10, _⟩ => ⟨S1024x3584, .bf16⟩
  | .hbm, ⟨11, _⟩ => ⟨S_, .f32⟩
  | .hbm, ⟨12, _⟩ => ⟨S1024x128, .f32⟩
  | .hbm, ⟨13, _⟩ => ⟨S1024x16, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S1x128, .f32⟩
  | .hbm, ⟨20, _⟩ => ⟨S8, .f32⟩
  | .hbm, ⟨21, _⟩ => ⟨S8, .f32⟩
  | .hbm, ⟨22, _⟩ => ⟨S16, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S1x1024, .f32⟩
  | .hbm, ⟨30, _⟩ => ⟨S128x1024, .bf16⟩
  | .hbm, ⟨31, _⟩ => ⟨S128x1, .f32⟩
  | .hbm, ⟨32, _⟩ => ⟨S1x512, .f32⟩
  | .hbm, ⟨33, _⟩ => ⟨S24576x512, .bf16⟩
  | .hbm, ⟨34, _⟩ => ⟨S24576x512, .bf16⟩
  | .hbm, ⟨35, _⟩ => ⟨S24576x512, .bf16⟩
  | .hbm, ⟨36, _⟩ => ⟨S24576x512, .bf16⟩
  | .hbm, ⟨37, _⟩ => ⟨S24576x512, .f32⟩
  | .hbm, ⟨38, _⟩ => ⟨S24576x128, .f32⟩
  | .hbm, ⟨39, _⟩ => ⟨S128x24576, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S1x1024, .f32⟩
  | .local _ .vmem, ⟨6, _⟩ => ⟨S1024x3584, .bf16⟩
  | .local _ .vmem, ⟨7, _⟩ => ⟨S1024x128, .bf16⟩
  | .local _ .vmem, ⟨8, _⟩ => ⟨S128x1024, .bf16⟩
  | .local _ .vmem, ⟨9, _⟩ => ⟨S1x128, .f32⟩
  | .local _ .vmem, ⟨10, _⟩ => ⟨S128x1, .f32⟩
  | .local _ .vmem, ⟨11, _⟩ => ⟨S3x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | .local _ .vmem, ⟨25, _⟩ => ⟨S128x512, .f32⟩
  | .local _ .vmem, ⟨26, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev main_v19_5 : Ref sig .tc := ⟨.hbm, 38, rfl⟩
abbrev main_v19_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![48], ![false]⟩

def k0_off1 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v21 : Index := Scalar.indexCast v20
  let c0 : Index := 0#32
  ![v21.toNat, 0]
def k0_off2 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v23 : Index := Scalar.indexCast v20
  let c1024 : Index := 1024#32
  ![v23.toNat, 1024]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S8192x1024 : Shape := ⟨2, ![8192, 1024]⟩
abbrev S16384x1024 : Shape := ⟨2, ![16384, 1024]⟩
abbrev S8x6144 : Shape := ⟨2, ![8, 6144]⟩
abbrev S1024 : Shape := ⟨1, ![1024]⟩
abbrev S1024x3600 : Shape := ⟨2, ![1024, 3600]⟩
abbrev S2x4 : Shape := ⟨2, ![2, 4]⟩
abbrev S3x512 : Shape := ⟨2, ![3, 512]⟩
abbrev S512 : Shape := ⟨1, ![512]⟩
abbrev S32x256x1024 : Shape := ⟨3, ![32, 256, 1024]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3600 : Shape := ⟨3, ![32, 256, 3600]⟩
abbrev S32x256x512 : Shape := ⟨3, ![32, 256, 512]⟩
abbrev S32x256x8 : Shape := ⟨3, ![32, 256, 8]⟩
abbrev S32x258x512 : Shape := ⟨3, ![32, 258, 512]⟩
abbrev S1x512 : Shape := ⟨2, ![1, 512]⟩
abbrev S1x1x512 : Shape := ⟨3, ![1, 1, 512]⟩
abbrev S32x256x2x4 : Shape := ⟨4, ![32, 256, 2, 4]⟩
abbrev S1x1x2x4 : Shape := ⟨4, ![1, 1, 2, 4]⟩
abbrev S8192x512 : Shape := ⟨2, ![8192, 512]⟩
abbrev S8192x8 : Shape := ⟨2, ![8192, 8]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S4x4096x3600 : Shape := ⟨3, ![4, 4096, 3600]⟩
abbrev S4x4096x512 : Shape := ⟨3, ![4, 4096, 512]⟩
abbrev S4x4096x8 : Shape := ⟨3, ![4, 4096, 8]⟩
abbrev S256x64x512 : Shape := ⟨3, ![256, 64, 512]⟩
abbrev S256x66x512 : Shape := ⟨3, ![256, 66, 512]⟩
abbrev S4x4096x2x4 : Shape := ⟨4, ![4, 4096, 2, 4]⟩
abbrev S16384x512 : Shape := ⟨2, ![16384, 512]⟩
abbrev S16384x8 : Shape := ⟨2, ![16384, 8]⟩
abbrev S24576x512 : Shape := ⟨2, ![24576, 512]⟩
abbrev S24576x8 : Shape := ⟨2, ![24576, 8]⟩
abbrev S24576x112 : Shape := ⟨2, ![24576, 112]⟩
abbrev S24576x128 : Shape := ⟨2, ![24576, 128]⟩
abbrev S128x24576 : Shape := ⟨2, ![128, 24576]⟩

abbrev nBuf : Space → Nat
  | .hbm => 250
  | .vmem => 0
  | .smem => 0
  | _ => 0

abbrev hbmTy0_0 (i : Nat) : BufTy := match i % 128 with
  | 0 => ⟨S8192x1024, .f32⟩
  | 1 => ⟨S16384x1024, .f32⟩
  | 2 => ⟨S8x6144, .f32⟩
  | 3 => ⟨S1024, .f32⟩
  | 4 => ⟨S1024x3600, .f32⟩
  | 5 => ⟨S2x4, .f32⟩
  | 6 => ⟨S2x4, .f32⟩
  | 7 => ⟨S3x512, .f32⟩
  | 8 => ⟨S512, .f32⟩
  | 9 => ⟨S32x256x1024, .f32⟩
  | 10 => ⟨S1x6144, .f32⟩
  | 11 => ⟨S1x1x6144, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S32x256x1024, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S_, .f32⟩
  | 26 => ⟨S32x256x1, .f32⟩
  | 27 => ⟨S32x256x1, .f32⟩
  | 28 => ⟨S32x256x1, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S_, .f32⟩
  | 35 => ⟨S1x1x1024, .f32⟩
  | 36 => ⟨S1x1x1024, .f32⟩
  | 37 => ⟨S32x256x1024, .f32⟩
  | 38 => ⟨S32x256x1024, .f32⟩
  | 39 => ⟨S32x256x1024, .f32⟩
  | 40 => ⟨S32x256x1024, .f32⟩
  | 41 => ⟨S32x256x3600, .f32⟩
  | 42 => ⟨S32x256x512, .f32⟩
  | 43 => ⟨S32x256x512, .f32⟩
  | 44 => ⟨S32x256x512, .f32⟩
  | 45 => ⟨S32x256x512, .f32⟩
  | 46 => ⟨S32x256x512, .f32⟩
  | 47 => ⟨S32x256x512, .f32⟩
  | 48 => ⟨S32x256x512, .f32⟩
  | 49 => ⟨S32x256x8, .f32⟩
  | 50 => ⟨S32x256x8, .f32⟩
  | 51 => ⟨S32x256x512, .f32⟩
  | 52 => ⟨S_, .i32⟩
  | 53 => ⟨S_, .f32⟩
  | 54 => ⟨S32x258x512, .f32⟩
  | 55 => ⟨S32x256x512, .f32⟩
  | 56 => ⟨S1x512, .f32⟩
  | 57 => ⟨S512, .f32⟩
  | 58 => ⟨S1x1x512, .f32⟩
  | 59 => ⟨S32x256x512, .f32⟩
  | 60 => ⟨S32x256x512, .f32⟩
  | 61 => ⟨S32x256x512, .f32⟩
  | 62 => ⟨S1x512, .f32⟩
  | 63 => ⟨S512, .f32⟩
  | 64 => ⟨S1x1x512, .f32⟩
  | 65 => ⟨S32x256x512, .f32⟩
  | 66 => ⟨S32x256x512, .f32⟩
  | 67 => ⟨S32x256x512, .f32⟩
  | 68 => ⟨S32x256x512, .f32⟩
  | 69 => ⟨S1x512, .f32⟩
  | 70 => ⟨S512, .f32⟩
  | 71 => ⟨S1x1x512, .f32⟩
  | 72 => ⟨S32x256x512, .f32⟩
  | 73 => ⟨S32x256x512, .f32⟩
  | 74 => ⟨S32x256x512, .f32⟩
  | 75 => ⟨S1x1x512, .f32⟩
  | 76 => ⟨S32x256x512, .f32⟩
  | 77 => ⟨S32x256x512, .f32⟩
  | 78 => ⟨S32x256x512, .f32⟩
  | 79 => ⟨S_, .f32⟩
  | 80 => ⟨S32x256x512, .f32⟩
  | 81 => ⟨S32x256x512, .f32⟩
  | 82 => ⟨S32x256x2x4, .f32⟩
  | 83 => ⟨S1x1x2x4, .f32⟩
  | 84 => ⟨S32x256x2x4, .f32⟩
  | 85 => ⟨S32x256x2x4, .f32⟩
  | 86 => ⟨S32x256x2x4, .f32⟩
  | 87 => ⟨S1x1x2x4, .f32⟩
  | 88 => ⟨S32x256x2x4, .f32⟩
  | 89 => ⟨S32x256x2x4, .f32⟩
  | 90 => ⟨S32x256x2x4, .f32⟩
  | 91 => ⟨S_, .f32⟩
  | 92 => ⟨S32x256x2x4, .f32⟩
  | 93 => ⟨S32x256x2x4, .f32⟩
  | 94 => ⟨S32x256x2x4, .f32⟩
  | 95 => ⟨S32x256x2x4, .f32⟩
  | 96 => ⟨S32x256x2x4, .i1⟩
  | 97 => ⟨S32x256x2x4, .f32⟩
  | 98 => ⟨S32x256x2x4, .f32⟩
  | 99 => ⟨S32x256x2x4, .f32⟩
  | 100 => ⟨S32x256x2x4, .f32⟩
  | 101 => ⟨S32x256x2x4, .f32⟩
  | 102 => ⟨S32x256x2x4, .f32⟩
  | 103 => ⟨S32x256x2x4, .f32⟩
  | 104 => ⟨S32x256x2x4, .f32⟩
  | 105 => ⟨S32x256x2x4, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x8, .f32⟩
  | 112 => ⟨S8192x8, .f32⟩
  | 113 => ⟨S4x4096x1024, .f32⟩
  | 114 => ⟨S4x6144, .f32⟩
  | 115 => ⟨S4x1x6144, .f32⟩
  | 116 => ⟨S4x1x1024, .f32⟩
  | 117 => ⟨S4x1x1024, .f32⟩
  | 118 => ⟨S4x1x1024, .f32⟩
  | 119 => ⟨S4x1x1024, .f32⟩
  | 120 => ⟨S4x1x1024, .f32⟩
  | 121 => ⟨S4x1x1024, .f32⟩
  | 122 => ⟨S4x4096x1024, .f32⟩
  | 123 => ⟨S_, .f32⟩
  | 124 => ⟨S4x4096, .f32⟩
  | 125 => ⟨S4x4096x1, .f32⟩
  | 126 => ⟨S_, .f32⟩
  | 127 => ⟨S4x4096x1, .f32⟩
  | _ => ⟨S8192x1024, .f32⟩

abbrev hbmTy0_1 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x1, .f32⟩
  | 5 => ⟨S4x4096x1024, .f32⟩
  | 6 => ⟨S4x4096x1024, .f32⟩
  | 7 => ⟨S1x1x1024, .f32⟩
  | 8 => ⟨S4x4096x1024, .f32⟩
  | 9 => ⟨S4x4096x1024, .f32⟩
  | 10 => ⟨S_, .f32⟩
  | 11 => ⟨S4x1x1024, .f32⟩
  | 12 => ⟨S4x1x1024, .f32⟩
  | 13 => ⟨S4x4096x1024, .f32⟩
  | 14 => ⟨S4x4096x1024, .f32⟩
  | 15 => ⟨S4x4096x1024, .f32⟩
  | 16 => ⟨S4x4096x1024, .f32⟩
  | 17 => ⟨S4x4096x3600, .f32⟩
  | 18 => ⟨S4x4096x512, .f32⟩
  | 19 => ⟨S4x4096x512, .f32⟩
  | 20 => ⟨S4x4096x512, .f32⟩
  | 21 => ⟨S4x4096x512, .f32⟩
  | 22 => ⟨S4x4096x512, .f32⟩
  | 23 => ⟨S4x4096x512, .f32⟩
  | 24 => ⟨S4x4096x512, .f32⟩
  | 25 => ⟨S4x4096x8, .f32⟩
  | 26 => ⟨S4x4096x8, .f32⟩
  | 27 => ⟨S4x4096x512, .f32⟩
  | 28 => ⟨S256x64x512, .f32⟩
  | 29 => ⟨S_, .i32⟩
  | 30 => ⟨S_, .f32⟩
  | 31 => ⟨S256x66x512, .f32⟩
  | 32 => ⟨S256x64x512, .f32⟩
  | 33 => ⟨S1x512, .f32⟩
  | 34 => ⟨S512, .f32⟩
  | 35 => ⟨S1x1x512, .f32⟩
  | 36 => ⟨S256x64x512, .f32⟩
  | 37 => ⟨S256x64x512, .f32⟩
  | 38 => ⟨S256x64x512, .f32⟩
  | 39 => ⟨S1x512, .f32⟩
  | 40 => ⟨S512, .f32⟩
  | 41 => ⟨S1x1x512, .f32⟩
  | 42 => ⟨S256x64x512, .f32⟩
  | 43 => ⟨S256x64x512, .f32⟩
  | 44 => ⟨S256x64x512, .f32⟩
  | 45 => ⟨S256x64x512, .f32⟩
  | 46 => ⟨S1x512, .f32⟩
  | 47 => ⟨S512, .f32⟩
  | 48 => ⟨S1x1x512, .f32⟩
  | 49 => ⟨S256x64x512, .f32⟩
  | 50 => ⟨S256x64x512, .f32⟩
  | 51 => ⟨S256x64x512, .f32⟩
  | 52 => ⟨S1x1x512, .f32⟩
  | 53 => ⟨S256x64x512, .f32⟩
  | 54 => ⟨S256x64x512, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S4x4096x2x4, .f32⟩
  | 61 => ⟨S1x1x2x4, .f32⟩
  | 62 => ⟨S4x4096x2x4, .f32⟩
  | 63 => ⟨S4x4096x2x4, .f32⟩
  | 64 => ⟨S4x4096x2x4, .f32⟩
  | 65 => ⟨S1x1x2x4, .f32⟩
  | 66 => ⟨S4x4096x2x4, .f32⟩
  | 67 => ⟨S4x4096x2x4, .f32⟩
  | 68 => ⟨S4x4096x2x4, .f32⟩
  | 69 => ⟨S_, .f32⟩
  | 70 => ⟨S4x4096x2x4, .f32⟩
  | 71 => ⟨S4x4096x2x4, .f32⟩
  | 72 => ⟨S4x4096x2x4, .f32⟩
  | 73 => ⟨S4x4096x2x4, .f32⟩
  | 74 => ⟨S4x4096x2x4, .i1⟩
  | 75 => ⟨S4x4096x2x4, .f32⟩
  | 76 => ⟨S4x4096x2x4, .f32⟩
  | 77 => ⟨S4x4096x2x4, .f32⟩
  | 78 => ⟨S4x4096x2x4, .f32⟩
  | 79 => ⟨S4x4096x2x4, .f32⟩
  | 80 => ⟨S4x4096x2x4, .f32⟩
  | 81 => ⟨S4x4096x2x4, .f32⟩
  | 82 => ⟨S4x4096x2x4, .f32⟩
  | 83 => ⟨S4x4096x2x4, .f32⟩
  | 84 => ⟨S16384x512, .f32⟩
  | 85 => ⟨S16384x512, .f32⟩
  | 86 => ⟨S16384x512, .f32⟩
  | 87 => ⟨S16384x512, .f32⟩
  | 88 => ⟨S16384x512, .f32⟩
  | 89 => ⟨S16384x8, .f32⟩
  | 90 => ⟨S16384x8, .f32⟩
  | 91 => ⟨S24576x512, .f32⟩
  | 92 => ⟨S24576x512, .f32⟩
  | 93 => ⟨S24576x512, .f32⟩
  | 94 => ⟨S24576x512, .f32⟩
  | 95 => ⟨S24576x512, .f32⟩
  | 96 => ⟨S24576x8, .f32⟩
  | 97 => ⟨S24576x8, .f32⟩
  | 98 => ⟨S_, .f32⟩
  | 99 => ⟨S24576x112, .f32⟩
  | 100 => ⟨S24576x112, .f32⟩
  | 101 => ⟨S_, .f32⟩
  | 102 => ⟨S24576x112, .f32⟩
  | 103 => ⟨S24576x112, .f32⟩
  | 104 => ⟨S24576x112, .f32⟩
  | 105 => ⟨S24576x112, .f32⟩
  | 106 => ⟨S24576x112, .i1⟩
  | 107 => ⟨S24576x112, .f32⟩
  | 108 => ⟨S24576x112, .f32⟩
  | 109 => ⟨S24576x112, .f32⟩
  | 110 => ⟨S24576x112, .f32⟩
  | 111 => ⟨S24576x112, .f32⟩
  | 112 => ⟨S24576x112, .f32⟩
  | 113 => ⟨S24576x112, .f32⟩
  | 114 => ⟨S24576x112, .f32⟩
  | 115 => ⟨S24576x112, .f32⟩
  | 116 => ⟨S24576x128, .f32⟩
  | 117 => ⟨S24576x512, .bf16⟩
  | 118 => ⟨S24576x512, .bf16⟩
  | 119 => ⟨S24576x512, .bf16⟩
  | 120 => ⟨S24576x512, .bf16⟩
  | 121 => ⟨S128x24576, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call1_v0 : Ref sig .tc := ⟨.hbm, 90, rfl⟩
abbrev main_call1_call0_cst : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_call0_v2 : Ref sig .tc := ⟨.hbm, 94, rfl⟩
abbrev main_call1_call0_v3 : Ref sig .tc := ⟨.hbm, 95, rfl⟩
abbrev main_call1_call0_v4 : Ref sig .tc := ⟨.hbm, 96, rfl⟩
abbrev main_call1_call0_v5 : Ref sig .tc := ⟨.hbm, 97, rfl⟩
abbrev main_call1_call0_v6 : Ref sig .tc := ⟨.hbm, 98, rfl⟩
abbrev main_call1_call0_v7 : Ref sig .tc := ⟨.hbm, 99, rfl⟩
abbrev main_call1_call0_v8 : Ref sig .tc := ⟨.hbm, 100, rfl⟩
abbrev main_call1_call0_v9 : Ref sig .tc := ⟨.hbm, 101, rfl⟩
abbrev main_call1_call0_v10 : Ref sig .tc := ⟨.hbm, 102, rfl⟩
abbrev main_call1_call0_v11 : Ref sig .tc := ⟨.hbm, 103, rfl⟩
abbrev main_call1_v1 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_4 : Ref sig .tc := ⟨.hbm, 123, rfl⟩
abbrev main_v92 : Ref sig .tc := ⟨.hbm, 124, rfl⟩
abbrev main_v93 : Ref sig .tc := ⟨.hbm, 125, rfl⟩
abbrev main_cst_5 : Ref sig .tc := ⟨.hbm, 126, rfl⟩
abbrev main_v94 : Ref sig .tc := ⟨.hbm, 127, rfl⟩
abbrev main_v95 : Ref sig .tc := ⟨.hbm, 128, rfl⟩
abbrev main_cst_6 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_7 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_c_8 : Ref sig .tc := ⟨.hbm, 157, rfl⟩
abbrev main_call2_v0 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_9 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_call3_v0 : Ref sig .tc := ⟨.hbm, 196, rfl⟩
abbrev main_call3_call0_cst : Ref sig .tc := ⟨.hbm, 197, rfl⟩
abbrev main_call3_call0_v0 : Ref sig .tc := ⟨.hbm, 198, rfl⟩
abbrev main_call3_call0_v1 : Ref sig .tc := ⟨.hbm, 199, rfl⟩
abbrev main_call3_call0_v2 : Ref sig .tc := ⟨.hbm, 200, rfl⟩
abbrev main_call3_call0_v3 : Ref sig .tc := ⟨.hbm, 201, rfl⟩
abbrev main_call3_call0_v4 : Ref sig .tc := ⟨.hbm, 202, rfl⟩
abbrev main_call3_call0_v5 : Ref sig .tc := ⟨.hbm, 203, rfl⟩
abbrev main_call3_call0_v6 : Ref sig .tc := ⟨.hbm, 204, rfl⟩
abbrev main_call3_call0_v7 : Ref sig .tc := ⟨.hbm, 205, rfl⟩
abbrev main_call3_call0_v8 : Ref sig .tc := ⟨.hbm, 206, rfl⟩
abbrev main_call3_call0_v9 : Ref sig .tc := ⟨.hbm, 207, rfl⟩
abbrev main_call3_call0_v10 : Ref sig .tc := ⟨.hbm, 208, rfl⟩
abbrev main_call3_call0_v11 : Ref sig .tc := ⟨.hbm, 209, rfl⟩
abbrev main_call3_v1 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_10 : Ref sig .tc := ⟨.hbm, 226, rfl⟩
abbrev main_v173 : Ref sig .tc := ⟨.hbm, 227, rfl⟩
abbrev main_call4_v0 : Ref sig .tc := ⟨.hbm, 228, rfl⟩
abbrev main_call4_call0_cst : Ref sig .tc := ⟨.hbm, 229, rfl⟩
abbrev main_call4_call0_v0 : Ref sig .tc := ⟨.hbm, 230, rfl⟩
abbrev main_call4_call0_v1 : Ref sig .tc := ⟨.hbm, 231, rfl⟩
abbrev main_call4_call0_v2 : Ref sig .tc := ⟨.hbm, 232, rfl⟩
abbrev main_call4_call0_v3 : Ref sig .tc := ⟨.hbm, 233, rfl⟩
abbrev main_call4_call0_v4 : Ref sig .tc := ⟨.hbm, 234, rfl⟩
abbrev main_call4_call0_v5 : Ref sig .tc := ⟨.hbm, 235, rfl⟩
abbrev main_call4_call0_v6 : Ref sig .tc := ⟨.hbm, 236, rfl⟩
abbrev main_call4_call0_v7 : Ref sig .tc := ⟨.hbm, 237, rfl⟩
abbrev main_call4_call0_v8 : Ref sig .tc := ⟨.hbm, 238, rfl⟩
abbrev main_call4_call0_v9 : Ref sig .tc := ⟨.hbm, 239, rfl⟩
abbrev main_call4_call0_v10 : Ref sig .tc := ⟨.hbm, 240, rfl⟩
abbrev main_call4_call0_v11 : Ref sig .tc := ⟨.hbm, 241, rfl⟩
abbrev main_call4_v1 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩

abbrev nD : Nat := 1
abbrev τ : Topo := Topo.v7x

variable {F : FTy → Type} [FloatOps F]
-- ==== Kernel3.lean ====
abbrev S8192x1024 : Shape := ⟨2, ![8192, 1024]⟩
abbrev S16384x1024 : Shape := ⟨2, ![16384, 1024]⟩
abbrev S24576x512 : Shape := ⟨2, ![24576, 512]⟩
abbrev S8192x512 : Shape := ⟨2, ![8192, 512]⟩
abbrev S16384x512 : Shape := ⟨2, ![16384, 512]⟩
abbrev S8x6144 : Shape := ⟨2, ![8, 6144]⟩
abbrev S4x128 : Shape := ⟨2, ![4, 128]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S1x512 : Shape := ⟨2, ![1, 512]⟩
abbrev S1x1024 : Shape := ⟨2, ![1, 1024]⟩
abbrev S1x128x128 : Shape := ⟨3, ![1, 128, 128]⟩
abbrev S2x128x128 : Shape := ⟨3, ![2, 128, 128]⟩
abbrev S1024x8x2x128 : Shape := ⟨4, ![1024, 8, 2, 128]⟩
abbrev S2x1024x8x128 : Shape := ⟨4, ![2, 1024, 8, 128]⟩
abbrev S8x2x128x1024 : Shape := ⟨4, ![8, 2, 128, 1024]⟩
abbrev S2048x1024 : Shape := ⟨2, ![2048, 1024]⟩
abbrev S24576x1024 : Shape := ⟨2, ![24576, 1024]⟩
abbrev S1024x24576 : Shape := ⟨2, ![1024, 24576]⟩
abbrev S16x128x24576 : Shape := ⟨3, ![16, 128, 24576]⟩
abbrev S512x1024 : Shape := ⟨2, ![512, 1024]⟩
abbrev S512x512 : Shape := ⟨2, ![512, 512]⟩
abbrev S1024x512 : Shape := ⟨2, ![1024, 512]⟩
abbrev S16x128x512 : Shape := ⟨3, ![16, 128, 512]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩

abbrev nBuf : Space → Nat
  | .hbm => 29
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S24576x512, .bf16⟩
  | .hbm, ⟨3, _⟩ => ⟨S8192x512, .f32⟩
  | .hbm, ⟨4, _⟩ => ⟨S16384x512, .f32⟩
  | .hbm, ⟨5, _⟩ => ⟨S8192x512, .f32⟩
  | .hbm, ⟨6, _⟩ => ⟨S16384x512, .f32⟩
  | .hbm, ⟨7, _⟩ => ⟨S24576x512, .f32⟩
  | .hbm, ⟨8, _⟩ => ⟨S8x6144, .f32⟩
  | .hbm, ⟨9, _⟩ => ⟨S4x128, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S128x128, .f32⟩
  | .hbm, ⟨14, _⟩ => ⟨S128x128, .f32⟩
  | .hbm, ⟨15, _⟩ => ⟨S1x512, .f32⟩
  | .hbm, ⟨16, _⟩ => ⟨S1024x1024, .bf16⟩
  | .hbm, ⟨17, _⟩ => ⟨S1x1024, .f32⟩
  | .hbm, ⟨18, _⟩ => ⟨S1x128x128, .f32⟩
  | .hbm, ⟨19, _⟩ => ⟨S1x128x128, .f32⟩
  | .hbm, ⟨20, _⟩ => ⟨S2x128x128, .f32⟩
  | .hbm, ⟨21, _⟩ => ⟨S1024x8x2x128, .f32⟩
  | .hbm, ⟨22, _⟩ => ⟨S2x1024x8x128, .f32⟩
  | .hbm, ⟨23, _⟩ => ⟨S8x2x128x1024, .f32⟩
  | .hbm, ⟨24, _⟩ => ⟨S2048x1024, .f32⟩
  | .hbm, ⟨25, _⟩ => ⟨S2048x1024, .bf16⟩
  | .hbm, ⟨26, _⟩ => ⟨S24576x1024, .f32⟩
  | .hbm, ⟨27, _⟩ => ⟨S1024x24576, .bf16⟩
  | .hbm, ⟨28, _⟩ => ⟨S16x128x24576, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x6144, .f32⟩
  | .local _ .vmem, ⟨17, _⟩ => ⟨S1x512, .f32⟩
  | .local _ .vmem, ⟨18, _⟩ => ⟨S1024x1024, .bf16⟩
  | .local _ .vmem, ⟨19, _⟩ => ⟨S1x1024, .f32⟩
  | .local _ .vmem, ⟨20, _⟩ => ⟨S2048x1024, .bf16⟩
  | .local _ .vmem, ⟨21, _⟩ => ⟨S512x1024, .f32⟩
  | .local _ .vmem, ⟨22, _⟩ => ⟨S512x1024, .f32⟩
  | .local _ .vmem, ⟨23, _⟩ => ⟨S1024x512, .bf16⟩
  | .local _ .vmem, ⟨24, _⟩ => ⟨S1024x512, .bf16⟩
  | .local _ .vmem, ⟨25, _⟩ => ⟨S16x128x512, .f32⟩
  | .local _ .vmem, ⟨26, _⟩ => ⟨S16x128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![48], ![false]⟩

def k0_off1 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v98 : Index := Scalar.indexCast v20
  let c2048 : Index := 2048#32
  ![v98.toNat, 2048]
def k0_off2 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v118 : Index := Scalar.indexCast v20
  let c4096 : Index := 4096#32
  ![v118.toNat, 4096]
def k0_off3 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v124 : Index := Scalar.indexCast v20
  let c3072 : Index := 3072#32
  ![v124.toNat, 3072]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8192x1024 : Shape := ⟨2, ![8192, 1024]⟩
abbrev S16384x1024 : Shape := ⟨2, ![16384, 1024]⟩
abbrev S24576x512 : Shape := ⟨2, ![24576, 512]⟩
abbrev S8192x512 : Shape := ⟨2, ![8192, 512]⟩
abbrev S16384x512 : Shape := ⟨2, ![16384, 512]⟩
abbrev S8x6144 : Shape := ⟨2, ![8, 6144]⟩
abbrev S4x128 : Shape := ⟨2, ![4, 128]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S32x256x1024 : Shape := ⟨3, ![32, 256, 1024]⟩
abbrev S1x6144 : Shape := ⟨2, ![1, 6144]⟩
abbrev S1x1x6144 : Shape := ⟨3, ![1, 1, 6144]⟩
abbrev S1x1x1024 : Shape := ⟨3, ![1, 1, 1024]⟩
abbrev S32x256x4x128 : Shape := ⟨4, ![32, 256, 4, 128]⟩
abbrev S_ : Shape := ⟨0, ![]⟩
abbrev S32x256x4 : Shape := ⟨3, ![32, 256, 4]⟩
abbrev S32x256x4x1 : Shape := ⟨4, ![32, 256, 4, 1]⟩
abbrev S1x1x4x128 : Shape := ⟨4, ![1, 1, 4, 128]⟩
abbrev S32x256x512 : Shape := ⟨3, ![32, 256, 512]⟩
abbrev S32x256 : Shape := ⟨2, ![32, 256]⟩
abbrev S32x256x1 : Shape := ⟨3, ![32, 256, 1]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S4x4096x512 : Shape := ⟨3, ![4, 4096, 512]⟩
abbrev S4x4096 : Shape := ⟨2, ![4, 4096]⟩
abbrev S4x4096x1 : Shape := ⟨3, ![4, 4096, 1]⟩
abbrev S24576x1024 : Shape := ⟨2, ![24576, 1024]⟩
abbrev S24576x2048 : Shape := ⟨2, ![24576, 2048]⟩
abbrev S24576x8x256 : Shape := ⟨3, ![24576, 8, 256]⟩
abbrev S24576x8x128 : Shape := ⟨3, ![24576, 8, 128]⟩
abbrev S24576x8x1x128 : Shape := ⟨4, ![24576, 8, 1, 128]⟩
abbrev S24576x8x2x128 : Shape := ⟨4, ![24576, 8, 2, 128]⟩
abbrev S24576x16x128 : Shape := ⟨3, ![24576, 16, 128]⟩
abbrev S1024x24576 : Shape := ⟨2, ![1024, 24576]⟩
abbrev S16x128x24576 : Shape := ⟨3, ![16, 128, 24576]⟩

abbrev nBuf : Space → Nat
  | .hbm => 173
  | .vmem => 0
  | .smem => 0
  | _ => 0

abbrev hbmTy0_0 (i : Nat) : BufTy := match i % 128 with
  | 0 => ⟨S8192x1024, .f32⟩
  | 1 => ⟨S16384x1024, .f32⟩
  | 2 => ⟨S24576x512, .bf16⟩
  | 3 => ⟨S8192x512, .f32⟩
  | 4 => ⟨S16384x512, .f32⟩
  | 5 => ⟨S8192x512, .f32⟩
  | 6 => ⟨S16384x512, .f32⟩
  | 7 => ⟨S24576x512, .f32⟩
  | 8 => ⟨S8x6144, .f32⟩
  | 9 => ⟨S4x128, .f32⟩
  | 10 => ⟨S1024x1024, .f32⟩
  | 11 => ⟨S1024, .f32⟩
  | 12 => ⟨S1024x2048, .f32⟩
  | 13 => ⟨S128x128, .f32⟩
  | 14 => ⟨S128x128, .f32⟩
  | 15 => ⟨S24576x512, .f32⟩
  | 16 => ⟨S32x256x1024, .f32⟩
  | 17 => ⟨S8192x512, .f32⟩
  | 18 => ⟨S8192x512, .f32⟩
  | 19 => ⟨S1x6144, .f32⟩
  | 20 => ⟨S1x1x6144, .f32⟩
  | 21 => ⟨S1x1x1024, .f32⟩
  | 22 => ⟨S1x1x1024, .f32⟩
  | 23 => ⟨S1x1x1024, .f32⟩
  | 24 => ⟨S1x1x1024, .f32⟩
  | 25 => ⟨S1x1x1024, .f32⟩
  | 26 => ⟨S1x1x1024, .f32⟩
  | 27 => ⟨S8192x512, .f32⟩
  | 28 => ⟨S32x256x4x128, .f32⟩
  | 29 => ⟨S32x256x4x128, .f32⟩
  | 30 => ⟨S_, .f32⟩
  | 31 => ⟨S32x256x4, .f32⟩
  | 32 => ⟨S32x256x4x1, .f32⟩
  | 33 => ⟨S_, .f32⟩
  | 34 => ⟨S32x256x4x1, .f32⟩
  | 35 => ⟨S32x256x4x1, .f32⟩
  | 36 => ⟨S_, .f32⟩
  | 37 => ⟨S32x256x4x1, .f32⟩
  | 38 => ⟨S32x256x4x1, .f32⟩
  | 39 => ⟨S32x256x4x1, .f32⟩
  | 40 => ⟨S32x256x4x128, .f32⟩
  | 41 => ⟨S32x256x4x128, .f32⟩
  | 42 => ⟨S1x1x4x128, .f32⟩
  | 43 => ⟨S32x256x4x128, .f32⟩
  | 44 => ⟨S32x256x4x128, .f32⟩
  | 45 => ⟨S32x256x512, .f32⟩
  | 46 => ⟨S32x256x512, .f32⟩
  | 47 => ⟨S32x256x512, .f32⟩
  | 48 => ⟨S32x256x512, .f32⟩
  | 49 => ⟨S_, .f32⟩
  | 50 => ⟨S32x256x512, .f32⟩
  | 51 => ⟨S32x256x512, .f32⟩
  | 52 => ⟨S_, .f32⟩
  | 53 => ⟨S32x256x512, .f32⟩
  | 54 => ⟨S32x256x512, .f32⟩
  | 55 => ⟨S32x256x512, .f32⟩
  | 56 => ⟨S32x256x512, .f32⟩
  | 57 => ⟨S32x256x1024, .f32⟩
  | 58 => ⟨S32x256x1024, .f32⟩
  | 59 => ⟨S32x256x1024, .f32⟩
  | 60 => ⟨S32x256x1024, .f32⟩
  | 61 => ⟨S32x256x1024, .f32⟩
  | 62 => ⟨S32x256x1024, .f32⟩
  | 63 => ⟨S_, .f32⟩
  | 64 => ⟨S32x256, .f32⟩
  | 65 => ⟨S32x256x1, .f32⟩
  | 66 => ⟨S_, .f32⟩
  | 67 => ⟨S32x256x1, .f32⟩
  | 68 => ⟨S32x256x1, .f32⟩
  | 69 => ⟨S_, .f32⟩
  | 70 => ⟨S32x256x1, .f32⟩
  | 71 => ⟨S32x256x1, .f32⟩
  | 72 => ⟨S32x256x1, .f32⟩
  | 73 => ⟨S32x256x1024, .f32⟩
  | 74 => ⟨S32x256x1024, .f32⟩
  | 75 => ⟨S1x1x1024, .f32⟩
  | 76 => ⟨S32x256x1024, .f32⟩
  | 77 => ⟨S32x256x1024, .f32⟩
  | 78 => ⟨S_, .f32⟩
  | 79 => ⟨S1x1x1024, .f32⟩
  | 80 => ⟨S1x1x1024, .f32⟩
  | 81 => ⟨S32x256x1024, .f32⟩
  | 82 => ⟨S32x256x1024, .f32⟩
  | 83 => ⟨S32x256x1024, .f32⟩
  | 84 => ⟨S32x256x1024, .f32⟩
  | 85 => ⟨S8192x1024, .f32⟩
  | 86 => ⟨S8192x1024, .f32⟩
  | 87 => ⟨S4x4096x1024, .f32⟩
  | 88 => ⟨S16384x512, .f32⟩
  | 89 => ⟨S16384x512, .f32⟩
  | 90 => ⟨S4x6144, .f32⟩
  | 91 => ⟨S4x1x6144, .f32⟩
  | 92 => ⟨S4x1x1024, .f32⟩
  | 93 => ⟨S4x1x1024, .f32⟩
  | 94 => ⟨S4x1x1024, .f32⟩
  | 95 => ⟨S4x1x1024, .f32⟩
  | 96 => ⟨S4x1x1024, .f32⟩
  | 97 => ⟨S4x1x1024, .f32⟩
  | 98 => ⟨S16384x512, .f32⟩
  | 99 => ⟨S4x4096x4x128, .f32⟩
  | 100 => ⟨S4x4096x4x128, .f32⟩
  | 101 => ⟨S_, .f32⟩
  | 102 => ⟨S4x4096x4, .f32⟩
  | 103 => ⟨S4x4096x4x1, .f32⟩
  | 104 => ⟨S_, .f32⟩
  | 105 => ⟨S4x4096x4x1, .f32⟩
  | 106 => ⟨S4x4096x4x1, .f32⟩
  | 107 => ⟨S_, .f32⟩
  | 108 => ⟨S4x4096x4x1, .f32⟩
  | 109 => ⟨S4x4096x4x1, .f32⟩
  | 110 => ⟨S4x4096x4x1, .f32⟩
  | 111 => ⟨S4x4096x4x128, .f32⟩
  | 112 => ⟨S4x4096x4x128, .f32⟩
  | 113 => ⟨S1x1x4x128, .f32⟩
  | 114 => ⟨S4x4096x4x128, .f32⟩
  | 115 => ⟨S4x4096x4x128, .f32⟩
  | 116 => ⟨S4x4096x512, .f32⟩
  | 117 => ⟨S4x4096x512, .f32⟩
  | 118 => ⟨S4x4096x512, .f32⟩
  | 119 => ⟨S4x4096x512, .f32⟩
  | 120 => ⟨S_, .f32⟩
  | 121 => ⟨S4x4096x512, .f32⟩
  | 122 => ⟨S4x4096x512, .f32⟩
  | 123 => ⟨S_, .f32⟩
  | 124 => ⟨S4x4096x512, .f32⟩
  | 125 => ⟨S4x4096x512, .f32⟩
  | 126 => ⟨S4x4096x512, .f32⟩
  | 127 => ⟨S4x4096x512, .f32⟩
  | _ => ⟨S8192x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S4x4096x1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S_, .f32⟩
  | 22 => ⟨S4x1x1024, .f32⟩
  | 23 => ⟨S4x1x1024, .f32⟩
  | 24 => ⟨S4x4096x1024, .f32⟩
  | 25 => ⟨S4x4096x1024, .f32⟩
  | 26 => ⟨S4x4096x1024, .f32⟩
  | 27 => ⟨S4x4096x1024, .f32⟩
  | 28 => ⟨S16384x1024, .f32⟩
  | 29 => ⟨S16384x1024, .f32⟩
  | 30 => ⟨S24576x1024, .f32⟩
  | 31 => ⟨S24576x1024, .f32⟩
  | 32 => ⟨S24576x2048, .f32⟩
  | 33 => ⟨S24576x8x256, .f32⟩
  | 34 => ⟨S24576x8x128, .f32⟩
  | 35 => ⟨S24576x8x128, .f32⟩
  | 36 => ⟨S24576x8x128, .f32⟩
  | 37 => ⟨S24576x8x128, .f32⟩
  | 38 => ⟨S24576x8x1x128, .f32⟩
  | 39 => ⟨S24576x8x1x128, .f32⟩
  | 40 => ⟨S24576x8x2x128, .f32⟩
  | 41 => ⟨S24576x16x128, .f32⟩
  | 42 => ⟨S1024x24576, .f32⟩
  | 43 => ⟨S1024x24576, .bf16⟩
  | 44 => ⟨S16x128x24576, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_cst_9 : Ref sig .tc := ⟨.hbm, 104, rfl⟩
abbrev main_v79 : Ref sig .tc := ⟨.hbm, 105, rfl⟩
abbrev main_v80 : Ref sig .tc := ⟨.hbm, 106, rfl⟩
abbrev main_cst_10 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_13 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_cst_15 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_16 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩

abbrev nD : Nat := 1
abbrev τ : Topo := Topo.v7x

variable {F : FTy → Type} [FloatOps F]
-- ==== Kernel4.lean ====
abbrev S1024x2048 : Shape := ⟨2, ![1024, 2048]⟩
abbrev S128x128 : Shape := ⟨2, ![128, 128]⟩
abbrev S1x128x128 : Shape := ⟨3, ![1, 128, 128]⟩
abbrev S2x128x128 : Shape := ⟨3, ![2, 128, 128]⟩
abbrev S2048x1024 : Shape := ⟨2, ![2048, 1024]⟩
abbrev S1024x128 : Shape := ⟨2, ![1024, 128]⟩
abbrev S128x1024 : Shape := ⟨2, ![128, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S128x128, .f32⟩
  | .hbm, ⟨2, _⟩ => ⟨S128x128, .f32⟩
  | .hbm, ⟨3, _⟩ => ⟨S1x128x128, .f32⟩
  | .hbm, ⟨4, _⟩ => ⟨S1x128x128, .f32⟩
  | .hbm, ⟨5, _⟩ => ⟨S2x128x128, .f32⟩
  | .hbm, ⟨6, _⟩ => ⟨S2048x1024, .bf16⟩
  | .local _ .vmem, ⟨0, _⟩ => ⟨S1x128x128, .f32⟩
  | .local _ .vmem, ⟨1, _⟩ => ⟨S1x128x128, .f32⟩
  | .local _ .vmem, ⟨2, _⟩ => ⟨S1024x128, .f32⟩
  | .local _ .vmem, ⟨3, _⟩ => ⟨S1024x128, .f32⟩
  | .local _ .vmem, ⟨4, _⟩ => ⟨S128x1024, .bf16⟩
  | .local _ .vmem, ⟨5, _⟩ => ⟨S128x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1024x2048 : Shape := ⟨2, ![1024, 2048]⟩
abbrev S128x128 : Shape := ⟨2, ![128, 128]⟩
abbrev S1024x8x256 : Shape := ⟨3, ![1024, 8, 256]⟩
abbrev S1024x8x128 : Shape := ⟨3, ![1024, 8, 128]⟩
abbrev S128x1024x8 : Shape := ⟨3, ![128, 1024, 8]⟩
abbrev S8x128x1024 : Shape := ⟨3, ![8, 128, 1024]⟩
abbrev S8x1x128x1024 : Shape := ⟨4, ![8, 1, 128, 1024]⟩
abbrev S8x2x128x1024 : Shape := ⟨4, ![8, 2, 128, 1024]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S128x128, .f32⟩
  | .hbm, ⟨2, _⟩ => ⟨S128x128, .f32⟩
  | .hbm, ⟨3, _⟩ => ⟨S1024x8x256, .f32⟩
  | .hbm, ⟨4, _⟩ => ⟨S1024x8x128, .f32⟩
  | .hbm, ⟨5, _⟩ => ⟨S128x1024x8, .f32⟩
  | .hbm, ⟨6, _⟩ => ⟨S8x128x1024, .f32⟩
  | .hbm, ⟨7, _⟩ => ⟨S1024x8x128, .f32⟩
  | .hbm, ⟨8, _⟩ => ⟨S128x1024x8, .f32⟩
  | .hbm, ⟨9, _⟩ => ⟨S8x128x1024, .f32⟩
  | .hbm, ⟨10, _⟩ => ⟨S8x1x128x1024, .f32⟩
  | .hbm, ⟨11, _⟩ => ⟨S8x1x128x1024, .f32⟩
  | .hbm, ⟨12, _⟩ => ⟨S8x2x128x1024, .f32⟩
  | .hbm, ⟨13, _⟩ => ⟨S2048x1024, .f32⟩
  | .hbm, ⟨14, _⟩ => ⟨S2048x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Recur.lean ====
/- The mLSTM recurrence over the real numbers: the state after `t` tokens by recursion, and its closed
   form over a chunk of tokens. Both programs are compared through these functions. -/
module

public import Idealize.ShloMosaic.Lib.Pointwise

@[expose] public section

noncomputable section

namespace Cert.Recur

open Finset

/-- One entry of the memory before its scale is taken out: each token decays it by `exp f` and adds
    `exp i` times the token's own entry `x`. -/
def acc (f i x : ℕ → ℝ) : ℕ → ℝ
  | 0 => 0
  | t + 1 => Real.exp (f t) * acc f i x t + Real.exp (i t) * x t

/-- The running scale: the log of the largest weight any token so far has. -/
def mx (f i : ℕ → ℝ) : ℕ → ℝ
  | 0 => 0
  | t + 1 => max (f t + mx f i t) (i t)

/-- The forget logs summed from token `p` up to and with token `p + t`. -/
def bs (f : ℕ → ℝ) (p t : ℕ) : ℝ := ∑ s ∈ range (t + 1), f (p + s)

theorem bs_zero (f : ℕ → ℝ) (p : ℕ) : bs f p 0 = f p := by simp [bs]

theorem bs_succ (f : ℕ → ℝ) (p t : ℕ) : bs f p (t + 1) = bs f p t + f (p + (t + 1)) := by
  simp [bs, Finset.sum_range_succ]

/-- The memory over a chunk that starts at token `p`, from the memory at `p`. -/
theorem acc_chunk (f i x : ℕ → ℝ) (p t : ℕ) :
    acc f i x (p + (t + 1)) = Real.exp (bs f p t) * acc f i x p
      + ∑ s ∈ range (t + 1), Real.exp (bs f p t - bs f p s + i (p + s)) * x (p + s) := by
  induction t with
  | zero => simp [acc, bs]
  | succ t ih =>
    have e : p + (t + 1 + 1) = (p + (t + 1)) + 1 := by omega
    rw [e, acc, ih, Finset.sum_range_succ _ (t + 1), mul_add, Finset.mul_sum, ← mul_assoc,
      ← Real.exp_add, sub_self, zero_add, add_comm (f _) (bs f p t), ← bs_succ, add_assoc]
    congr 2
    refine Finset.sum_congr rfl fun s _ => ?_
    rw [← mul_assoc, ← Real.exp_add, bs_succ]
    congr 2
    ring

/-- The scale over a chunk: the largest of the carried scale and of the chunk's own weights. -/
theorem mx_chunk_le (f i : ℕ → ℝ) (p t : ℕ) (c : ℝ) :
    mx f i (p + (t + 1)) ≤ c ↔
      bs f p t + mx f i p ≤ c ∧ ∀ s, s ≤ t → bs f p t - bs f p s + i (p + s) ≤ c := by
  induction t generalizing c with
  | zero => simp [mx, bs]
  | succ t ih =>
    have e : p + (t + 1 + 1) = (p + (t + 1)) + 1 := by omega
    rw [e, mx, max_le_iff, ← le_sub_iff_add_le', ih]
    constructor
    · rintro ⟨⟨h1, h2⟩, h3⟩
      refine ⟨by rw [bs_succ]; linarith, fun s hs => ?_⟩
      rcases Nat.lt_or_ge s (t + 1) with h | h
      · have := h2 s (by omega); rw [bs_succ]; linarith
      · obtain rfl : s = t + 1 := by omega
        simpa using h3
    · rintro ⟨h1, h2⟩
      rw [bs_succ] at h1
      refine ⟨⟨by linarith, fun s hs => ?_⟩, by simpa using h2 (t + 1) le_rfl⟩
      have := h2 s (by omega); rw [bs_succ] at this; linarith

/-- A sum over the tokens of a chunk that keeps those up to `t`. -/
theorem sum_upto {T : ℕ} (t : ℕ) (ht : t < T) (g : ℕ → ℝ) :
    (∑ s : Fin T, if (s : ℕ) ≤ t then g s else 0) = ∑ s ∈ range (t + 1), g s := by
  rw [Finset.sum_fin_eq_sum_range, ← Finset.sum_filter_add_sum_filter_not (range T) (fun s => s ≤ t)]
  have h2 : (∑ s ∈ (range T).filter (fun s => ¬ s ≤ t),
      (if h : s < T then (if ((⟨s, h⟩ : Fin T) : ℕ) ≤ t then g s else 0) else 0)) = 0 := by
    refine Finset.sum_eq_zero fun s hs => ?_
    rw [Finset.mem_filter] at hs
    split_ifs with h1 h2
    · exact absurd h2 hs.2
    · rfl
    · rfl
  have h1 : (range T).filter (fun s => s ≤ t) = range (t + 1) := by
    ext s; simp only [Finset.mem_filter, Finset.mem_range]; omega
  rw [h2, add_zero, h1]
  refine Finset.sum_congr rfl fun s hs => ?_
  rw [Finset.mem_range] at hs
  rw [dif_pos (by omega)]
  exact if_pos (by simpa using (by omega : s ≤ t))

/-- The numerator of a chunk's output row, from the scaled memory at the chunk's start and the chunk's
    own scores, is the row's product with the memory after the token, scaled. -/
theorem chunk_num {D T : ℕ} (f i : ℕ → ℝ) (q : Fin D → ℝ) (k : ℕ → Fin D → ℝ) (v : ℕ → ℝ)
    (p t : ℕ) (ht : t < T) (M : ℝ) :
    Real.exp (bs f p t + mx f i p - M)
        * (∑ d, q d * (Real.exp (-mx f i p) * acc f i (fun s => k s d * v s) p))
      + ∑ s : Fin T, (if (s : ℕ) ≤ t then (∑ d, q d * k (p + s) d)
          * Real.exp (bs f p t - bs f p s + i (p + s) - M) else 0) * v (p + s)
    = Real.exp (-M) * ∑ d, q d * acc f i (fun s => k s d * v s) (p + (t + 1)) := by
  have h : (∑ s : Fin T, (if (s : ℕ) ≤ t then (∑ d, q d * k (p + s) d)
          * Real.exp (bs f p t - bs f p s + i (p + s) - M) else 0) * v (p + s))
      = ∑ s ∈ range (t + 1), (∑ d, q d * k (p + s) d)
          * Real.exp (bs f p t - bs f p s + i (p + s) - M) * v (p + s) := by
    rw [← sum_upto t ht]
    refine Finset.sum_congr rfl fun s _ => ?_
    split_ifs
    · rfl
    · rw [zero_mul]
  rw [h]
  simp only [acc_chunk, mul_add, Finset.sum_add_distrib, Finset.mul_sum]
  congr 1
  · refine Finset.sum_congr rfl fun d _ => ?_
    have e : Real.exp (bs f p t + mx f i p - M) = Real.exp (-M) * Real.exp (bs f p t) * Real.exp (mx f i p) := by
      rw [← Real.exp_add, ← Real.exp_add]; congr 1; ring
    have e2 : Real.exp (mx f i p) * Real.exp (-mx f i p) = 1 := by
      rw [← Real.exp_add]; simp
    rw [e]
    calc _ = (Real.exp (mx f i p) * Real.exp (-mx f i p)) * (Real.exp (-M) * (q d * (Real.exp (bs f p t)
              * acc f i (fun s => k s d * v s) p))) := by ring
      _ = _ := by rw [e2, one_mul]
  · rw [Finset.sum_comm]
    refine Finset.sum_congr rfl fun s _ => ?_
    rw [Finset.sum_mul, Finset.sum_mul]
    refine Finset.sum_congr rfl fun d _ => ?_
    have e : Real.exp (bs f p t - bs f p s + i (p + s) - M)
        = Real.exp (-M) * Real.exp (bs f p t - bs f p s + i (p + s)) := by
      rw [← Real.exp_add]; congr 1; ring
    rw [e]; ring

/-- The scaled memory at the end of a chunk of `T` tokens. -/
theorem chunk_state {T : ℕ} (f i x : ℕ → ℝ) (p : ℕ) (hT : 0 < T) (M : ℝ) :
    Real.exp (bs f p (T - 1) + mx f i p - M) * (Real.exp (-mx f i p) * acc f i x p)
      + ∑ s : Fin T, Real.exp (bs f p (T - 1) - bs f p s + i (p + s) - M) * x (p + s)
    = Real.exp (-M) * acc f i x (p + T) := by
  obtain ⟨t, rfl⟩ : ∃ t, T = t + 1 := ⟨T - 1, by omega⟩
  rw [acc_chunk, Nat.add_sub_cancel, mul_add, Finset.mul_sum, Finset.sum_fin_eq_sum_range]
  congr 1
  · rw [← mul_assoc, ← mul_assoc, ← Real.exp_add, ← Real.exp_add]; congr 2; ring
  · refine Finset.sum_congr rfl fun s hs => ?_
    rw [dif_pos (Finset.mem_range.1 hs), ← mul_assoc, ← Real.exp_add]; congr 2; ring

/-- A quotient whose two parts carry the same scale. -/
theorem ratio (M A B : ℝ) :
    Real.exp (-M) * A / max |Real.exp (-M) * B| (Real.exp (-M)) = A / max |B| 1 := by
  have h : max |Real.exp (-M) * B| (Real.exp (-M)) = Real.exp (-M) * max |B| 1 := by
    rw [abs_mul, abs_of_pos (Real.exp_pos _), mul_max_of_nonneg _ _ (Real.exp_pos _).le, mul_one]
  rw [h, mul_div_mul_left _ _ (Real.exp_pos _).ne']

/-! The same over the extended reals, where the programs compute. -/

theorem coe_sum {α : Type} (s : Finset α) (g : α → ℝ) : (∑ x ∈ s, ((g x : ℝ) : EReal)) = ((∑ x ∈ s, g x : ℝ) : EReal) := by
  classical
  induction s using Finset.induction_on with
  | empty => simp
  | insert a s h ih => rw [Finset.sum_insert h, Finset.sum_insert h, ih, EReal.coe_add]

theorem coe_max (x y : ℝ) : ((max x y : ℝ) : EReal) = max (x : EReal) (y : EReal) :=
  EReal.coe_strictMono.monotone.map_max

theorem coe_ite (P : Prop) [Decidable P] (x y : ℝ) :
    (if P then (x : EReal) else (y : EReal)) = ((if P then x else y : ℝ) : EReal) := by split_ifs <;> rfl

theorem ninf : Idealize.ShloMosaic.Ideal.ofBits .f32 0xFF800000#32 = (⊥ : EReal) := by
  simp [Idealize.ShloMosaic.Ideal.ofBits, Idealize.ShloMosaic.Ideal.ieee]

theorem coe_div (x y : ℝ) (h : y ≠ 0) :
    Idealize.ShloMosaic.Ideal.div (x : EReal) (y : EReal) = ((x / y : ℝ) : EReal) := by
  rw [Idealize.ShloMosaic.Ideal.div_coe h, ← EReal.coe_mul, mul_one_div]

theorem absf_coe (x : ℝ) : Idealize.ShloMosaic.FloatOps.absf (F := Idealize.ShloMosaic.Ideal) (φ := .f32) (x : EReal)
    = ((|x| : ℝ) : EReal) := by
  show max (x : EReal) (-(x : EReal)) = _
  rw [← EReal.coe_neg, ← coe_max]; rfl

/-- A masked row's largest entry together with one more number. -/
theorem max_fold {n : ℕ} (R : Fin n → Prop) [DecidablePred R] (x μ : ℝ) (g : Fin n → ℝ)
    (h : ∀ c : ℝ, μ ≤ c ↔ x ≤ c ∧ ∀ s, R s → g s ≤ c) :
    max (x : EReal) (Finset.univ.fold max (⊥ : EReal) fun s => if R s then (g s : EReal) else ⊥) = (μ : EReal) := by
  have hle : max (x : EReal) (Finset.univ.fold max (⊥ : EReal) fun s => if R s then (g s : EReal) else ⊥) ≤ (μ : EReal) := by
    refine max_le (EReal.coe_le_coe_iff.2 ((h μ).1 le_rfl).1) ?_
    rw [Finset.fold_max_le]
    refine ⟨bot_le, fun s _ => ?_⟩
    split_ifs with hs
    · exact EReal.coe_le_coe_iff.2 (((h μ).1 le_rfl).2 s hs)
    · exact bot_le
  refine le_antisymm hle ?_
  generalize hy : max (x : EReal) (Finset.univ.fold max (⊥ : EReal) fun s => if R s then (g s : EReal) else ⊥) = y at hle
  have hx : (x : EReal) ≤ y := hy ▸ le_max_left _ _
  have hg : ∀ s, R s → (g s : EReal) ≤ y := fun s hs => by
    rw [← hy]
    refine le_trans ?_ (le_max_right _ _)
    rw [Finset.le_fold_max]
    exact Or.inr ⟨s, Finset.mem_univ _, by rw [if_pos hs]⟩
  induction y with
  | bot => exact absurd hx (by simp)
  | top => exact le_top
  | coe c =>
    exact EReal.coe_le_coe_iff.2 ((h c).2 ⟨EReal.coe_le_coe_iff.1 hx, fun s hs => EReal.coe_le_coe_iff.1 (hg s hs)⟩)

end Cert.Recur

end

end
-- ==== Proof.Head.lean ====
/- One head of one direction in the kernel's body, as one expression for all eight, and its value over the
   real numbers. -/
module

public import proofs.«01_k».proof.Proof.Gen.KernelIdeal.Skeleton
public import proofs.«01_k».proof.Proof.Recur

@[expose] public section

set_option maxRecDepth 16384

noncomputable section

open Idealize.ShloMosaic Idealize.ShloMosaic.TcCoe

namespace Cert.KernelIdeal.Head

open Cert.KernelIdeal Cert.KernelIdeal.Gen

/-- The weights' logs: within the mask `b_t − b_s + i_s`, elsewhere minus infinity. -/
def hD (mask : IVec S256x256 1) (bc : FVec Ideal S256x128 .f32) (br ir : FVec Ideal S1x256 .f32) :
    FVec Ideal S256x256 .f32 :=
  select mask (addf (subf (concatenate S256x256 1 [⟨S256x128, bc⟩, ⟨S256x128, bc⟩] concatenates_S256x128_S256x128_S256x256_d1)
    (broadcastTo S256x256 br broadcasts_S1x256_S256x256)) (broadcastTo S256x256 ir broadcasts_S1x256_S256x256))
    (broadcast S256x256 (Scalar.ofBits .f32 0xFF800000#32))

/-- The log of the carried memory's weight. -/
def hI (bc : FVec Ideal S256x128 .f32) (mp : FVec Ideal S1x128 .f32) : FVec Ideal S256x128 .f32 :=
  addf bc (broadcastTo S256x128 mp broadcasts_S1x128_S256x128)

/-- The running scale after each token. -/
def hM (D : FVec Ideal S256x256 .f32) (I : FVec Ideal S256x128 .f32) : FVec Ideal S256x128 .f32 :=
  maximumf I (broadcastTo S256x128 (shapeCast S256x1
    (multiReduction .maximumf [1] S256 D 0xFF800000#32 reduces_S256x256_S256 (.inl rfl) rfl)
    shapeCasts_S256_S256x1) broadcasts_S256x1_S256x128)

/-- The values with a block of ones beside them. -/
def hV (v : FVec Ideal S256x128 .bf16) : FVec Ideal S256x256 .bf16 :=
  concatenate S256x256 1 [⟨S256x128, v⟩, ⟨S256x128, broadcast S256x128 (Scalar.ofBits .bf16 0x3F80#16)⟩]
    concatenates_S256x128_S256x128_S256x256_d1

/-- The scores: a query against a key, weighted. -/
def hS (D : FVec Ideal S256x256 .f32) (M : FVec Ideal S256x128 .f32) (q k : FVec Ideal S256x128 .bf16) :
    FVec Ideal S256x256 .bf16 :=
  truncf .bf16 (mulf (matmul dot_S256x128_S256x128_S256x256_1_1_0_0_n_n none q k (constant S256x256 .f32 0x00000000#32))
    (exp (subf D (concatenate S256x256 1 [⟨S256x128, M⟩, ⟨S256x128, M⟩] concatenates_S256x128_S256x128_S256x256_d1))))
    bitsLt_bf16_f32

/-- Numerator and denominator side by side. -/
def hND (D : FVec Ideal S256x256 .f32) (I M : FVec Ideal S256x128 .f32) (q k v : FVec Ideal S256x128 .bf16)
    (c : FVec Ideal S1x128x256 .f32) : FVec Ideal S256x256 .f32 :=
  addf
    (mulf (concatenate S256x256 1 [⟨S256x128, exp (subf I M)⟩, ⟨S256x128, exp (subf I M)⟩] concatenates_S256x128_S256x128_S256x256_d1)
      (matmul dot_S256x128_S128x256_S256x256_1_0_0_1_n_n none q
        (truncf .bf16 (shapeCast S128x256 c shapeCasts_S1x128x256_S128x256) bitsLt_bf16_f32)
        (constant S256x256 .f32 0x00000000#32)))
    (matmul dot_S256x256_S256x256_S256x256_1_0_0_1_n_n none (hS D M q k) (hV v) (constant S256x256 .f32 0x00000000#32))

/-- The head's output rows. -/
def hH (D : FVec Ideal S256x256 .f32) (I M : FVec Ideal S256x128 .f32) (q k v : FVec Ideal S256x128 .bf16)
    (c : FVec Ideal S1x128x256 .f32) : FVec Ideal S256x128 .f32 :=
  divf (extractStridedSlice S256x128 ![0, 0] (hND D I M q k v c) slices_S256x256_o0_0_S256x128)
    (maximumf (absf (extractStridedSlice S256x128 ![0, 128] (hND D I M q k v c) slices_S256x256_o0_128_S256x128))
      (exp (subf (broadcast S256x128 (Scalar.ofBits .f32 0x00000000#32)) M)))

/-- The memory after the chunk. -/
def hC (ml bl mp : FVec Ideal S1x128 .f32) (bc ic : FVec Ideal S256x128 .f32) (k v : FVec Ideal S256x128 .bf16)
    (c : FVec Ideal S1x128x256 .f32) : FVec Ideal S1x128x256 .f32 :=
  shapeCast S1x128x256 (addf
    (mulf (broadcastTo S128x256 (concatenate S1x256 1 [⟨S1x128, exp (subf (addf bl mp) ml)⟩, ⟨S1x128, exp (subf (addf bl mp) ml)⟩]
        concatenates_S1x128_S1x128_S1x256_d1) broadcasts_S1x256_S128x256)
      (shapeCast S128x256 c shapeCasts_S1x128x256_S128x256))
    (matmul dot_S128x256_S256x256_S128x256_1_0_0_1_n_n none
      (truncf .bf16 (transpose S128x256 [1, 0] (mulf (extf .f32 k bitsLt_bf16_f32)
        (exp (subf (addf (subf (broadcastTo S256x128 bl broadcasts_S1x128_S256x128) bc) ic)
          (broadcastTo S256x128 ml broadcasts_S1x128_S256x128)))) transposes_S256x128_p1_0_S128x256) bitsLt_bf16_f32)
      (hV v) (constant S128x256 .f32 0x00000000#32))) shapeCasts_S128x256_S1x128x256

section

variable (R : Fin 256 → Fin 256 → Prop) [∀ t s, Decidable (R t s)] (b i μ : Fin 256 → ℝ) (m0 : ℝ)
  (q k v : Fin 256 → Fin 128 → ℝ) (C : Fin 128 → Fin 128 → ℝ) (N : Fin 128 → ℝ)

theorem hD_at {mask : IVec S256x256 1} {bc : FVec Ideal S256x128 .f32} {br ir : FVec Ideal S1x256 .f32}
    (hmask : ∀ t s, mask (ix2 t s) = BitVec.ofBool (decide (R t s)))
    (hbc : ∀ t e, bc (ix2 t e) = ((b t : ℝ) : EReal)) (hbr : ∀ s, br (ix2 0 s) = ((b s : ℝ) : EReal))
    (hir : ∀ s, ir (ix2 0 s) = ((i s : ℝ) : EReal)) (t s : Fin 256) :
    hD mask bc br ir (ix2 t s) = if R t s then ((b t - b s + i s : ℝ) : EReal) else ⊥ := by
  pointwise [hD]
  simp only [hbc, dite_eq_ite, ite_self]
  rw [hmask, hbr, hir, ← EReal.coe_sub, ← EReal.coe_add, ← Recur.ninf]
  by_cases h : R t s
  · rw [if_pos h, decide_eq_true h]; rfl
  · rw [if_neg h, decide_eq_false h]; rfl

theorem hI_at {bc : FVec Ideal S256x128 .f32} {mp : FVec Ideal S1x128 .f32}
    (hbc : ∀ t e, bc (ix2 t e) = ((b t : ℝ) : EReal)) (hmp : ∀ e, mp (ix2 0 e) = ((m0 : ℝ) : EReal))
    (t : Fin 256) (e : Fin 128) : hI bc mp (ix2 t e) = ((b t + m0 : ℝ) : EReal) := by
  pointwise [hI]
  rw [hbc, hmp, ← EReal.coe_add]

theorem hM_at {D : FVec Ideal S256x256 .f32} {I : FVec Ideal S256x128 .f32}
    (hD : ∀ t s, D (ix2 t s) = if R t s then ((b t - b s + i s : ℝ) : EReal) else ⊥)
    (hI : ∀ t e, I (ix2 t e) = ((b t + m0 : ℝ) : EReal))
    (hμ : ∀ t, ∀ c : ℝ, μ t ≤ c ↔ b t + m0 ≤ c ∧ ∀ s, R t s → b t - b s + i s ≤ c) (t : Fin 256) (e : Fin 128) :
    hM D I (ix2 t e) = ((μ t : ℝ) : EReal) := by
  pointwise [hM]
  simp only [hD]
  rw [hI]
  have := Recur.max_fold (R t) (b t + m0) (μ t) (fun s => b t - b s + i s) (hμ t)
  rw [← Recur.ninf] at this ⊢
  exact this

theorem hS_at {D : FVec Ideal S256x256 .f32} {M : FVec Ideal S256x128 .f32} {qv kv : FVec Ideal S256x128 .bf16}
    (hD : ∀ t s, D (ix2 t s) = if R t s then ((b t - b s + i s : ℝ) : EReal) else ⊥)
    (hM : ∀ t e, M (ix2 t e) = ((μ t : ℝ) : EReal))
    (hq : ∀ t d, qv (ix2 t d) = ((q t d : ℝ) : EReal)) (hk : ∀ t d, kv (ix2 t d) = ((k t d : ℝ) : EReal))
    (t s : Fin 256) :
    hS D M qv kv (ix2 t s)
      = (((if R t s then (∑ d, q t d * k s d) * Real.exp (b t - b s + i s - μ t) else 0 : ℝ)) : EReal) := by
  pointwise [hS]
  simp only [hD, hM, hq, hk, dite_eq_ite, ite_self, ← EReal.coe_mul, Recur.coe_sum]
  split_ifs with h
  · rw [← EReal.coe_sub, Ideal.exp_coe, ← EReal.coe_mul]
  · rw [EReal.bot_sub, Ideal.exp_bot, mul_zero]; rfl

theorem hH_at {D : FVec Ideal S256x256 .f32} {I M : FVec Ideal S256x128 .f32} {qv kv vv : FVec Ideal S256x128 .bf16}
    {c : FVec Ideal S1x128x256 .f32}
    (hD : ∀ t s, D (ix2 t s) = if R t s then ((b t - b s + i s : ℝ) : EReal) else ⊥)
    (hI : ∀ t e, I (ix2 t e) = ((b t + m0 : ℝ) : EReal))
    (hM : ∀ t e, M (ix2 t e) = ((μ t : ℝ) : EReal))
    (hq : ∀ t d, qv (ix2 t d) = ((q t d : ℝ) : EReal)) (hk : ∀ t d, kv (ix2 t d) = ((k t d : ℝ) : EReal))
    (hv : ∀ t d, vv (ix2 t d) = ((v t d : ℝ) : EReal))
    (hc : ∀ d (e : Fin 128), c (ix3 0 d ⟨e, by omega⟩) = ((C d e : ℝ) : EReal))
    (hn : ∀ d (e : Fin 128), c (ix3 0 d ⟨128 + e, by omega⟩) = ((N d : ℝ) : EReal))
    (t : Fin 256) (e : Fin 128) :
    hH D I M qv kv vv c (ix2 t e)
      = (((Real.exp (b t + m0 - μ t) * (∑ d, q t d * C d e)
            + ∑ s, (if R t s then (∑ d, q t d * k s d) * Real.exp (b t - b s + i s - μ t) else 0) * v s e)
          / max |Real.exp (b t + m0 - μ t) * (∑ d, q t d * N d)
            + ∑ s, (if R t s then (∑ d, q t d * k s d) * Real.exp (b t - b s + i s - μ t) else 0)|
              (Real.exp (-μ t)) : ℝ) : EReal) := by
  pointwise [hH, hND, hV]
  simp only [hS_at R b i μ q k hD hM hq hk, hI, hM, hq, hv, hc, hn, ← EReal.coe_mul, Recur.coe_sum,
    ← EReal.coe_sub, ← EReal.coe_add, Ideal.exp_coe, zero_sub, ← EReal.coe_neg]
  rw [Recur.absf_coe, ← Recur.coe_max, Recur.coe_div]
  exact (lt_of_lt_of_le (Real.exp_pos _) (le_max_right _ _)).ne'

theorem hC_at (ν β : ℝ) {ml bl mp : FVec Ideal S1x128 .f32} {bc ic : FVec Ideal S256x128 .f32}
    {kv vv : FVec Ideal S256x128 .bf16} {c : FVec Ideal S1x128x256 .f32}
    (hml : ∀ e, ml (ix2 0 e) = ((ν : ℝ) : EReal)) (hbl : ∀ e, bl (ix2 0 e) = ((β : ℝ) : EReal))
    (hmp : ∀ e, mp (ix2 0 e) = ((m0 : ℝ) : EReal))
    (hbc : ∀ t e, bc (ix2 t e) = ((b t : ℝ) : EReal)) (hic : ∀ t e, ic (ix2 t e) = ((i t : ℝ) : EReal))
    (hk : ∀ t d, kv (ix2 t d) = ((k t d : ℝ) : EReal)) (hv : ∀ t d, vv (ix2 t d) = ((v t d : ℝ) : EReal))
    (hc : ∀ d (e : Fin 128), c (ix3 0 d ⟨e, by omega⟩) = ((C d e : ℝ) : EReal))
    (hn : ∀ d (e : Fin 128), c (ix3 0 d ⟨128 + e, by omega⟩) = ((N d : ℝ) : EReal))
    (d : Fin 128) (e : Fin 128) :
    hC ml bl mp bc ic kv vv c (ix3 0 d ⟨e, by omega⟩)
        = ((Real.exp (β + m0 - ν) * C d e + ∑ s, k s d * Real.exp (β - b s + i s - ν) * v s e : ℝ) : EReal)
      ∧ hC ml bl mp bc ic kv vv c (ix3 0 d ⟨128 + e, by omega⟩)
        = ((Real.exp (β + m0 - ν) * N d + ∑ s, k s d * Real.exp (β - b s + i s - ν) : ℝ) : EReal) := by
  constructor
  · pointwise [hC, hV]
    simp only [hml, hbl, hmp, hbc, hic, hk, hv, hc, ← EReal.coe_mul, Recur.coe_sum,
      ← EReal.coe_sub, ← EReal.coe_add, Ideal.exp_coe]
  · pointwise [hC, hV]
    simp only [hml, hbl, hmp, hbc, hic, hk, hv, hn, ← EReal.coe_mul, Recur.coe_sum,
      ← EReal.coe_sub, ← EReal.coe_add, Ideal.exp_coe]

end

end Cert.KernelIdeal.Head

end

end
-- ==== Proof.HeadOut.lean ====
/- One head through the recurrence: the masks, the running sums of the gates, and what a head's rows, its scale and
   its memory are as functions of the block's real entries. -/
module

public import proofs.«01_k».proof.Proof.Head
public import Idealize.ShloMosaic.Lib.WordCmp

@[expose] public section

set_option maxRecDepth 16384

noncomputable section

open Idealize.ShloMosaic Idealize.ShloMosaic.TcCoe

namespace Cert.KernelIdeal.Head

open Cert.KernelIdeal Cert.KernelIdeal.Gen

theorem mask_fwd (t s : Fin 256) : k0_pay8 (ix2 t s) = BitVec.ofBool (decide ((s : ℕ) ≤ t)) := by
  pointwise [k0_pay8]
  word_cmp

theorem tri_val (P : Prop) [Decidable P] :
    (FloatOps.sitofp (F := Ideal) FTy.f32 (BitVec.setWidth 32 (BitVec.ofBool (decide P)))) = (((if P then 1 else 0 : ℝ)) : EReal) := by
  show (((BitVec.setWidth 32 (BitVec.ofBool (decide P))).toInt : ℝ) : EReal) = _
  by_cases h : P
  · rw [decide_eq_true h, if_pos h, show (BitVec.setWidth 32 (BitVec.ofBool true)).toInt = 1 from by decide]; norm_num
  · rw [decide_eq_false h, if_neg h, show (BitVec.setWidth 32 (BitVec.ofBool false)).toInt = 0 from by decide]; norm_num

/-- The running sums of the gates down the rows: a mask of ones against the gates' two parts. -/
def kB (tri : FVec Ideal S256x256 .bf16) (g : FVec Ideal S256x128 .f32) : FVec Ideal S256x128 .f32 :=
  addf (matmul dot_S256x256_S256x128_S256x128_1_0_0_1_n_n none tri (truncf .bf16 g bitsLt_bf16_f32) (constant S256x128 .f32 0x00000000#32))
    (matmul dot_S256x256_S256x128_S256x128_1_0_0_1_n_n none tri
      (truncf .bf16 (subf g (extf .f32 (truncf .bf16 g bitsLt_bf16_f32) bitsLt_bf16_f32)) bitsLt_bf16_f32) (constant S256x128 .f32 0x00000000#32))

/-- The same along the columns of the gates' transpose. -/
def kBt (tri : FVec Ideal S256x256 .bf16) (g : FVec Ideal S128x256 .f32) : FVec Ideal S128x256 .f32 :=
  addf (matmul dot_S128x256_S256x256_S128x256_1_0_0_1_n_n none (truncf .bf16 g bitsLt_bf16_f32) tri (constant S128x256 .f32 0x00000000#32))
    (matmul dot_S128x256_S256x256_S128x256_1_0_0_1_n_n none
      (truncf .bf16 (subf g (extf .f32 (truncf .bf16 g bitsLt_bf16_f32) bitsLt_bf16_f32)) bitsLt_bf16_f32) tri (constant S128x256 .f32 0x00000000#32))

theorem kB_at (R : Fin 256 → Fin 256 → Prop) [∀ t s, Decidable (R t s)] (G : Fin 256 → Fin 128 → ℝ)
    {tri : FVec Ideal S256x256 .bf16} {g : FVec Ideal S256x128 .f32}
    (htri : ∀ t s, tri (ix2 t s) = (((if R t s then 1 else 0 : ℝ)) : EReal))
    (hg : ∀ t j, g (ix2 t j) = ((G t j : ℝ) : EReal)) (t : Fin 256) (j : Fin 128) :
    kB tri g (ix2 t j) = ((∑ s, (if R t s then G s j else 0) : ℝ) : EReal) := by
  pointwise [kB]
  simp only [htri, hg, ← EReal.coe_sub, ← EReal.coe_mul, Recur.coe_sum, ← EReal.coe_add, sub_self, mul_zero,
    Finset.sum_const_zero, add_zero, ite_mul, one_mul, zero_mul]

theorem kBt_at (R : Fin 256 → Fin 256 → Prop) [∀ t s, Decidable (R t s)] (G : Fin 256 → Fin 128 → ℝ)
    {tri : FVec Ideal S256x256 .bf16} {g : FVec Ideal S128x256 .f32}
    (htri : ∀ s t, tri (ix2 s t) = (((if R t s then 1 else 0 : ℝ)) : EReal))
    (hg : ∀ t j, g (ix2 j t) = ((G t j : ℝ) : EReal)) (t : Fin 256) (j : Fin 128) :
    kBt tri g (ix2 j t) = ((∑ s, (if R t s then G s j else 0) : ℝ) : EReal) := by
  pointwise [kBt]
  simp only [htri, hg, ← EReal.coe_sub, ← EReal.coe_mul, Recur.coe_sum, ← EReal.coe_add, sub_self, zero_mul,
    Finset.sum_const_zero, add_zero, mul_ite, mul_one, mul_zero, ite_self]

open Recur in
/-- One head's rows and its memory after the chunk, through the recurrence: the rows of the block are the tokens
    of the sequence in the order `σ`. -/
theorem head_out (σ : Equiv.Perm (Fin 256)) (last : Fin 256) (hlast : (σ last : ℕ) = 255)
    (f i : ℕ → ℝ) (q k v : ℕ → Fin 128 → ℝ) (p : ℕ)
    {mask : IVec S256x256 1} {bc ic : FVec Ideal S256x128 .f32} {br ir : FVec Ideal S1x256 .f32}
    {mp : FVec Ideal S1x128 .f32} {qv kv vv : FVec Ideal S256x128 .bf16} {c : FVec Ideal S1x128x256 .f32}
    (hmask : ∀ t s, mask (ix2 t s) = BitVec.ofBool (decide ((σ s : ℕ) ≤ σ t)))
    (hbc : ∀ t e, bc (ix2 t e) = ((bs f p (σ t) : ℝ) : EReal)) (hbr : ∀ s, br (ix2 0 s) = ((bs f p (σ s) : ℝ) : EReal))
    (hir : ∀ s, ir (ix2 0 s) = ((i (p + σ s) : ℝ) : EReal)) (hic : ∀ t e, ic (ix2 t e) = ((i (p + σ t) : ℝ) : EReal))
    (hmp : ∀ e, mp (ix2 0 e) = ((mx f i p : ℝ) : EReal))
    (hq : ∀ t d, qv (ix2 t d) = ((q (p + σ t) d : ℝ) : EReal)) (hk : ∀ t d, kv (ix2 t d) = ((k (p + σ t) d : ℝ) : EReal))
    (hv : ∀ t d, vv (ix2 t d) = ((v (p + σ t) d : ℝ) : EReal))
    (hc : ∀ d (e : Fin 128), c (ix3 0 d ⟨e, by omega⟩) = ((Real.exp (-mx f i p) * acc f i (fun s => k s d * v s e) p : ℝ) : EReal))
    (hn : ∀ d (e : Fin 128), c (ix3 0 d ⟨128 + e, by omega⟩) = ((Real.exp (-mx f i p) * acc f i (fun s => k s d * 1) p : ℝ) : EReal)) :
    (∀ t e, hH (hD mask bc br ir) (hI bc mp) (hM (hD mask bc br ir) (hI bc mp)) qv kv vv c (ix2 t e)
        = (((∑ d, q (p + σ t) d * acc f i (fun s => k s d * v s e) (p + (σ t + 1)))
            / max |∑ d, q (p + σ t) d * acc f i (fun s => k s d * 1) (p + (σ t + 1))| 1 : ℝ) : EReal))
      ∧ (∀ t e, hM (hD mask bc br ir) (hI bc mp) (ix2 t e) = ((mx f i (p + (σ t + 1)) : ℝ) : EReal))
      ∧ (∀ ml bl : FVec Ideal S1x128 .f32, (∀ e, ml (ix2 0 e) = ((mx f i (p + 256) : ℝ) : EReal)) →
          (∀ e, bl (ix2 0 e) = ((bs f p 255 : ℝ) : EReal)) → ∀ d (e : Fin 128),
          hC ml bl mp bc ic kv vv c (ix3 0 d ⟨e, by omega⟩)
              = ((Real.exp (-mx f i (p + 256)) * acc f i (fun s => k s d * v s e) (p + 256) : ℝ) : EReal)
            ∧ hC ml bl mp bc ic kv vv c (ix3 0 d ⟨128 + e, by omega⟩)
              = ((Real.exp (-mx f i (p + 256)) * acc f i (fun s => k s d * 1) (p + 256) : ℝ) : EReal)) := by
  have eD := hD_at (fun t s => (σ s : ℕ) ≤ σ t) (fun t => bs f p (σ t)) (fun t => i (p + σ t)) hmask hbc hbr hir
  have eI := hI_at (fun t => bs f p (σ t)) (mx f i p) hbc hmp
  have eM := hM_at (fun t s => (σ s : ℕ) ≤ σ t) (fun t => bs f p (σ t)) (fun t => i (p + σ t))
    (fun t => mx f i (p + (σ t + 1))) (mx f i p) eD eI (fun t c => by
      rw [mx_chunk_le]
      refine and_congr_right fun _ => ⟨fun h s hs => h _ hs, fun h s hs => ?_⟩
      have := h (σ.symm ⟨s, by omega⟩) (by simpa using hs)
      simpa using this)
  refine ⟨fun t e => ?_, eM, fun ml bl hml hbl d e => ?_⟩
  · refine (hH_at (fun t s => (σ s : ℕ) ≤ σ t) (fun t => bs f p (σ t)) (fun t => i (p + σ t))
      (fun t => mx f i (p + (σ t + 1))) (mx f i p) (fun t => q (p + σ t)) (fun t => k (p + σ t)) (fun t => v (p + σ t))
      _ _ eD eI eM hq hk hv hc hn t e).trans ?_
    congr 1
    have h1 := chunk_num f i (q (p + σ t)) k (fun s => v s e) p (σ t) (σ t).2 (mx f i (p + (σ t + 1)))
    have h2 := chunk_num f i (q (p + σ t)) k (fun _ => 1) p (σ t) (σ t).2 (mx f i (p + (σ t + 1)))
    rw [← Equiv.sum_comp σ] at h1 h2
    simp only [mul_one] at h2 ⊢
    rw [h1, h2, ratio]
  · have h := hC_at (fun t => bs f p (σ t)) (fun t => i (p + σ t)) (mx f i p) (fun t => k (p + σ t)) (fun t => v (p + σ t))
      _ _ (mx f i (p + 256)) (bs f p 255) hml hbl hmp hbc hic hk hv hc hn d e
    have h1 := chunk_state (T := 256) f i (fun s => k s d * v s e) p (by norm_num) (mx f i (p + 256))
    have h2 := chunk_state (T := 256) f i (fun s => k s d * 1) p (by norm_num) (mx f i (p + 256))
    rw [← Equiv.sum_comp σ] at h1 h2
    refine ⟨h.1.trans (congrArg _ (Eq.trans ?_ h1)), h.2.trans (congrArg _ (Eq.trans ?_ h2))⟩
    · refine congrArg₂ (· + ·) rfl (Finset.sum_congr rfl fun s _ => ?_)
      ring
    · refine congrArg₂ (· + ·) rfl (Finset.sum_congr rfl fun s _ => ?_)
      ring

/-- A column of block rows as a sequence over token positions. -/
def seqOf {n : ℕ} [NeZero n] (σ : Equiv.Perm (Fin n)) (X : Fin n → ℝ) (s : ℕ) : ℝ := X (σ.symm (Fin.ofNat n s))

theorem seqOf_at {n : ℕ} [NeZero n] (σ : Equiv.Perm (Fin n)) (X : Fin n → ℝ) (t : Fin n) : seqOf σ X (0 + σ t) = X t := by
  rw [zero_add, seqOf, Fin.ofNat_val_eq_self, Equiv.symm_apply_apply]

theorem bs_seqOf (σ : Equiv.Perm (Fin 256)) (X : Fin 256 → ℝ) (t : Fin 256) :
    (∑ s, (if (σ s : ℕ) ≤ σ t then X s else 0)) = Recur.bs (seqOf σ X) 0 (σ t) := by
  rw [Recur.bs, ← Recur.sum_upto (σ t : ℕ) (σ t).2]
  refine (Finset.sum_congr rfl fun s _ => ?_).trans
    (Equiv.sum_comp σ fun s : Fin 256 => if (s : ℕ) ≤ σ t then seqOf σ X (0 + s) else 0)
  rw [seqOf_at]

section

variable (σ : Equiv.Perm (Fin 256)) (Q K V : Fin 256 → Fin 512 → ℝ) (G : Fin 256 → Fin 128 → ℝ) (gi : Fin 8) (hd : Fin 4)

/-- The sequences of one head: forget and input logs, and the head's columns of queries, keys, values. -/
def sF : ℕ → ℝ := seqOf σ fun t => G t ⟨8 + gi, by omega⟩
def sI : ℕ → ℝ := seqOf σ fun t => G t ⟨gi, by omega⟩
def sX (X : Fin 256 → Fin 512 → ℝ) (s : ℕ) (d : Fin 128) : ℝ := seqOf σ (fun t => X t ⟨128 * hd + d, by omega⟩) s

/-- Output row, memory, normalizer and scale of one head of a block, by the recurrence. -/
def oH (t : Fin 256) (e : Fin 128) : ℝ :=
  (∑ d : Fin 128, Q t ⟨128 * hd + d, by omega⟩ * Recur.acc (sF σ G gi) (sI σ G gi) (fun s => sX σ hd K s d * sX σ hd V s e) (σ t + 1))
    / max |∑ d : Fin 128, Q t ⟨128 * hd + d, by omega⟩ * Recur.acc (sF σ G gi) (sI σ G gi) (fun s => sX σ hd K s d * 1) (σ t + 1)| 1
def oM : ℝ := Recur.mx (sF σ G gi) (sI σ G gi) 256
def oC (d e : Fin 128) : ℝ :=
  Real.exp (-oM σ G gi) * Recur.acc (sF σ G gi) (sI σ G gi) (fun s => sX σ hd K s d * sX σ hd V s e) 256
def oN (d : Fin 128) : ℝ :=
  Real.exp (-oM σ G gi) * Recur.acc (sF σ G gi) (sI σ G gi) (fun s => sX σ hd K s d * 1) 256

variable {σ Q K V G}

theorem split_e {P : Fin 256 → EReal} {a : Fin 128 → ℝ} {b : ℝ}
    (h : ∀ e : Fin 128, P ⟨e, by omega⟩ = ((a e : ℝ) : EReal) ∧ P ⟨128 + e, by omega⟩ = ((b : ℝ) : EReal)) (e : Fin 256) :
    P e = (((if h : (e : ℕ) < 128 then a ⟨e, h⟩ else b : ℝ)) : EReal) := by
  split_ifs with h'
  · exact (h ⟨e, h'⟩).1
  · have := (h ⟨e - 128, by omega⟩).2
    rwa [show (⟨128 + ((⟨(e : ℕ) - 128, by omega⟩ : Fin 128) : ℕ), by simp; omega⟩ : Fin 256) = e from Fin.ext (by simp; omega)] at this

theorem head_blk (last : Fin 256) (hlast : (σ last : ℕ) = 255)
    {mask : IVec S256x256 1} {tri trit : FVec Ideal S256x256 .bf16}
    (hmask : ∀ t s, mask (ix2 t s) = BitVec.ofBool (decide ((σ s : ℕ) ≤ σ t)))
    (htri : ∀ t s, tri (ix2 t s) = (((if (σ s : ℕ) ≤ σ t then 1 else 0 : ℝ)) : EReal))
    (htrit : ∀ s t, trit (ix2 s t) = (((if (σ s : ℕ) ≤ σ t then 1 else 0 : ℝ)) : EReal))
    {x0 x1 x2 : FVec Ideal S256x512 .bf16} {x3 : FVec Ideal S256x128 .f32} {x4 : FVec Ideal S128x256 .f32}
    (h0 : ∀ t j, x0 (ix2 t j) = ((Q t j : ℝ) : EReal)) (h1 : ∀ t j, x1 (ix2 t j) = ((K t j : ℝ) : EReal))
    (h2 : ∀ t j, x2 (ix2 t j) = ((V t j : ℝ) : EReal)) (h3 : ∀ t j, x3 (ix2 t j) = ((G t j : ℝ) : EReal))
    (h4 : ∀ t j, x4 (ix2 j t) = ((G t j : ℝ) : EReal))
    {bc ic : FVec Ideal S256x128 .f32} {br ir : FVec Ideal S1x256 .f32}
    {mp : FVec Ideal S1x128 .f32} {qv kv vv : FVec Ideal S256x128 .bf16} {c : FVec Ideal S1x128x256 .f32}
    (ebc : ∀ t e, bc (ix2 t e) = kB tri x3 (ix2 t ⟨8 + gi, by omega⟩))
    (ebr : ∀ s, br (ix2 0 s) = kBt trit x4 (ix2 ⟨8 + gi, by omega⟩ s))
    (eir : ∀ s, ir (ix2 0 s) = x4 (ix2 ⟨gi, by omega⟩ s)) (eic : ∀ t e, ic (ix2 t e) = x3 (ix2 t ⟨gi, by omega⟩))
    (emp : ∀ e, mp (ix2 0 e) = 0)
    (eq : ∀ t (d : Fin 128), qv (ix2 t d) = x0 (ix2 t ⟨128 * hd + d, by omega⟩))
    (ek : ∀ t (d : Fin 128), kv (ix2 t d) = x1 (ix2 t ⟨128 * hd + d, by omega⟩))
    (ev : ∀ t (d : Fin 128), vv (ix2 t d) = x2 (ix2 t ⟨128 * hd + d, by omega⟩))
    (ec : ∀ d e, c (ix3 0 d e) = 0) :
    (∀ t e, hH (hD mask bc br ir) (hI bc mp) (hM (hD mask bc br ir) (hI bc mp)) qv kv vv c (ix2 t e)
        = ((oH σ Q K V G gi hd t e : ℝ) : EReal))
      ∧ (∀ e, hM (hD mask bc br ir) (hI bc mp) (ix2 last e) = ((oM σ G gi : ℝ) : EReal))
      ∧ (∀ ml bl : FVec Ideal S1x128 .f32, (∀ e, ml (ix2 0 e) = hM (hD mask bc br ir) (hI bc mp) (ix2 last e)) →
          (∀ e, bl (ix2 0 e) = bc (ix2 last e)) → ∀ d (e : Fin 256),
          hC ml bl mp bc ic kv vv c (ix3 0 d e)
            = (((if h : (e : ℕ) < 128 then oC σ K V G gi hd d ⟨e, h⟩ else oN σ K G gi hd d : ℝ)) : EReal)) := by
  have fbc : ∀ t e, bc (ix2 t e) = ((Recur.bs (sF σ G gi) 0 (σ t) : ℝ) : EReal) := fun t e => by
    rw [ebc, kB_at (fun t s => (σ s : ℕ) ≤ σ t) G htri h3, bs_seqOf]; rfl
  have fbr : ∀ s, br (ix2 0 s) = ((Recur.bs (sF σ G gi) 0 (σ s) : ℝ) : EReal) := fun s => by
    rw [ebr, kBt_at (fun t s => (σ s : ℕ) ≤ σ t) G htrit h4, bs_seqOf]; rfl
  have fi : ∀ t, G t ⟨gi, by omega⟩ = sI σ G gi (0 + σ t) := fun t => (seqOf_at σ (fun t => G t ⟨gi, by omega⟩) t).symm
  have fx : ∀ (X : Fin 256 → Fin 512 → ℝ) t (d : Fin 128), X t ⟨128 * hd + d, by omega⟩ = sX σ hd X (0 + σ t) d :=
    fun X t d => (seqOf_at σ (fun t => X t ⟨128 * hd + d, by omega⟩) t).symm
  obtain ⟨a, b, c'⟩ := head_out σ last hlast (sF σ G gi) (sI σ G gi) (sX σ hd Q) (sX σ hd K) (sX σ hd V) 0 hmask
    fbc fbr (ir := ir) (fun s => by rw [eir, h4, fi]) (ic := ic) (fun t e => by rw [eic, h3, fi])
    (mp := mp) (fun e => by rw [emp, Recur.mx]; rfl)
    (qv := qv) (fun t d => by rw [eq, h0, fx Q]) (kv := kv) (fun t d => by rw [ek, h1, fx K])
    (vv := vv) (fun t d => by rw [ev, h2, fx V]) (c := c) (fun d e => by rw [ec, Recur.acc, mul_zero]; rfl)
    (fun d e => by rw [ec, Recur.acc, mul_zero]; rfl)
  refine ⟨fun t e => (a t e).trans ?_, fun e => (b last e).trans ?_, fun ml bl hml hbl => ?_⟩
  · simp only [oH, fx Q, zero_add]
  · rw [hlast]; rfl
  · have := c' ml bl (fun e => by rw [hml, b last e, hlast]) (fun e => by rw [hbl, fbc, hlast])
    simp only [zero_add] at this
    exact fun d => split_e (this d)

end

end Cert.KernelIdeal.Head

end

end
-- ==== Proof.Heads.lean ====
/- The eight heads of the kernel's body, each an instance of the one expression for a head. -/
module

public import proofs.«01_k».proof.Proof.Gen.KernelIdeal.Value
public import Idealize.ShloMosaic.Lib.Pipeline.ValueKit
public import Idealize.ShloMosaic.Lib.Pipeline.ReadBack
public import proofs.«01_k».proof.Proof.HeadOut

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Head

theorem last_fwd : ((Equiv.refl (Fin 256)) 255 : ℕ) = 255 := rfl
theorem last_bwd : ((Fin.revPerm : Equiv.Perm (Fin 256)) 0 : ℕ) = 255 := rfl

/-- Which token reads which, forward: the mask and the two triangles the running sums multiply by. -/
def triF : FVec Ideal S256x256 .bf16 := truncf .bf16 (sitofp .f32 (extui 32 k0_pay8 natLt_1_32)) bitsLt_bf16_f32
def tritF : FVec Ideal S256x256 .bf16 :=
  truncf .bf16 (sitofp .f32 (extui 32 (cmpi .sle (iota .tc S256x256 32 [0] iota_S256x256_d0_w32)
    (iota .tc S256x256 32 [1] iota_S256x256_d1_w32)) natLt_1_32)) bitsLt_bf16_f32

theorem triF_at (t s : Fin 256) : triF (ix2 t s)
    = (((if ((Equiv.refl (Fin 256)) s : ℕ) ≤ (Equiv.refl (Fin 256)) t then 1 else 0 : ℝ)) : EReal) := by
  refine Eq.trans ?_ (tri_val _)
  pointwise [triF]
  rw [mask_fwd]
  rfl

theorem tritF_at (s t : Fin 256) : tritF (ix2 s t)
    = (((if ((Equiv.refl (Fin 256)) s : ℕ) ≤ (Equiv.refl (Fin 256)) t then 1 else 0 : ℝ)) : EReal) := by
  refine Eq.trans ?_ (tri_val _)
  pointwise [tritF]
  word_cmp
  rfl

/-- The same backward. -/
def ioR : IVec S256x256 32 := iota .tc S256x256 32 [0] iota_S256x256_d0_w32
def ioC : IVec S256x256 32 := iota .tc S256x256 32 [1] iota_S256x256_d1_w32

theorem rev_le (s t : Fin 256) : ((Fin.revPerm : Equiv.Perm (Fin 256)) s : ℕ) ≤ (Fin.revPerm : Equiv.Perm (Fin 256)) t ↔ (t : ℕ) ≤ s := by
  simp only [Fin.revPerm_apply, Fin.val_rev]
  omega

theorem mask_bwd (t s : Fin 256) : k0_pay66 ioR ioC (ix2 t s)
    = BitVec.ofBool (decide (((Fin.revPerm : Equiv.Perm (Fin 256)) s : ℕ) ≤ (Fin.revPerm : Equiv.Perm (Fin 256)) t)) := by
  simp only [rev_le]
  pointwise [k0_pay66, ioR, ioC]
  word_cmp

theorem triB_at (t s : Fin 256) : (k0_pay67 ioR ioC : FVec Ideal S256x256 .bf16) (ix2 t s)
    = (((if ((Fin.revPerm : Equiv.Perm (Fin 256)) s : ℕ) ≤ (Fin.revPerm : Equiv.Perm (Fin 256)) t then 1 else 0 : ℝ)) : EReal) := by
  refine Eq.trans ?_ (tri_val _)
  pointwise [k0_pay67]
  rw [mask_bwd]

theorem tritB_at (s t : Fin 256) : (k0_pay68 ioR ioC : FVec Ideal S256x256 .bf16) (ix2 s t)
    = (((if ((Fin.revPerm : Equiv.Perm (Fin 256)) s : ℕ) ≤ (Fin.revPerm : Equiv.Perm (Fin 256)) t then 1 else 0 : ℝ)) : EReal) := by
  refine Eq.trans ?_ (tri_val _)
  simp only [rev_le]
  pointwise [k0_pay68, ioR, ioC]
  word_cmp

section

variable {Q K V : Fin 256 → Fin 512 → ℝ} {G : Fin 256 → Fin 128 → ℝ}

set_option maxHeartbeats 1600000 in
theorem head0 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 0] S256x128.size inb_S256x512_S256x128_0_0) = qv)
    (ekv : View.ld (Val := Elt Ideal) (e' := .bf16) x1 (Rect.unit (s := S256x512) ![0, 0] S256x128.size inb_S256x512_S256x128_0_0) = kv)
    (evv : View.ld (Val := Elt Ideal) (e' := .bf16) x2 (Rect.unit (s := S256x512) ![0, 0] S256x128.size inb_S256x512_S256x128_0_0) = vv)
    (emp : View.ld (Val := Elt Ideal) (e' := .f32) (k0_pay6 (F := Ideal) x11) (Rect.unit (s := S8x128) ![0, 0] S1x128.size inb_S8x128_S1x128_0_0) = mp)
    (ecv : View.ld (Val := Elt Ideal) (e' := .f32) (k0_pay5 (F := Ideal) x10) (Rect.unit (s := S8x128x256) ![0, 0, 0] S1x128x256.size inb_S8x128x256_S1x128x256_0_0_0) = cv) :
    (∀ t e, hH (hD k0_pay8 (k0_pay13 x3) (extractStridedSlice S1x256 ![8, 0] (k0_pay11 x4) slices_S128x256_o8_0_S1x256)
        (extractStridedSlice S1x256 ![0, 0] (k0_pay9 x4) slices_S128x256_o0_0_S1x256)) (hI (k0_pay13 x3) mp)
        (hM (hD k0_pay8 (k0_pay13 x3) (extractStridedSlice S1x256 ![8, 0] (k0_pay11 x4) slices_S128x256_o8_0_S1x256)
        (extractStridedSlice S1x256 ![0, 0] (k0_pay9 x4) slices_S128x256_o0_0_S1x256)) (hI (k0_pay13 x3) mp))
        qv kv vv cv (ix2 t e)
        = ((oH (Equiv.refl (Fin 256)) Q K V G 0 0 t e : ℝ) : EReal))
      ∧ (∀ e, hM (hD k0_pay8 (k0_pay13 x3) (extractStridedSlice S1x256 ![8, 0] (k0_pay11 x4) slices_S128x256_o8_0_S1x256)
        (extractStridedSlice S1x256 ![0, 0] (k0_pay9 x4) slices_S128x256_o0_0_S1x256)) (hI (k0_pay13 x3) mp) (ix2 255 e)
        = ((oM (Equiv.refl (Fin 256)) G 0 : ℝ) : EReal))
      ∧ (∀ ml bl : FVec Ideal S1x128 .f32, (∀ e, ml (ix2 0 e) = hM (hD k0_pay8 (k0_pay13 x3) (extractStridedSlice S1x256 ![8, 0] (k0_pay11 x4) slices_S128x256_o8_0_S1x256)
        (extractStridedSlice S1x256 ![0, 0] (k0_pay9 x4) slices_S128x256_o0_0_S1x256)) (hI (k0_pay13 x3) mp) (ix2 255 e)) →
          (∀ e, bl (ix2 0 e) = (k0_pay13 x3) (ix2 255 e)) → ∀ d (e : Fin 256),
          hC ml bl mp (k0_pay13 x3) (k0_pay12 x3) kv vv cv (ix3 0 d e)
              = (((if h : (e : ℕ) < 128 then oC (Equiv.refl (Fin 256)) K V G 0 0 d ⟨e, h⟩ else oN (Equiv.refl (Fin 256)) K G 0 0 d : ℝ)) : EReal)) := by
  subst eqv ekv evv emp ecv
  refine head_blk 0 0 255 last_fwd mask_fwd triF_at tritF_at h0 h1 h2 h3 (x4 := k0_pay9 x4) ?_ ?_ ?_ ?_ ?_ ?_ ?_ ?_ ?_ ?_
  · intro r j; pointwise [k0_pay9]; exact h4 r j
  · intro t e; pointwise [k0_pay13] <;> rfl
  · intro s; pointwise <;> rfl
  · intro s; pointwise <;> rfl
  · intro t e; pointwise [k0_pay12] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head1 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 128] S256x128.size inb_S256x512_S256x128_0_128) = qv)
    (ekv : View.ld (Val := Elt Ideal) (e' := .bf16) x1 (Rect.unit (s := S256x512) ![0, 128] S256x128.size inb_S256x512_S256x128_0_128) = kv)
    (evv : View.ld (Val := Elt Ideal) (e' := .bf16) x2 (Rect.unit (s := S256x512) ![0, 128] S256x128.size inb_S256x512_S256x128_0_128) = vv)
    (emp : View.ld (Val := Elt Ideal) (e' := .f32) (k0_pay6 (F := Ideal) x11) (Rect.unit (s := S8x128) ![1, 0] S1x128.size inb_S8x128_S1x128_1_0) = mp)
    (ecv : View.ld (Val := Elt Ideal) (e' := .f32) (k0_pay5 (F := Ideal) x10) (Rect.unit (s := S8x128x256) ![1, 0, 0] S1x128x256.size inb_S8x128x256_S1x128x256_1_0_0) = cv) :
    (∀ t e, hH (hD k0_pay8 (k0_pay26 (k0_pay10 x3)) (extractStridedSlice S1x256 ![9, 0] (k0_pay11 x4) slices_S128x256_o9_0_S1x256)
        (extractStridedSlice S1x256 ![1, 0] (k0_pay9 x4) slices_S128x256_o1_0_S1x256)) (hI (k0_pay26 (k0_pay10 x3)) mp)
        (hM (hD k0_pay8 (k0_pay26 (k0_pay10 x3)) (extractStridedSlice S1x256 ![9, 0] (k0_pay11 x4) slices_S128x256_o9_0_S1x256)
        (extractStridedSlice S1x256 ![1, 0] (k0_pay9 x4) slices_S128x256_o1_0_S1x256)) (hI (k0_pay26 (k0_pay10 x3)) mp))
        qv kv vv cv (ix2 t e)
        = ((oH (Equiv.refl (Fin 256)) Q K V G 1 1 t e : ℝ) : EReal))
      ∧ (∀ e, hM (hD k0_pay8 (k0_pay26 (k0_pay10 x3)) (extractStridedSlice S1x256 ![9, 0] (k0_pay11 x4) slices_S128x256_o9_0_S1x256)
        (extractStridedSlice S1x256 ![1, 0] (k0_pay9 x4) slices_S128x256_o1_0_S1x256)) (hI (k0_pay26 (k0_pay10 x3)) mp) (ix2 255 e)
        = ((oM (Equiv.refl (Fin 256)) G 1 : ℝ) : EReal))
      ∧ (∀ ml bl : FVec Ideal S1x128 .f32, (∀ e, ml (ix2 0 e) = hM (hD k0_pay8 (k0_pay26 (k0_pay10 x3)) (extractStridedSlice S1x256 ![9, 0] (k0_pay11 x4) slices_S128x256_o9_0_S1x256)
        (extractStridedSlice S1x256 ![1, 0] (k0_pay9 x4) slices_S128x256_o1_0_S1x256)) (hI (k0_pay26 (k0_pay10 x3)) mp) (ix2 255 e)) →
          (∀ e, bl (ix2 0 e) = (k0_pay26 (k0_pay10 x3)) (ix2 255 e)) → ∀ d (e : Fin 256),
          hC ml bl mp (k0_pay26 (k0_pay10 x3)) (k0_pay25 x3) kv vv cv (ix3 0 d e)
              = (((if h : (e : ℕ) < 128 then oC (Equiv.refl (Fin 256)) K V G 1 1 d ⟨e, h⟩ else oN (Equiv.refl (Fin 256)) K G 1 1 d : ℝ)) : EReal)) := by
  subst eqv ekv evv emp ecv
  refine head_blk 1 1 255 last_fwd mask_fwd triF_at tritF_at h0 h1 h2 h3 (x4 := k0_pay9 x4) ?_ ?_ ?_ ?_ ?_ ?_ ?_ ?_ ?_ ?_
  · intro r j; pointwise [k0_pay9]; exact h4 r j
  · intro t e; pointwise [k0_pay26] <;> rfl
  · intro s; pointwise <;> rfl
  · intro s; pointwise <;> rfl
  · intro t e; pointwise [k0_pay25] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head2 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 256] S256x128.size inb_S256x512_S256x128_0_256) = qv)
    (ekv : View.ld (Val := Elt Ideal) (e' := .bf16) x1 (Rect.unit (s := S256x512) ![0, 256] S256x128.size inb_S256x512_S256x128_0_256) = kv)
    (evv : View.ld (Val := Elt Ideal) (e' := .bf16) x2 (Rect.unit (s := S256x512) ![0, 256] S256x128.size inb_S256x512_S256x128_0_256) = vv)
    (emp : View.ld (Val := Elt Ideal) (e' := .f32) (k0_pay6 (F := Ideal) x11) (Rect.unit (s := S8x128) ![2, 0] S1x128.size inb_S8x128_S1x128_2_0) = mp)
    (ecv : View.ld (Val := Elt Ideal) (e' := .f32) (k0_pay5 (F := Ideal) x10) (Rect.unit (s := S8x128x256) ![2, 0, 0] S1x128x256.size inb_S8x128x256_S1x128x256_2_0_0) = cv) :
    (∀ t e, hH (hD k0_pay8 (k0_pay40 (k0_pay10 x3)) (extractStridedSlice S1x256 ![10, 0] (k0_pay11 x4) slices_S128x256_o10_0_S1x256)
        (extractStridedSlice S1x256 ![2, 0] (k0_pay9 x4) slices_S128x256_o2_0_S1x256)) (hI (k0_pay40 (k0_pay10 x3)) mp)
        (hM (hD k0_pay8 (k0_pay40 (k0_pay10 x3)) (extractStridedSlice S1x256 ![10, 0] (k0_pay11 x4) slices_S128x256_o10_0_S1x256)
        (extractStridedSlice S1x256 ![2, 0] (k0_pay9 x4) slices_S128x256_o2_0_S1x256)) (hI (k0_pay40 (k0_pay10 x3)) mp))
        qv kv vv cv (ix2 t e)
        = ((oH (Equiv.refl (Fin 256)) Q K V G 2 2 t e : ℝ) : EReal))
      ∧ (∀ e, hM (hD k0_pay8 (k0_pay40 (k0_pay10 x3)) (extractStridedSlice S1x256 ![10, 0] (k0_pay11 x4) slices_S128x256_o10_0_S1x256)
        (extractStridedSlice S1x256 ![2, 0] (k0_pay9 x4) slices_S128x256_o2_0_S1x256)) (hI (k0_pay40 (k0_pay10 x3)) mp) (ix2 255 e)
        = ((oM (Equiv.refl (Fin 256)) G 2 : ℝ) : EReal))
      ∧ (∀ ml bl : FVec Ideal S1x128 .f32, (∀ e, ml (ix2 0 e) = hM (hD k0_pay8 (k0_pay40 (k0_pay10 x3)) (extractStridedSlice S1x256 ![10, 0] (k0_pay11 x4) slices_S128x256_o10_0_S1x256)
        (extractStridedSlice S1x256 ![2, 0] (k0_pay9 x4) slices_S128x256_o2_0_S1x256)) (hI (k0_pay40 (k0_pay10 x3)) mp) (ix2 255 e)) →
          (∀ e, bl (ix2 0 e) = (k0_pay40 (k0_pay10 x3)) (ix2 255 e)) → ∀ d (e : Fin 256),
          hC ml bl mp (k0_pay40 (k0_pay10 x3)) (k0_pay39 x3) kv vv cv (ix3 0 d e)
              = (((if h : (e : ℕ) < 128 then oC (Equiv.refl (Fin 256)) K V G 2 2 d ⟨e, h⟩ else oN (Equiv.refl (Fin 256)) K G 2 2 d : ℝ)) : EReal)) := by
  subst eqv ekv evv emp ecv
  refine head_blk 2 2 255 last_fwd mask_fwd triF_at tritF_at h0 h1 h2 h3 (x4 := k0_pay9 x4) ?_ ?_ ?_ ?_ ?_ ?_ ?_ ?_ ?_ ?_
  · intro r j; pointwise [k0_pay9]; exact h4 r j
  · intro t e; pointwise [k0_pay40] <;> rfl
  · intro s; pointwise <;> rfl
  · intro s; pointwise <;> rfl
  · intro t e; pointwise [k0_pay39] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head3 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 384] S256x128.size inb_S256x512_S256x128_0_384) = qv)
    (ekv : View.ld (Val := Elt Ideal) (e' := .bf16) x1 (Rect.unit (s := S256x512) ![0, 384] S256x128.size inb_S256x512_S256x128_0_384) = kv)
    (evv : View.ld (Val := Elt Ideal) (e' := .bf16) x2 (Rect.unit (s := S256x512) ![0, 384] S256x128.size inb_S256x512_S256x128_0_384) = vv)
    (emp : View.ld (Val := Elt Ideal) (e' := .f32) (k0_pay6 (F := Ideal) x11) (Rect.unit (s := S8x128) ![3, 0] S1x128.size inb_S8x128_S1x128_3_0) = mp)
    (ecv : View.ld (Val := Elt Ideal) (e' := .f32) (k0_pay5 (F := Ideal) x10) (Rect.unit (s := S8x128x256) ![3, 0, 0] S1x128x256.size inb_S8x128x256_S1x128x256_3_0_0) = cv) :
    (∀ t e, hH (hD k0_pay8 (k0_pay53 (k0_pay10 x3)) (extractStridedSlice S1x256 ![11, 0] (k0_pay11 x4) slices_S128x256_o11_0_S1x256)
        (extractStridedSlice S1x256 ![3, 0] (k0_pay9 x4) slices_S128x256_o3_0_S1x256)) (hI (k0_pay53 (k0_pay10 x3)) mp)
        (hM (hD k0_pay8 (k0_pay53 (k0_pay10 x3)) (extractStridedSlice S1x256 ![11, 0] (k0_pay11 x4) slices_S128x256_o11_0_S1x256)
        (extractStridedSlice S1x256 ![3, 0] (k0_pay9 x4) slices_S128x256_o3_0_S1x256)) (hI (k0_pay53 (k0_pay10 x3)) mp))
        qv kv vv cv (ix2 t e)
        = ((oH (Equiv.refl (Fin 256)) Q K V G 3 3 t e : ℝ) : EReal))
      ∧ (∀ e, hM (hD k0_pay8 (k0_pay53 (k0_pay10 x3)) (extractStridedSlice S1x256 ![11, 0] (k0_pay11 x4) slices_S128x256_o11_0_S1x256)
        (extractStridedSlice S1x256 ![3, 0] (k0_pay9 x4) slices_S128x256_o3_0_S1x256)) (hI (k0_pay53 (k0_pay10 x3)) mp) (ix2 255 e)
        = ((oM (Equiv.refl (Fin 256)) G 3 : ℝ) : EReal))
      ∧ (∀ ml bl : FVec Ideal S1x128 .f32, (∀ e, ml (ix2 0 e) = hM (hD k0_pay8 (k0_pay53 (k0_pay10 x3)) (extractStridedSlice S1x256 ![11, 0] (k0_pay11 x4) slices_S128x256_o11_0_S1x256)
        (extractStridedSlice S1x256 ![3, 0] (k0_pay9 x4) slices_S128x256_o3_0_S1x256)) (hI (k0_pay53 (k0_pay10 x3)) mp) (ix2 255 e)) →
          (∀ e, bl (ix2 0 e) = (k0_pay53 (k0_pay10 x3)) (ix2 255 e)) → ∀ d (e : Fin 256),
          hC ml bl mp (k0_pay53 (k0_pay10 x3)) (k0_pay52 x3) kv vv cv (ix3 0 d e)
              = (((if h : (e : ℕ) < 128 then oC (Equiv.refl (Fin 256)) K V G 3 3 d ⟨e, h⟩ else oN (Equiv.refl (Fin 256)) K G 3 3 d : ℝ)) : EReal)) := by
  subst eqv ekv evv emp ecv
  refine head_blk 3 3 255 last_fwd mask_fwd triF_at tritF_at h0 h1 h2 h3 (x4 := k0_pay9 x4) ?_ ?_ ?_ ?_ ?_ ?_ ?_ ?_ ?_ ?_
  · intro r j; pointwise [k0_pay9]; exact h4 r j
  · intro t e; pointwise [k0_pay53] <;> rfl
  · intro s; pointwise <;> rfl
  · intro s; pointwise <;> rfl
  · intro t e; pointwise [k0_pay52] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head4 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 0] S256x128.size inb_S256x512_S256x128_0_0) = qv)
    (ekv : View.ld (Val := Elt Ideal) (e' := .bf16) x1 (Rect.unit (s := S256x512) ![0, 0] S256x128.size inb_S256x512_S256x128_0_0) = kv)
    (evv : View.ld (Val := Elt Ideal) (e' := .bf16) x2 (Rect.unit (s := S256x512) ![0, 0] S256x128.size inb_S256x512_S256x128_0_0) = vv)
    (emp : View.ld (Val := Elt Ideal) (e' := .f32) (k0_pay6 (F := Ideal) x11) (Rect.unit (s := S8x128) ![4, 0] S1x128.size inb_S8x128_S1x128_4_0) = mp)
    (ecv : View.ld (Val := Elt Ideal) (e' := .f32) (k0_pay5 (F := Ideal) x10) (Rect.unit (s := S8x128x256) ![4, 0, 0] S1x128x256.size inb_S8x128x256_S1x128x256_4_0_0) = cv) :
    (∀ t e, hH (hD (k0_pay66 ioR ioC) (k0_pay73 (k0_pay67 ioR ioC) x3) (extractStridedSlice S1x256 ![12, 0] (k0_pay71 (k0_pay68 ioR ioC) (k0_pay69 x4)) slices_S128x256_o12_0_S1x256)
        (extractStridedSlice S1x256 ![4, 0] (k0_pay69 x4) slices_S128x256_o4_0_S1x256)) (hI (k0_pay73 (k0_pay67 ioR ioC) x3) mp)
        (hM (hD (k0_pay66 ioR ioC) (k0_pay73 (k0_pay67 ioR ioC) x3) (extractStridedSlice S1x256 ![12, 0] (k0_pay71 (k0_pay68 ioR ioC) (k0_pay69 x4)) slices_S128x256_o12_0_S1x256)
        (extractStridedSlice S1x256 ![4, 0] (k0_pay69 x4) slices_S128x256_o4_0_S1x256)) (hI (k0_pay73 (k0_pay67 ioR ioC) x3) mp))
        qv kv vv cv (ix2 t e)
        = ((oH Fin.revPerm Q K V G 4 0 t e : ℝ) : EReal))
      ∧ (∀ e, hM (hD (k0_pay66 ioR ioC) (k0_pay73 (k0_pay67 ioR ioC) x3) (extractStridedSlice S1x256 ![12, 0] (k0_pay71 (k0_pay68 ioR ioC) (k0_pay69 x4)) slices_S128x256_o12_0_S1x256)
        (extractStridedSlice S1x256 ![4, 0] (k0_pay69 x4) slices_S128x256_o4_0_S1x256)) (hI (k0_pay73 (k0_pay67 ioR ioC) x3) mp) (ix2 0 e)
        = ((oM Fin.revPerm G 4 : ℝ) : EReal))
      ∧ (∀ ml bl : FVec Ideal S1x128 .f32, (∀ e, ml (ix2 0 e) = hM (hD (k0_pay66 ioR ioC) (k0_pay73 (k0_pay67 ioR ioC) x3) (extractStridedSlice S1x256 ![12, 0] (k0_pay71 (k0_pay68 ioR ioC) (k0_pay69 x4)) slices_S128x256_o12_0_S1x256)
        (extractStridedSlice S1x256 ![4, 0] (k0_pay69 x4) slices_S128x256_o4_0_S1x256)) (hI (k0_pay73 (k0_pay67 ioR ioC) x3) mp) (ix2 0 e)) →
          (∀ e, bl (ix2 0 e) = (k0_pay73 (k0_pay67 ioR ioC) x3) (ix2 0 e)) → ∀ d (e : Fin 256),
          hC ml bl mp (k0_pay73 (k0_pay67 ioR ioC) x3) (k0_pay72 x3) kv vv cv (ix3 0 d e)
              = (((if h : (e : ℕ) < 128 then oC Fin.revPerm K V G 4 0 d ⟨e, h⟩ else oN Fin.revPerm K G 4 0 d : ℝ)) : EReal)) := by
  subst eqv ekv evv emp ecv
  refine head_blk 4 0 0 last_bwd mask_bwd triB_at tritB_at h0 h1 h2 h3 (x4 := k0_pay69 x4) ?_ ?_ ?_ ?_ ?_ ?_ ?_ ?_ ?_ ?_
  · intro r j; pointwise [k0_pay69]; exact h4 r j
  · intro t e; pointwise [k0_pay73] <;> rfl
  · intro s; pointwise <;> rfl
  · intro s; pointwise <;> rfl
  · intro t e; pointwise [k0_pay72] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head5 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 128] S256x128.size inb_S256x512_S256x128_0_128) = qv)
    (ekv : View.ld (Val := Elt Ideal) (e' := .bf16) x1 (Rect.unit (s := S256x512) ![0, 128] S256x128.size inb_S256x512_S256x128_0_128) = kv)
    (evv : View.ld (Val := Elt Ideal) (e' := .bf16) x2 (Rect.unit (s := S256x512) ![0, 128] S256x128.size inb_S256x512_S256x128_0_128) = vv)
    (emp : View.ld (Val := Elt Ideal) (e' := .f32) (k0_pay6 (F := Ideal) x11) (Rect.unit (s := S8x128) ![5, 0] S1x128.size inb_S8x128_S1x128_5_0) = mp)
    (ecv : View.ld (Val := Elt Ideal) (e' := .f32) (k0_pay5 (F := Ideal) x10) (Rect.unit (s := S8x128x256) ![5, 0, 0] S1x128x256.size inb_S8x128x256_S1x128x256_5_0_0) = cv) :
    (∀ t e, hH (hD (k0_pay66 ioR ioC) (k0_pay86 (k0_pay70 (k0_pay67 ioR ioC) x3)) (extractStridedSlice S1x256 ![13, 0] (k0_pay71 (k0_pay68 ioR ioC) (k0_pay69 x4)) slices_S128x256_o13_0_S1x256)
        (extractStridedSlice S1x256 ![5, 0] (k0_pay69 x4) slices_S128x256_o5_0_S1x256)) (hI (k0_pay86 (k0_pay70 (k0_pay67 ioR ioC) x3)) mp)
        (hM (hD (k0_pay66 ioR ioC) (k0_pay86 (k0_pay70 (k0_pay67 ioR ioC) x3)) (extractStridedSlice S1x256 ![13, 0] (k0_pay71 (k0_pay68 ioR ioC) (k0_pay69 x4)) slices_S128x256_o13_0_S1x256)
        (extractStridedSlice S1x256 ![5, 0] (k0_pay69 x4) slices_S128x256_o5_0_S1x256)) (hI (k0_pay86 (k0_pay70 (k0_pay67 ioR ioC) x3)) mp))
        qv kv vv cv (ix2 t e)
        = ((oH Fin.revPerm Q K V G 5 1 t e : ℝ) : EReal))
      ∧ (∀ e, hM (hD (k0_pay66 ioR ioC) (k0_pay86 (k0_pay70 (k0_pay67 ioR ioC) x3)) (extractStridedSlice S1x256 ![13, 0] (k0_pay71 (k0_pay68 ioR ioC) (k0_pay69 x4)) slices_S128x256_o13_0_S1x256)
        (extractStridedSlice S1x256 ![5, 0] (k0_pay69 x4) slices_S128x256_o5_0_S1x256)) (hI (k0_pay86 (k0_pay70 (k0_pay67 ioR ioC) x3)) mp) (ix2 0 e)
        = ((oM Fin.revPerm G 5 : ℝ) : EReal))
      ∧ (∀ ml bl : FVec Ideal S1x128 .f32, (∀ e, ml (ix2 0 e) = hM (hD (k0_pay66 ioR ioC) (k0_pay86 (k0_pay70 (k0_pay67 ioR ioC) x3)) (extractStridedSlice S1x256 ![13, 0] (k0_pay71 (k0_pay68 ioR ioC) (k0_pay69 x4)) slices_S128x256_o13_0_S1x256)
        (extractStridedSlice S1x256 ![5, 0] (k0_pay69 x4) slices_S128x256_o5_0_S1x256)) (hI (k0_pay86 (k0_pay70 (k0_pay67 ioR ioC) x3)) mp) (ix2 0 e)) →
          (∀ e, bl (ix2 0 e) = (k0_pay86 (k0_pay70 (k0_pay67 ioR ioC) x3)) (ix2 0 e)) → ∀ d (e : Fin 256),
          hC ml bl mp (k0_pay86 (k0_pay70 (k0_pay67 ioR ioC) x3)) (k0_pay85 x3) kv vv cv (ix3 0 d e)
              = (((if h : (e : ℕ) < 128 then oC Fin.revPerm K V G 5 1 d ⟨e, h⟩ else oN Fin.revPerm K G 5 1 d : ℝ)) : EReal)) := by
  subst eqv ekv evv emp ecv
  refine head_blk 5 1 0 last_bwd mask_bwd triB_at tritB_at h0 h1 h2 h3 (x4 := k0_pay69 x4) ?_ ?_ ?_ ?_ ?_ ?_ ?_ ?_ ?_ ?_
  · intro r j; pointwise [k0_pay69]; exact h4 r j
  · intro t e; pointwise [k0_pay86] <;> rfl
  · intro s; pointwise <;> rfl
  · intro s; pointwise <;> rfl
  · intro t e; pointwise [k0_pay85] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head6 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 256] S256x128.size inb_S256x512_S256x128_0_256) = qv)
    (ekv : View.ld (Val := Elt Ideal) (e' := .bf16) x1 (Rect.unit (s := S256x512) ![0, 256] S256x128.size inb_S256x512_S256x128_0_256) = kv)
    (evv : View.ld (Val := Elt Ideal) (e' := .bf16) x2 (Rect.unit (s := S256x512) ![0, 256] S256x128.size inb_S256x512_S256x128_0_256) = vv)
    (emp : View.ld (Val := Elt Ideal) (e' := .f32) (k0_pay6 (F := Ideal) x11) (Rect.unit (s := S8x128) ![6, 0] S1x128.size inb_S8x128_S1x128_6_0) = mp)
    (ecv : View.ld (Val := Elt Ideal) (e' := .f32) (k0_pay5 (F := Ideal) x10) (Rect.unit (s := S8x128x256) ![6, 0, 0] S1x128x256.size inb_S8x128x256_S1x128x256_6_0_0) = cv) :
    (∀ t e, hH (hD (k0_pay66 ioR ioC) (k0_pay99 (k0_pay70 (k0_pay67 ioR ioC) x3)) (extractStridedSlice S1x256 ![14, 0] (k0_pay71 (k0_pay68 ioR ioC) (k0_pay69 x4)) slices_S128x256_o14_0_S1x256)
        (extractStridedSlice S1x256 ![6, 0] (k0_pay69 x4) slices_S128x256_o6_0_S1x256)) (hI (k0_pay99 (k0_pay70 (k0_pay67 ioR ioC) x3)) mp)
        (hM (hD (k0_pay66 ioR ioC) (k0_pay99 (k0_pay70 (k0_pay67 ioR ioC) x3)) (extractStridedSlice S1x256 ![14, 0] (k0_pay71 (k0_pay68 ioR ioC) (k0_pay69 x4)) slices_S128x256_o14_0_S1x256)
        (extractStridedSlice S1x256 ![6, 0] (k0_pay69 x4) slices_S128x256_o6_0_S1x256)) (hI (k0_pay99 (k0_pay70 (k0_pay67 ioR ioC) x3)) mp))
        qv kv vv cv (ix2 t e)
        = ((oH Fin.revPerm Q K V G 6 2 t e : ℝ) : EReal))
      ∧ (∀ e, hM (hD (k0_pay66 ioR ioC) (k0_pay99 (k0_pay70 (k0_pay67 ioR ioC) x3)) (extractStridedSlice S1x256 ![14, 0] (k0_pay71 (k0_pay68 ioR ioC) (k0_pay69 x4)) slices_S128x256_o14_0_S1x256)
        (extractStridedSlice S1x256 ![6, 0] (k0_pay69 x4) slices_S128x256_o6_0_S1x256)) (hI (k0_pay99 (k0_pay70 (k0_pay67 ioR ioC) x3)) mp) (ix2 0 e)
        = ((oM Fin.revPerm G 6 : ℝ) : EReal))
      ∧ (∀ ml bl : FVec Ideal S1x128 .f32, (∀ e, ml (ix2 0 e) = hM (hD (k0_pay66 ioR ioC) (k0_pay99 (k0_pay70 (k0_pay67 ioR ioC) x3)) (extractStridedSlice S1x256 ![14, 0] (k0_pay71 (k0_pay68 ioR ioC) (k0_pay69 x4)) slices_S128x256_o14_0_S1x256)
        (extractStridedSlice S1x256 ![6, 0] (k0_pay69 x4) slices_S128x256_o6_0_S1x256)) (hI (k0_pay99 (k0_pay70 (k0_pay67 ioR ioC) x3)) mp) (ix2 0 e)) →
          (∀ e, bl (ix2 0 e) = (k0_pay99 (k0_pay70 (k0_pay67 ioR ioC) x3)) (ix2 0 e)) → ∀ d (e : Fin 256),
          hC ml bl mp (k0_pay99 (k0_pay70 (k0_pay67 ioR ioC) x3)) (k0_pay98 x3) kv vv cv (ix3 0 d e)
              = (((if h : (e : ℕ) < 128 then oC Fin.revPerm K V G 6 2 d ⟨e, h⟩ else oN Fin.revPerm K G 6 2 d : ℝ)) : EReal)) := by
  subst eqv ekv evv emp ecv
  refine head_blk 6 2 0 last_bwd mask_bwd triB_at tritB_at h0 h1 h2 h3 (x4 := k0_pay69 x4) ?_ ?_ ?_ ?_ ?_ ?_ ?_ ?_ ?_ ?_
  · intro r j; pointwise [k0_pay69]; exact h4 r j
  · intro t e; pointwise [k0_pay99] <;> rfl
  · intro s; pointwise <;> rfl
  · intro s; pointwise <;> rfl
  · intro t e; pointwise [k0_pay98] <;> rfl
  · intro e; pointwise [k0_pay6]; exact h11 _ _
  · intro t d; pointwise <;> rfl
  · intro t d; pointwise <;> rfl
  · intro t d; pointwise <;> rfl
  · intro d e; pointwise [k0_pay5]; exact h10 _ _ _

set_option maxHeartbeats 1600000 in
theorem head7 {x0 x1 x2 : FVec Ideal S256x512 .bf16} {x3 : FVec Ideal S256x128 .f32} {x4 : FVec Ideal S128x256 .f32}
    {x10 : FVec Ideal S1x8x128x256 .f32} {x11 : FVec Ideal S1x8x128 .f32}
    (h0 : ∀ r j, x0 (ix2 r j) = ((Q r j : ℝ) : EReal)) (h1 : ∀ r j, x1 (ix2 r j) = ((K r j : ℝ) : EReal))
    (h2 : ∀ r j, x2 (ix2 r j) = ((V r j : ℝ) : EReal)) (h3 : ∀ r j, x3 (ix2 r j) = ((G r j : ℝ) : EReal))
    (h4 : ∀ r j, x4 (ix2 j r) = ((G r j : ℝ) : EReal)) (h10 : ∀ g d e, x10 (ix4 0 g d e) = 0)
    (h11 : ∀ g e, x11 (ix3 0 g e) = 0)
    {mp : FVec Ideal S1x128 .f32} {cv : FVec Ideal S1x128x256 .f32} {qv kv vv : FVec Ideal S256x128 .bf16}
    (eqv : View.ld (Val := Elt Ideal) (e' := .bf16) x0 (Rect.unit (s := S256x512) ![0, 384] S256x128.size inb_S256x512_S256x128_0_384) = qv)
    (ekv : View.ld (Val := Elt Ideal) (e' := .bf16) x1 (Rect.unit (s := S256x512) ![0, 384] S256x128.size inb_S256x512_S256x128_0_384) = kv)
    (evv : View.ld (Val := Elt Ideal) (e' := .bf16) x2 (Rect.unit (s := S256x512) ![0, 384] S256x128.size inb_S256x512_S256x128_0_384) = vv)
    (emp : View.ld (Val := Elt Ideal) (e' := .f32) (k0_pay6 (F := Ideal) x11) (Rect.unit (s := S8x128) ![7, 0] S1x128.size inb_S8x128_S1x128_7_0) = mp)
    (ecv : View.ld (Val := Elt Ideal) (e' := .f32) (k0_pay5 (F := Ideal) x10) (Rect.unit (s := S8x128x256) ![7, 0, 0] S1x128x256.size inb_S8x128x256_S1x128x256_7_0_0) = cv) :
    (∀ t e, hH (hD (k0_pay66 ioR ioC) (k0_pay110 (k0_pay70 (k0_pay67 ioR ioC) x3)) (extractStridedSlice S1x256 ![15, 0] (k0_pay71 (k0_pay68 ioR ioC) (k0_pay69 x4)) slices_S128x256_o15_0_S1x256)
        (extractStridedSlice S1x256 ![7, 0] (k0_pay69 x4) slices_S128x256_o7_0_S1x256)) (hI (k0_pay110 (k0_pay70 (k0_pay67 ioR ioC) x3)) mp)
        (hM (hD (k0_pay66 ioR ioC) (k0_pay110 (k0_pay70 (k0_pay67 ioR ioC) x3)) (extractStridedSlice S1x256 ![15, 0] (k0_pay71 (k0_pay68 ioR ioC) (k0_pay69 x4)) slices_S128x256_o15_0_S1x256)
        (extractStridedSlice S1x256 ![7, 0] (k0_pay69 x4) slices_S128x256_o7_0_S1x256)) (hI (k0_pay110 (k0_pay70 (k0_pay67 ioR ioC) x3)) mp))
        qv kv vv cv (ix2 t e)
        = ((oH Fin.revPerm Q K V G 7 3 t e : ℝ) : EReal))
      ∧ (∀ e, hM (hD (k0_pay66 ioR ioC) (k0_pay110 (k0_pay70 (k0_pay67 ioR ioC) x3)) (extractStridedSlice S1x256 ![15, 0] (k0_pay71 (k0_pay68 ioR ioC) (k0_pay69 x4)) slices_S128x256_o15_0_S1x256)
        (extractStridedSlice S1x256 ![7, 0] (k0_pay69 x4) slices_S128x256_o7_0_S1x256)) (hI (k0_pay110 (k0_pay70 (k0_pay67 ioR ioC) x3)) mp) (ix2 0 e)
        = ((oM Fin.revPerm G 7 : ℝ) : EReal))
      ∧ (∀ ml bl : FVec Ideal S1x128 .f32, (∀ e, ml (ix2 0 e) = hM (hD (k0_pay66 ioR ioC) (k0_pay110 (k0_pay70 (k0_pay67 ioR ioC) x3)) (extractStridedSlice S1x256 ![15, 0] (k0_pay71 (k0_pay68 ioR ioC) (k0_pay69 x4)) slices_S128x256_o15_0_S1x256)
        (extractStridedSlice S1x256 ![7, 0] (k0_pay69 x4) slices_S128x256_o7_0_S1x256)) (hI (k0_pay110 (k0_pay70 (k0_pay67 ioR ioC) x3)) mp) (ix2 0 e)) →
          (∀ e, bl (ix2 0 e) = (k0_pay110 (k0_pay70 (k0_pay67 ioR ioC) x3)) (ix2 0 e)) → ∀ d (e : Fin 256),
          hC ml bl mp (k0_pay110 (k0_pay70 (k0_pay67 ioR ioC) x3)) (k0_pay109 x3) kv vv cv (ix3 0 d e)
              = (((if h : (e : ℕ) < 128 then oC Fin.revPerm K V G 7 3 d ⟨e, h⟩ else oN Fin.revPerm K G 7 3 d : ℝ)) : EReal)) := by
  subst eqv ekv evv emp ecv
  refine head_blk 7 3 0 last_bwd mask_bwd triB_at tritB_at h0 h1 h2 h3 (x4 := k0_pay69 x4) ?_ ?_ ?_ ?_ ?_ ?_ ?_ ?_ ?_ ?_
  · intro r j; pointwise [k0_pay69]; exact h4 r j
  · intro t e; pointwise [k0_pay110] <;> rfl
  · intro s; pointwise <;> rfl
  · intro s; pointwise <;> rfl
  · intro t e; pointwise [k0_pay109] <;> rfl
  · intro e; pointwise [k0_pay6]; exact h11 _ _
  · intro t d; pointwise <;> rfl
  · intro t d; pointwise <;> rfl
  · intro t d; pointwise <;> rfl
  · intro d e; pointwise [k0_pay5]; exact h10 _ _ _

end

end Cert.KernelIdeal.Body

end

end
-- ==== Proof.Mem.lean ====
/- What each head's store into the memory is: the one expression for a head's memory. -/
module

public import proofs.«01_k».proof.Proof.Gen.KernelIdeal.Value
public import Idealize.ShloMosaic.Lib.Pipeline.ValueKit
public import Idealize.ShloMosaic.Lib.Pipeline.ReadBack
public import proofs.«01_k».proof.Proof.Heads

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Head

section

variable (mask : IVec S256x256 1) (bc ic M I : FVec Ideal S256x128 .f32) (D d2 : FVec Ideal S256x256 .f32) (ml bl mp : FVec Ideal S1x128 .f32)
  (k v : FVec Ideal S256x128 .bf16) (c : FVec Ideal S1x128x256 .f32)

theorem mem0 : (k0_pay23 k ic mp (k0_pay17 c) (k0_pay18 k0_pay7 v) ml (k0_pay21 bc) (k0_pay22 bc) : FVec Ideal S1x128x256 .f32) = hC ml (k0_pay21 bc) mp bc ic k v c := rfl
theorem mem1 : (k0_pay37 (k0_pay31 k0_pay7 v) (k0_pay35 k ic bc D I) (k0_pay36 bc mp D I c) (constant S128x256 .f32 0x00000000#32) : FVec Ideal S1x128x256 .f32) = hC (k0_pay33 D I) (k0_pay34 bc) mp bc ic k v c := rfl
theorem mem2 : (k0_pay50 k0_pay7 k v ic bc mp M c : FVec Ideal S1x128x256 .f32) = hC (k0_pay49 M) (extractStridedSlice S1x128 ![255, 0] bc slices_S256x128_o255_0_S1x128) mp bc ic k v c := rfl
theorem mem3 : (k0_pay64 k ic bc mp M (k0_pay57 c) (k0_pay58 k0_pay7 v) : FVec Ideal S1x128x256 .f32) = hC (k0_pay63 M) (extractStridedSlice S1x128 ![255, 0] bc slices_S256x128_o255_0_S1x128) mp bc ic k v c := rfl
theorem mem4 : (k0_pay83 k0_pay7 k v ic bc mp M c : FVec Ideal S1x128x256 .f32) = hC (k0_pay82 M) (extractStridedSlice S1x128 ![0, 0] bc slices_S256x128_o0_0_S1x128) mp bc ic k v c := rfl
theorem mem5 : (k0_pay96 k ic bc mp M (k0_pay90 c) (k0_pay91 k0_pay7 v) : FVec Ideal S1x128x256 .f32) = hC (k0_pay95 M) (extractStridedSlice S1x128 ![0, 0] bc slices_S256x128_o0_0_S1x128) mp bc ic k v c := rfl
theorem mem6 : (k0_pay107 k ic bc mp (k0_pay103 c) (k0_pay104 k0_pay7 v) ml : FVec Ideal S1x128x256 .f32) = hC ml (extractStridedSlice S1x128 ![0, 0] bc slices_S256x128_o0_0_S1x128) mp bc ic k v c := rfl
theorem mem7 : (k0_pay1 (k0_pay116 c) (k0_pay117 k0_pay7 v) (k0_pay121 mask k ic bc mp D d2) (k0_pay122 mask bc mp D d2) : FVec Ideal S1x128x256 .f32) = hC (k0_pay119 mask bc mp D d2) (k0_pay120 bc) mp bc ic k v c := rfl

end

end Cert.KernelIdeal.Body

end

end
-- ==== Proof.Body.lean ====
/- What the kernel's body leaves in its output blocks, read through the one expression for a head. -/
module

public import proofs.«01_k».proof.Proof.Gen.KernelIdeal.Value
public import Idealize.ShloMosaic.Lib.Pipeline.ValueKit
public import Idealize.ShloMosaic.Lib.Pipeline.ReadBack
public import proofs.«01_k».proof.Proof.Mem

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Head

section

variable {Q K V Q' K' V' : Fin 256 → Fin 512 → ℝ} {G G' : Fin 256 → Fin 128 → ℝ}

theorem oH_congr {σ : Equiv.Perm (Fin 256)} {gi gi' : Fin 8} {hd hd' : Fin 4} {t : Fin 256} {e e' : Fin 128}
    (h1 : (gi : ℕ) = gi') (h2 : (hd : ℕ) = hd') (h3 : (e : ℕ) = e') : oH σ Q K V G gi hd t e = oH σ Q K V G gi' hd' t e' := by
  obtain rfl := Fin.ext h1
  obtain rfl := Fin.ext h2
  obtain rfl := Fin.ext h3
  rfl

theorem out12 (m : (ℓ : Loc nD τ sig) → Buf (Elt Ideal) ℓ) (c : Dev nD) (t : Fin cfg0.N)
    (h0 : ∀ r j, (iblk m c 0 t : FVec Ideal S256x512 .bf16) (ix2 r j) = ((Q r j : ℝ) : EReal))
    (h1 : ∀ r j, (iblk m c 1 t : FVec Ideal S256x512 .bf16) (ix2 r j) = ((K r j : ℝ) : EReal))
    (h2 : ∀ r j, (iblk m c 2 t : FVec Ideal S256x512 .bf16) (ix2 r j) = ((V r j : ℝ) : EReal))
    (h3 : ∀ r j, (iblk m c 3 t : FVec Ideal S256x128 .f32) (ix2 r j) = ((G r j : ℝ) : EReal))
    (h4 : ∀ r j, (iblk m c 4 t : FVec Ideal S128x256 .f32) (ix2 j r) = ((G r j : ℝ) : EReal))
    (h10 : ∀ g d e, (iblk m c 10 t : FVec Ideal S1x8x128x256 .f32) (ix4 0 g d e) = (0 : EReal))
    (h11 : ∀ g e, (iblk m c 11 t : FVec Ideal S1x8x128 .f32) (ix3 0 g e) = (0 : EReal)) (r j) :
    ((outsAt0 m c t).1 : FVec Ideal S256x512 .f32) (ix2 r j)
      = ((oH (Equiv.refl _) Q K V G ⟨0 + j / 128, by omega⟩ ⟨j / 128, by omega⟩ r ⟨j % 128, by omega⟩ : ℝ) : EReal) := by
  simp only [outsAt0]
  frame_out
  simp (disch := decide) only [↓View.readCov_skip, View.readCov_fill]
  canon_tiles x hx
  · idx_vars x
    obtain rfl : r = x0 := Fin.ext hx0
    refine ((head3 h0 h1 h2 h3 h4 h10 h11 rfl rfl rfl rfl rfl).1 _ _).trans ?_
    exact congrArg _ (oH_congr (by simp; omega) (by simp; omega) (by simp; omega))
  · idx_vars x
    obtain rfl : r = x0 := Fin.ext hx0
    refine ((head2 h0 h1 h2 h3 h4 h10 h11 rfl rfl rfl rfl rfl).1 _ _).trans ?_
    exact congrArg _ (oH_congr (by simp; omega) (by simp; omega) (by simp; omega))
  · idx_vars x
    obtain rfl : r = x0 := Fin.ext hx0
    refine ((head1 h0 h1 h2 h3 h4 h10 h11 rfl rfl rfl rfl rfl).1 _ _).trans ?_
    exact congrArg _ (oH_congr (by simp; omega) (by simp; omega) (by simp; omega))
  · idx_vars x
    obtain rfl : r = x0 := Fin.ext hx0
    refine ((head0 h0 h1 h2 h3 h4 h10 h11 rfl rfl rfl rfl rfl).1 _ _).trans ?_
    exact congrArg _ (oH_congr (by simp; omega) (by simp; omega) (by simp; omega))

theorem out13 (m : (ℓ : Loc nD τ sig) → Buf (Elt Ideal) ℓ) (c : Dev nD) (t : Fin cfg0.N)
    (h5 : ∀ r j, (iblk m c 5 t : FVec Ideal S256x512 .bf16) (ix2 r j) = ((Q' r j : ℝ) : EReal))
    (h6 : ∀ r j, (iblk m c 6 t : FVec Ideal S256x512 .bf16) (ix2 r j) = ((K' r j : ℝ) : EReal))
    (h7 : ∀ r j, (iblk m c 7 t : FVec Ideal S256x512 .bf16) (ix2 r j) = ((V' r j : ℝ) : EReal))
    (h8 : ∀ r j, (iblk m c 8 t : FVec Ideal S256x128 .f32) (ix2 r j) = ((G' r j : ℝ) : EReal))
    (h9 : ∀ r j, (iblk m c 9 t : FVec Ideal S128x256 .f32) (ix2 j r) = ((G' r j : ℝ) : EReal))
    (h10 : ∀ g d e, (iblk m c 10 t : FVec Ideal S1x8x128x256 .f32) (ix4 0 g d e) = (0 : EReal))
    (h11 : ∀ g e, (iblk m c 11 t : FVec Ideal S1x8x128 .f32) (ix3 0 g e) = (0 : EReal)) (r j) :
    ((outsAt0 m c t).2.1 : FVec Ideal S256x512 .f32) (ix2 r j)
      = ((oH Fin.revPerm Q' K' V' G' ⟨4 + j / 128, by omega⟩ ⟨j / 128, by omega⟩ r ⟨j % 128, by omega⟩ : ℝ) : EReal) := by
  simp only [outsAt0]
  frame_out
  simp (disch := decide) only [↓View.readCov_skip, View.readCov_fill]
  canon_tiles x hx
  · idx_vars x
    obtain rfl : r = x0 := Fin.ext hx0
    refine ((head7 h5 h6 h7 h8 h9 h10 h11 rfl rfl rfl rfl rfl).1 _ _).trans ?_
    exact congrArg _ (oH_congr (by simp; omega) (by simp; omega) (by simp; omega))
  · idx_vars x
    obtain rfl : r = x0 := Fin.ext hx0
    refine ((head6 h5 h6 h7 h8 h9 h10 h11 rfl rfl rfl rfl rfl).1 _ _).trans ?_
    exact congrArg _ (oH_congr (by simp; omega) (by simp; omega) (by simp; omega))
  · idx_vars x
    obtain rfl : r = x0 := Fin.ext hx0
    refine ((head5 h5 h6 h7 h8 h9 h10 h11 rfl rfl rfl rfl rfl).1 _ _).trans ?_
    exact congrArg _ (oH_congr (by simp; omega) (by simp; omega) (by simp; omega))
  · idx_vars x
    obtain rfl : r = x0 := Fin.ext hx0
    refine ((head4 h5 h6 h7 h8 h9 h10 h11 rfl rfl rfl rfl rfl).1 _ _).trans ?_
    exact congrArg _ (oH_congr (by simp; omega) (by simp; omega) (by simp; omega))

/-- Memory and normalizer side by side, and the scale, of a block's eight heads. -/
def stC (K V K' V' : Fin 256 → Fin 512 → ℝ) (G G' : Fin 256 → Fin 128 → ℝ) (g : Fin 8) (d : Fin 128) (e : Fin 256) : ℝ :=
  if (g : ℕ) < 4 then
    if h : (e : ℕ) < 128 then oC (Equiv.refl _) K V G g ⟨g % 4, by omega⟩ d ⟨e, h⟩ else oN (Equiv.refl _) K G g ⟨g % 4, by omega⟩ d
  else if h : (e : ℕ) < 128 then oC Fin.revPerm K' V' G' g ⟨g % 4, by omega⟩ d ⟨e, h⟩ else oN Fin.revPerm K' G' g ⟨g % 4, by omega⟩ d

def stM (G G' : Fin 256 → Fin 128 → ℝ) (g : Fin 8) : ℝ :=
  if (g : ℕ) < 4 then oM (Equiv.refl _) G g else oM Fin.revPerm G' g

theorem slab_mem (n : ℕ) (inb) (y : S8x128x256.Idx) (h : (y 0 : ℕ) = n) :
    y ∈ (Rect.unit (s := S8x128x256) ![n, 0, 0] S1x128x256.size inb).set := by
  rw [Rect.mem_set_unit]
  intro a
  have h0 : (y 0 : ℕ) < 8 := (y 0).isLt
  have h1 : (y 1 : ℕ) < 128 := (y 1).isLt
  have h2 : (y 2 : ℕ) < 256 := (y 2).isLt
  match a with
  | 0 => exact ⟨h.ge, by show (y 0 : ℕ) < n + 1; omega⟩
  | 1 => exact ⟨Nat.zero_le _, by show (y 1 : ℕ) < 0 + 128; omega⟩
  | 2 => exact ⟨Nat.zero_le _, by show (y 2 : ℕ) < 0 + 256; omega⟩

theorem row_mem (n : ℕ) (inb) (y : S8x128.Idx) (h : (y 0 : ℕ) = n) :
    y ∈ (Rect.unit (s := S8x128) ![n, 0] S1x128.size inb).set := by
  rw [Rect.mem_set_unit]
  intro a
  have h0 : (y 0 : ℕ) < 8 := (y 0).isLt
  have h1 : (y 1 : ℕ) < 128 := (y 1).isLt
  match a with
  | 0 => exact ⟨h.ge, by show (y 0 : ℕ) < n + 1; omega⟩
  | 1 => exact ⟨Nat.zero_le _, by show (y 1 : ℕ) < 0 + 128; omega⟩

theorem stM_of {g : Fin 8} {y : S8x128.Idx} (h0 : (y 0 : ℕ) = g) : stM G G' g = stM G G' (y 0) := by
  obtain rfl : y 0 = g := Fin.ext h0
  rfl

theorem stC_of {g : Fin 8} {d : Fin 128} {e : Fin 256} {y : S8x128x256.Idx} (h0 : (y 0 : ℕ) = g) (h1 : (y 1 : ℕ) = d)
    (h2 : (y 2 : ℕ) = e) : stC K V K' V' G G' g d e = stC K V K' V' G G' (y 0) (y 1) (y 2) := by
  obtain rfl : y 0 = g := Fin.ext h0
  obtain rfl : y 1 = d := Fin.ext h1
  obtain rfl : y 2 = e := Fin.ext h2
  rfl

theorem out14 (m : (ℓ : Loc nD τ sig) → Buf (Elt Ideal) ℓ) (c : Dev nD) (t : Fin cfg0.N)
    (h0 : ∀ r j, (iblk m c 0 t : FVec Ideal S256x512 .bf16) (ix2 r j) = ((Q r j : ℝ) : EReal))
    (h1 : ∀ r j, (iblk m c 1 t : FVec Ideal S256x512 .bf16) (ix2 r j) = ((K r j : ℝ) : EReal))
    (h2 : ∀ r j, (iblk m c 2 t : FVec Ideal S256x512 .bf16) (ix2 r j) = ((V r j : ℝ) : EReal))
    (h3 : ∀ r j, (iblk m c 3 t : FVec Ideal S256x128 .f32) (ix2 r j) = ((G r j : ℝ) : EReal))
    (h4 : ∀ r j, (iblk m c 4 t : FVec Ideal S128x256 .f32) (ix2 j r) = ((G r j : ℝ) : EReal))
    (h5 : ∀ r j, (iblk m c 5 t : FVec Ideal S256x512 .bf16) (ix2 r j) = ((Q' r j : ℝ) : EReal))
    (h6 : ∀ r j, (iblk m c 6 t : FVec Ideal S256x512 .bf16) (ix2 r j) = ((K' r j : ℝ) : EReal))
    (h7 : ∀ r j, (iblk m c 7 t : FVec Ideal S256x512 .bf16) (ix2 r j) = ((V' r j : ℝ) : EReal))
    (h8 : ∀ r j, (iblk m c 8 t : FVec Ideal S256x128 .f32) (ix2 r j) = ((G' r j : ℝ) : EReal))
    (h9 : ∀ r j, (iblk m c 9 t : FVec Ideal S128x256 .f32) (ix2 j r) = ((G' r j : ℝ) : EReal))
    (h10 : ∀ g d e, (iblk m c 10 t : FVec Ideal S1x8x128x256 .f32) (ix4 0 g d e) = (0 : EReal))
    (h11 : ∀ g e, (iblk m c 11 t : FVec Ideal S1x8x128 .f32) (ix3 0 g e) = (0 : EReal)) (g d e) :
    ((outsAt0 m c t).2.2.1 : FVec Ideal S1x8x128x256 .f32) (ix4 0 g d e)
      = ((stC K V K' V' G G' g d e : ℝ) : EReal) := by
  simp only [outsAt0]
  frame_out
  simp (disch := decide) only [↓View.readCov_skip, View.readCov_fill]
  pointwise [k0_pay3]
  rw [View.readCov_eq_canon']
  refine (View.canon_append_of_piecesOf (fun y => ((stC K V K' V' G G' (y 0) (y 1) (y 2) : ℝ) : EReal))
    [_] [_, _, _, _, _, _, _, _] ⟨?_, ?_, ?_, ?_, ?_, ?_, ?_, ?_, trivial⟩ _ ?_).trans ?_
  · intro x
    idx_vars x
    obtain rfl : x0 = 0 := Subsingleton.elim _ _
    rw [mem7]
    refine ((head7 h5 h6 h7 h8 h9 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 7) (d := x1) (e := x2) rfl (by simp) (by simp))
  · intro x
    idx_vars x
    obtain rfl : x0 = 0 := Subsingleton.elim _ _
    rw [mem6]
    refine ((head6 h5 h6 h7 h8 h9 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 6) (d := x1) (e := x2) rfl (by simp) (by simp))
  · intro x
    idx_vars x
    obtain rfl : x0 = 0 := Subsingleton.elim _ _
    rw [mem5]
    refine ((head5 h5 h6 h7 h8 h9 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 5) (d := x1) (e := x2) rfl (by simp) (by simp))
  · intro x
    idx_vars x
    obtain rfl : x0 = 0 := Subsingleton.elim _ _
    rw [mem4]
    refine ((head4 h5 h6 h7 h8 h9 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 4) (d := x1) (e := x2) rfl (by simp) (by simp))
  · intro x
    idx_vars x
    obtain rfl : x0 = 0 := Subsingleton.elim _ _
    rw [mem3]
    refine ((head3 h0 h1 h2 h3 h4 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 3) (d := x1) (e := x2) rfl (by simp) (by simp))
  · intro x
    idx_vars x
    obtain rfl : x0 = 0 := Subsingleton.elim _ _
    rw [mem2]
    refine ((head2 h0 h1 h2 h3 h4 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 2) (d := x1) (e := x2) rfl (by simp) (by simp))
  · intro x
    idx_vars x
    obtain rfl : x0 = 0 := Subsingleton.elim _ _
    rw [mem1]
    refine ((head1 h0 h1 h2 h3 h4 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 1) (d := x1) (e := x2) rfl (by simp) (by simp))
  · intro x
    idx_vars x
    obtain rfl : x0 = 0 := Subsingleton.elim _ _
    rw [mem0]
    refine ((head0 h0 h1 h2 h3 h4 h10 h11 rfl rfl rfl rfl rfl).2.2 _ _ ?_ ?_ x1 x2).trans ?_
    · intro e
      pointwise [k0_pay20, k0_pay33, k0_pay49, k0_pay63, k0_pay82, k0_pay95, k0_pay106, k0_pay119]
      refine congrFun ?_ _
      rfl
    · intro e
      pointwise [k0_pay21, k0_pay34, k0_pay120] <;> exact congrFun rfl _
    · exact congrArg _ (stC_of (g := 0) (d := x1) (e := x2) rfl (by simp) (by simp))
  · have hg : (g : ℕ) = 7 ∨ (g : ℕ) = 6 ∨ (g : ℕ) = 5 ∨ (g : ℕ) = 4 ∨ (g : ℕ) = 3 ∨ (g : ℕ) = 2 ∨ (g : ℕ) = 1 ∨ (g : ℕ) = 0 := by omega
    rcases hg with h | h | h | h | h | h | h | h
    · exact ⟨_, .head _, slab_mem _ inb_S8x128x256_S1x128x256_7_0_0 _ (by simpa using h)⟩
    · exact ⟨_, .tail _ (.head _), slab_mem _ inb_S8x128x256_S1x128x256_6_0_0 _ (by simpa using h)⟩
    · exact ⟨_, .tail _ (.tail _ (.head _)), slab_mem _ inb_S8x128x256_S1x128x256_5_0_0 _ (by simpa using h)⟩
    · exact ⟨_, .tail _ (.tail _ (.tail _ (.head _))), slab_mem _ inb_S8x128x256_S1x128x256_4_0_0 _ (by simpa using h)⟩
    · exact ⟨_, .tail _ (.tail _ (.tail _ (.tail _ (.head _)))), slab_mem _ inb_S8x128x256_S1x128x256_3_0_0 _ (by simpa using h)⟩
    · exact ⟨_, .tail _ (.tail _ (.tail _ (.tail _ (.tail _ (.head _))))), slab_mem _ inb_S8x128x256_S1x128x256_2_0_0 _ (by simpa using h)⟩
    · exact ⟨_, .tail _ (.tail _ (.tail _ (.tail _ (.tail _ (.tail _ (.head _)))))), slab_mem _ inb_S8x128x256_S1x128x256_1_0_0 _ (by simpa using h)⟩
    · exact ⟨_, .tail _ (.tail _ (.tail _ (.tail _ (.tail _ (.tail _ (.tail _ (.head _))))))), slab_mem _ inb_S8x128x256_S1x128x256_0_0_0 _ (by simpa using h)⟩
  · exact congrArg _ (stC_of (by simp) (by simp) (by simp)).symm

theorem out15 (m : (ℓ : Loc nD τ sig) → Buf (Elt Ideal) ℓ) (c : Dev nD) (t : Fin cfg0.N)
    (h0 : ∀ r j, (iblk m c 0 t : FVec Ideal S256x512 .bf16) (ix2 r j) = ((Q r j : ℝ) : EReal))
    (h1 : ∀ r j, (iblk m c 1 t : FVec Ideal S256x512 .bf16) (ix2 r j) = ((K r j : ℝ) : EReal))
    (h2 : ∀ r j, (iblk m c 2 t : FVec Ideal S256x512 .bf16) (ix2 r j) = ((V r j : ℝ) : EReal))
    (h3 : ∀ r j, (iblk m c 3 t : FVec Ideal S256x128 .f32) (ix2 r j) = ((G r j : ℝ) : EReal))
    (h4 : ∀ r j, (iblk m c 4 t : FVec Ideal S128x256 .f32) (ix2 j r) = ((G r j : ℝ) : EReal))
    (h5 : ∀ r j, (iblk m c 5 t : FVec Ideal S256x512 .bf16) (ix2 r j) = ((Q' r j : ℝ) : EReal))
    (h6 : ∀ r j, (iblk m c 6 t : FVec Ideal S256x512 .bf16) (ix2 r j) = ((K' r j : ℝ) : EReal))
    (h7 : ∀ r j, (iblk m c 7 t : FVec Ideal S256x512 .bf16) (ix2 r j) = ((V' r j : ℝ) : EReal))
    (h8 : ∀ r j, (iblk m c 8 t : FVec Ideal S256x128 .f32) (ix2 r j) = ((G' r j : ℝ) : EReal))
    (h9 : ∀ r j, (iblk m c 9 t : FVec Ideal S128x256 .f32) (ix2 j r) = ((G' r j : ℝ) : EReal))
    (h10 : ∀ g d e, (iblk m c 10 t : FVec Ideal S1x8x128x256 .f32) (ix4 0 g d e) = (0 : EReal))
    (h11 : ∀ g e, (iblk m c 11 t : FVec Ideal S1x8x128 .f32) (ix3 0 g e) = (0 : EReal)) (g e) :
    ((outsAt0 m c t).2.2.2 : FVec Ideal S1x8x128 .f32) (ix3 0 g e) = ((stM G G' g : ℝ) : EReal) := by
  simp only [outsAt0]
  frame_out
  simp (disch := decide) only [↓View.readCov_skip, View.readCov_fill]
  pointwise [k0_pay4]
  rw [View.readCov_eq_canon']
  refine (View.canon_append_of_piecesOf (fun y => ((stM G G' (y 0) : ℝ) : EReal))
    [_] [_, _, _, _, _, _, _, _] ⟨?_, ?_, ?_, ?_, ?_, ?_, ?_, ?_, trivial⟩ _ ?_).trans ?_
  · intro x
    idx_vars x
    obtain rfl : x0 = 0 := Subsingleton.elim _ _
    refine Eq.trans ?_ (((head7 (x10 := iblk m c 10 t) (x11 := iblk m c 11 t) h5 h6 h7 h8 h9 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 7) rfl)
  · intro x
    idx_vars x
    obtain rfl : x0 = 0 := Subsingleton.elim _ _
    refine Eq.trans ?_ (((head6 (x10 := iblk m c 10 t) (x11 := iblk m c 11 t) h5 h6 h7 h8 h9 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 6) rfl)
  · intro x
    idx_vars x
    obtain rfl : x0 = 0 := Subsingleton.elim _ _
    refine Eq.trans ?_ (((head5 (x10 := iblk m c 10 t) (x11 := iblk m c 11 t) h5 h6 h7 h8 h9 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 5) rfl)
  · intro x
    idx_vars x
    obtain rfl : x0 = 0 := Subsingleton.elim _ _
    refine Eq.trans ?_ (((head4 (x10 := iblk m c 10 t) (x11 := iblk m c 11 t) h5 h6 h7 h8 h9 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 4) rfl)
  · intro x
    idx_vars x
    obtain rfl : x0 = 0 := Subsingleton.elim _ _
    refine Eq.trans ?_ (((head3 (x10 := iblk m c 10 t) (x11 := iblk m c 11 t) h0 h1 h2 h3 h4 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 3) rfl)
  · intro x
    idx_vars x
    obtain rfl : x0 = 0 := Subsingleton.elim _ _
    refine Eq.trans ?_ (((head2 (x10 := iblk m c 10 t) (x11 := iblk m c 11 t) h0 h1 h2 h3 h4 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 2) rfl)
  · intro x
    idx_vars x
    obtain rfl : x0 = 0 := Subsingleton.elim _ _
    refine Eq.trans ?_ (((head1 (x10 := iblk m c 10 t) (x11 := iblk m c 11 t) h0 h1 h2 h3 h4 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 1) rfl)
  · intro x
    idx_vars x
    obtain rfl : x0 = 0 := Subsingleton.elim _ _
    refine Eq.trans ?_ (((head0 (x10 := iblk m c 10 t) (x11 := iblk m c 11 t) h0 h1 h2 h3 h4 h10 h11 rfl rfl rfl rfl rfl).2.1 x1).trans ?_)
    · pointwise [k0_pay20, k0_pay33, k0_pay49, k0_pay63, k0_pay82, k0_pay95, k0_pay106, k0_pay119, k0_pay24, k0_pay38, k0_pay51, k0_pay65, k0_pay84, k0_pay97, k0_pay108, k0_pay2]
      refine congrFun ?_ _
      rfl
    · exact congrArg _ (stM_of (g := 0) rfl)
  · have hg : (g : ℕ) = 7 ∨ (g : ℕ) = 6 ∨ (g : ℕ) = 5 ∨ (g : ℕ) = 4 ∨ (g : ℕ) = 3 ∨ (g : ℕ) = 2 ∨ (g : ℕ) = 1 ∨ (g : ℕ) = 0 := by omega
    rcases hg with h | h | h | h | h | h | h | h
    · exact ⟨_, .head _, row_mem _ inb_S8x128_S1x128_7_0 _ (by simpa using h)⟩
    · exact ⟨_, .tail _ (.head _), row_mem _ inb_S8x128_S1x128_6_0 _ (by simpa using h)⟩
    · exact ⟨_, .tail _ (.tail _ (.head _)), row_mem _ inb_S8x128_S1x128_5_0 _ (by simpa using h)⟩
    · exact ⟨_, .tail _ (.tail _ (.tail _ (.head _))), row_mem _ inb_S8x128_S1x128_4_0 _ (by simpa using h)⟩
    · exact ⟨_, .tail _ (.tail _ (.tail _ (.tail _ (.head _)))), row_mem _ inb_S8x128_S1x128_3_0 _ (by simpa using h)⟩
    · exact ⟨_, .tail _ (.tail _ (.tail _ (.tail _ (.tail _ (.head _))))), row_mem _ inb_S8x128_S1x128_2_0 _ (by simpa using h)⟩
    · exact ⟨_, .tail _ (.tail _ (.tail _ (.tail _ (.tail _ (.tail _ (.head _)))))), row_mem _ inb_S8x128_S1x128_1_0 _ (by simpa using h)⟩
    · exact ⟨_, .tail _ (.tail _ (.tail _ (.tail _ (.tail _ (.tail _ (.tail _ (.head _))))))), row_mem _ inb_S8x128_S1x128_0_0 _ (by simpa using h)⟩
  · exact congrArg _ (stM_of (by simp)).symm

end

end Cert.KernelIdeal.Body

end

end
-- ==== Proof.KernelBlocks.lean ====
/- The blocks the kernel's body reads, from real arguments. -/
module

public import Idealize.ShloMosaic.Lib.Claim
public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Head Cert.KernelIdeal.Body

/-- Where each window's block stands: the token rows and the sequences of grid point `t`. -/
theorem idx : ∀ t : Fin cfg0.N, t.val < 32 ∧ win0_0.index t = ![t.val, 0] ∧ win0_1.index t = ![t.val, 0] ∧ win0_2.index t = ![t.val, 0]
    ∧ win0_3.index t = ![t.val, 0] ∧ win0_4.index t = ![0, t.val] ∧ win0_5.index t = ![t.val, 0] ∧ win0_6.index t = ![t.val, 0]
    ∧ win0_7.index t = ![t.val, 0] ∧ win0_8.index t = ![t.val, 0] ∧ win0_9.index t = ![0, t.val]
    ∧ win0_10.index t = ![t.val, 0, 0, 0] ∧ win0_11.index t = ![t.val, 0, 0]
    ∧ win0_12.index t = ![t.val, 0] ∧ win0_13.index t = ![t.val, 0] ∧ win0_14.index t = ![t.val, 0, 0, 0]
    ∧ win0_15.index t = ![t.val, 0, 0] :=
  (by decide +kernel : ∀ t : Fin grid0.N, _)

variable (m : (ℓ : Loc nD τ sig) → Buf (Elt Ideal) ℓ) (c : Dev nD)

/-- The rows of one sequence among all tokens. -/
def rowsOf {n : ℕ} (X : Fin 24576 → Fin n → ℝ) (t : Fin 32) (r : Fin 256) (j : Fin n) : ℝ := X ⟨256 * t + r, by omega⟩ j

/-- The arguments are the given real numbers. -/
structure RealArgs (q k v : Fin 24576 → Fin 512 → ℝ) (g : Fin 24576 → Fin 128 → ℝ) : Prop where
  q : ∀ i j, (m ((c : Thread nD τ).loc main_arg0) : FVec Ideal S24576x512 .bf16) (ix2 i j) = ((q i j : ℝ) : EReal)
  k : ∀ i j, (m ((c : Thread nD τ).loc main_arg1) : FVec Ideal S24576x512 .bf16) (ix2 i j) = ((k i j : ℝ) : EReal)
  v : ∀ i j, (m ((c : Thread nD τ).loc main_arg2) : FVec Ideal S24576x512 .bf16) (ix2 i j) = ((v i j : ℝ) : EReal)
  g : ∀ i j, (m ((c : Thread nD τ).loc main_arg3) : FVec Ideal S24576x128 .f32) (ix2 i j) = ((g i j : ℝ) : EReal)

variable {m c} {q k v : Fin 24576 → Fin 512 → ℝ} {g : Fin 24576 → Fin 128 → ℝ} (H : RealArgs m c q k v g) (t : Fin cfg0.N)

include H

theorem b0 (r j) : (iblk m c 0 t : FVec Ideal S256x512 .bf16) (ix2 r j) = ((rowsOf q ⟨t, (idx t).1⟩ r j : ℝ) : EReal) := by
  refine Eq.trans ?_ (H.q _ _)
  blk_ext [iblk, V, idx t]
theorem b1 (r j) : (iblk m c 1 t : FVec Ideal S256x512 .bf16) (ix2 r j) = ((rowsOf k ⟨t, (idx t).1⟩ r j : ℝ) : EReal) := by
  refine Eq.trans ?_ (H.k _ _)
  blk_ext [iblk, V, idx t]
theorem b2 (r j) : (iblk m c 2 t : FVec Ideal S256x512 .bf16) (ix2 r j) = ((rowsOf v ⟨t, (idx t).1⟩ r j : ℝ) : EReal) := by
  refine Eq.trans ?_ (H.v _ _)
  blk_ext [iblk, V, idx t]
theorem b3 (r j) : (iblk m c 3 t : FVec Ideal S256x128 .f32) (ix2 r j) = ((rowsOf g ⟨t, (idx t).1⟩ r j : ℝ) : EReal) := by
  refine Eq.trans ?_ (H.g _ _)
  blk_ext [iblk, V, idx t]
theorem b5 (r j) : (iblk m c 5 t : FVec Ideal S256x512 .bf16) (ix2 r j) = ((rowsOf q ⟨t, (idx t).1⟩ r j : ℝ) : EReal) := by
  refine Eq.trans ?_ (H.q _ _)
  blk_ext [iblk, V, idx t]
theorem b6 (r j) : (iblk m c 6 t : FVec Ideal S256x512 .bf16) (ix2 r j) = ((rowsOf k ⟨t, (idx t).1⟩ r j : ℝ) : EReal) := by
  refine Eq.trans ?_ (H.k _ _)
  blk_ext [iblk, V, idx t]
theorem b7 (r j) : (iblk m c 7 t : FVec Ideal S256x512 .bf16) (ix2 r j) = ((rowsOf v ⟨t, (idx t).1⟩ r j : ℝ) : EReal) := by
  refine Eq.trans ?_ (H.v _ _)
  blk_ext [iblk, V, idx t]
theorem b8 (r j) : (iblk m c 8 t : FVec Ideal S256x128 .f32) (ix2 r j) = ((rowsOf g ⟨t, (idx t).1⟩ r j : ℝ) : EReal) := by
  refine Eq.trans ?_ (H.g _ _)
  blk_ext [iblk, V, idx t]
theorem b4 (r j) : (iblk m c 4 t : FVec Ideal S128x256 .f32) (ix2 j r) = ((rowsOf g ⟨t, (idx t).1⟩ r j : ℝ) : EReal) := by
  refine Eq.trans ?_ (H.g _ _)
  blk_simp [iblk]
  entry_read
  pointwise
  blk_ext [idx t]
theorem b9 (r j) : (iblk m c 9 t : FVec Ideal S128x256 .f32) (ix2 j r) = ((rowsOf g ⟨t, (idx t).1⟩ r j : ℝ) : EReal) := by
  refine Eq.trans ?_ (H.g _ _)
  blk_simp [iblk]
  entry_read
  pointwise
  blk_ext [idx t]
omit H
theorem b10 (a d e) : (iblk m c 10 t : FVec Ideal S1x8x128x256 .f32) (ix4 0 a d e) = (0 : EReal) := by
  blk_simp [iblk]
  entry_read
  pointwise
  split_ifs <;> rfl
theorem b11 (a e) : (iblk m c 11 t : FVec Ideal S1x8x128 .f32) (ix3 0 a e) = (0 : EReal) := by
  blk_simp [iblk]
  entry_read
  pointwise
end Cert.KernelIdeal.Arr

end

end
-- ==== Proof.KernelValue.lean ====
/- The kernel's four arrays after the run, from real arguments: each entry by the recurrence over the tokens of its block. -/
module

public import proofs.«01_k».proof.Proof.KernelBlocks

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Head Cert.KernelIdeal.Body

section

variable (q k v : Fin 24576 → Fin 512 → ℝ) (g : Fin 24576 → Fin 128 → ℝ)

/-- The four results as real functions of the arguments. -/
def hfR (i : Fin 8192) (j : Fin 512) : ℝ :=
  oH (Equiv.refl _) (rowsOf q ⟨i / 256, by omega⟩) (rowsOf k ⟨i / 256, by omega⟩) (rowsOf v ⟨i / 256, by omega⟩)
    (rowsOf g ⟨i / 256, by omega⟩) ⟨j / 128, by omega⟩ ⟨j / 128, by omega⟩ ⟨i % 256, by omega⟩ ⟨j % 128, by omega⟩
def hbR (i : Fin 8192) (j : Fin 512) : ℝ :=
  oH Fin.revPerm (rowsOf q ⟨i / 256, by omega⟩) (rowsOf k ⟨i / 256, by omega⟩) (rowsOf v ⟨i / 256, by omega⟩)
    (rowsOf g ⟨i / 256, by omega⟩) ⟨4 + j / 128, by omega⟩ ⟨j / 128, by omega⟩ ⟨i % 256, by omega⟩ ⟨j % 128, by omega⟩
def cR (b : Fin 32) (a : Fin 8) (d : Fin 128) (e : Fin 256) : ℝ :=
  stC (rowsOf k b) (rowsOf v b) (rowsOf k b) (rowsOf v b) (rowsOf g b) (rowsOf g b) a d e
def mR (b : Fin 32) (a : Fin 8) : ℝ := stM (rowsOf g b) (rowsOf g b) a

theorem hfR_of {i : Fin 8192} {j j' : Fin 512} {t : Fin 32} {r : Fin 256} (hi : (i : ℕ) = 256 * t + r) (hj : (j : ℕ) = j') :
    oH (Equiv.refl _) (rowsOf q t) (rowsOf k t) (rowsOf v t) (rowsOf g t) ⟨0 + j' / 128, by omega⟩ ⟨j' / 128, by omega⟩ r ⟨j' % 128, by omega⟩
      = hfR q k v g i j := by
  obtain rfl := Fin.ext hj
  obtain rfl : t = (⟨i / 256, by clear hi; omega⟩ : Fin 32) := Fin.ext (by simp only; omega)
  obtain rfl : r = (⟨i % 256, by clear hi; omega⟩ : Fin 256) := Fin.ext (by simp only [] at hi ⊢; omega)
  simp only [hfR, Nat.zero_add]

theorem hbR_of {i : Fin 8192} {j j' : Fin 512} {t : Fin 32} {r : Fin 256} (hi : (i : ℕ) = 256 * t + r) (hj : (j : ℕ) = j') :
    oH Fin.revPerm (rowsOf q t) (rowsOf k t) (rowsOf v t) (rowsOf g t) ⟨4 + j' / 128, by omega⟩ ⟨j' / 128, by omega⟩ r ⟨j' % 128, by omega⟩
      = hbR q k v g i j := by
  obtain rfl := Fin.ext hj
  obtain rfl : t = (⟨i / 256, by clear hi; omega⟩ : Fin 32) := Fin.ext (by simp only; omega)
  obtain rfl : r = (⟨i % 256, by clear hi; omega⟩ : Fin 256) := Fin.ext (by simp only [] at hi ⊢; omega)
  simp only [hbR, Nat.zero_add]

variable {q k v g} in
theorem cR_of {b b' : Fin 32} {a a' : Fin 8} {d d' : Fin 128} {e e' : Fin 256} (h1 : (b : ℕ) = b') (h2 : (a : ℕ) = a')
    (h3 : (d : ℕ) = d') (h4 : (e : ℕ) = e') : cR k v g b' a' d' e' = cR k v g b a d e := by
  obtain rfl := Fin.ext h1
  obtain rfl := Fin.ext h2
  obtain rfl := Fin.ext h3
  obtain rfl := Fin.ext h4
  rfl

variable {q k v g} in
theorem mR_of {b b' : Fin 32} {a a' : Fin 8} (h1 : (b : ℕ) = b') (h2 : (a : ℕ) = a') : mR g b' a' = mR g b a := by
  obtain rfl := Fin.ext h1
  obtain rfl := Fin.ext h2
  rfl

end

variable {m : (ℓ : Loc nD τ sig) → Buf (Elt Ideal) ℓ} {c : Dev nD} {q k v : Fin 24576 → Fin 512 → ℝ} {g : Fin 24576 → Fin 128 → ℝ}
  (H : RealArgs m c q k v g)

include H

/-- The forward rows after the run. -/
theorem arr12 : (dats m 0 c).arrAt 12 cfg0.N = fun i : S8192x512.Idx => ((hfR q k v g (i 0) (i 1) : ℝ) : EReal) := by
  refine (dats m 0 c).arrAt_eq_of_covers 12 _ (by decide +kernel) fun t hf y => ?_
  blk_simp
  rw [after0_12]
  idx_vars y
  refine (out12 m c t (b0 H t) (b1 H t) (b2 H t) (b3 H t) (b4 H t) (b10 t) (b11 t) y0 y1).trans ?_
  refine congrArg _ (hfR_of q k v g ?_ ?_)
  all_goals (blk_simp [idx t]; try (simp only [Fin.val_zero]; omega))

/-- The backward rows. -/
theorem arr13 : (dats m 0 c).arrAt 13 cfg0.N = fun i : S8192x512.Idx => ((hbR q k v g (i 0) (i 1) : ℝ) : EReal) := by
  refine (dats m 0 c).arrAt_eq_of_covers 13 _ (by decide +kernel) fun t hf y => ?_
  blk_simp
  rw [after0_13]
  idx_vars y
  refine (out13 m c t (b5 H t) (b6 H t) (b7 H t) (b8 H t) (b9 H t) (b10 t) (b11 t) y0 y1).trans ?_
  refine congrArg _ (hbR_of q k v g ?_ ?_)
  all_goals (blk_simp [idx t]; try (simp only [Fin.val_zero]; omega))

/-- The memories with their normalizers. -/
theorem arr14 : (dats m 0 c).arrAt 14 cfg0.N = fun i : S32x8x128x256.Idx => ((cR k v g (i 0) (i 1) (i 2) (i 3) : ℝ) : EReal) := by
  refine (dats m 0 c).arrAt_eq_of_covers 14 _ (by decide +kernel) fun t hf y => ?_
  blk_simp
  rw [after0_14]
  idx_vars y
  obtain rfl : y0 = 0 := Subsingleton.elim _ _
  refine (out14 m c t (b0 H t) (b1 H t) (b2 H t) (b3 H t) (b4 H t) (b5 H t) (b6 H t) (b7 H t) (b8 H t) (b9 H t) (b10 t) (b11 t) y1 y2 y3).trans ?_
  refine congrArg _ (cR_of (b' := ⟨t, (idx t).1⟩) ?_ ?_ ?_ ?_)
  all_goals (blk_simp [idx t]; try (simp only [Fin.val_zero]; omega))

/-- The scales. -/
theorem arr15 : (dats m 0 c).arrAt 15 cfg0.N = fun i : S32x8x128.Idx => ((mR g (i 0) (i 1) : ℝ) : EReal) := by
  refine (dats m 0 c).arrAt_eq_of_covers 15 _ (by decide +kernel) fun t hf y => ?_
  blk_simp
  rw [after0_15]
  idx_vars y
  obtain rfl : y0 = 0 := Subsingleton.elim _ _
  refine (out15 m c t (b0 H t) (b1 H t) (b2 H t) (b3 H t) (b4 H t) (b5 H t) (b6 H t) (b7 H t) (b8 H t) (b9 H t) (b10 t) (b11 t) y1 y2).trans ?_
  refine congrArg _ (mR_of (b' := ⟨t, (idx t).1⟩) ?_ ?_)
  all_goals (blk_simp [idx t]; try (simp only [Fin.val_zero]; omega))

end Cert.KernelIdeal.Arr

end

end
-- ==== Proof.RefCum.lean ====
/- The running sum along a chunk, from its window form. -/
module

public import proofs.«01_k».proof.Proof.Recur
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.SL.Sem

namespace Cert.ReferenceIdeal.Ref

open Cert.ReferenceIdeal Finset

theorem foldl_add {α : Type} (l : List α) (g : α → EReal) (z : EReal) :
    l.foldl (fun r n => r + g n) z = z + (l.map g).sum := by
  induction l generalizing z with
  | nil => simp
  | cons a l ih => rw [List.foldl_cons, ih, List.map_cons, List.sum_cons, add_assoc]

theorem shifted (X : ℕ → ℝ) (t : ℕ) (ht : t < 64) :
    (∑ n : Fin 64, if 63 ≤ t + (n : ℕ) then ((X (t + n - 63) : ℝ) : EReal) else 0) = ((∑ s ∈ range (t + 1), X s : ℝ) : EReal) := by
  rw [Finset.sum_fin_eq_sum_range, ← Recur.coe_sum]
  have e : 64 = (63 - t) + (t + 1) := by omega
  have h1 : ∀ n ∈ range 64, (if h : n < 64 then (if 63 ≤ t + ((⟨n, h⟩ : Fin 64) : ℕ) then ((X (t + ((⟨n, h⟩ : Fin 64) : ℕ) - 63) : ℝ) : EReal) else 0) else 0)
      = if 63 ≤ t + n then ((X (t + n - 63) : ℝ) : EReal) else 0 := fun n hn => dif_pos (mem_range.1 hn)
  rw [Finset.sum_congr rfl h1, e, Finset.sum_range_add, Finset.sum_eq_zero, zero_add]
  · refine Finset.sum_congr rfl fun s _ => ?_
    rw [if_pos (by omega)]
    congr 3
    omega
  · intro n hn
    rw [mem_range] at hn
    rw [if_neg (by omega)]

/-- One position of a window, read at its three coordinates. -/
theorem win_at (x : FVec Ideal S32x8x64 .f32) (b : Fin 32) (a : Fin 8) (X : ℕ → ℝ)
    (hx : ∀ s : Fin 64, x (ix3 b a s) = ((X s : ℝ) : EReal)) (m : ℕ) (hm : m - 63 < 64) (p : Fin 3 → ℕ) (p0 : p 0 = b) (p1 : p 1 = a) (p2 : p 2 = m)
    (D : Decidable (∀ c : Fin 3, (![0, 0, 63] : Fin 3 → ℕ) c ≤ p c ∧ p c - (![0, 0, 63] : Fin 3 → ℕ) c < S32x8x64.size c)) :
    @dite EReal _ D (fun hin => x (fun c => ⟨p c - (![0, 0, 63] : Fin 3 → ℕ) c, (hin c).2⟩)) (fun _ => 0)
      = if 63 ≤ m then ((X (m - 63) : ℝ) : EReal) else 0 := by
  by_cases hle : 63 ≤ m
  · have hin : ∀ c : Fin 3, (![0, 0, 63] : Fin 3 → ℕ) c ≤ p c ∧ p c - (![0, 0, 63] : Fin 3 → ℕ) c < S32x8x64.size c := by
      intro c
      match c with
      | 0 => exact ⟨Nat.zero_le _, by show p 0 - 0 < 32; omega⟩
      | 1 => exact ⟨Nat.zero_le _, by show p 1 - 0 < 8; omega⟩
      | 2 => exact ⟨by show 63 ≤ p 2; omega, by show p 2 - 63 < 64; omega⟩
    rw [dif_pos hin, if_pos hle]
    refine Eq.trans (congrArg x ?_) (hx ⟨m - 63, hm⟩)
    funext c
    apply Fin.ext
    match c with
    | 0 => show p 0 - 0 = (b : ℕ); omega
    | 1 => show p 1 - 0 = (a : ℕ); omega
    | 2 => show p 2 - 63 = m - 63; omega
  · rw [if_neg hle, dif_neg]
    intro hin
    have h2 : 63 ≤ p 2 := (hin 2).1
    omega

/-- The window of 64 padded 63 low sums the entries up to and with the one read. -/
theorem cumsum_at (x : FVec Ideal S32x8x64 .f32) (z : FVec Ideal S_ .f32) (hz : ∀ i, z i = 0) (b : Fin 32) (a : Fin 8) (X : ℕ → ℝ)
    (hx : ∀ s : Fin 64, x (ix3 b a s) = ((X s : ℝ) : EReal)) (t : Fin 64)
    (h : S32x8x64.ReduceWindows (![1, 1, 64] : Fin 3 → Nat) ![1, 1, 1] ![0, 0, 63] ![0, 0, 0] S32x8x64) (hu : 0 < S_.numel) :
    Host.reduceWindowAdd ![1, 1, 64] ![1, 1, 1] ![0, 0, 63] ![0, 0, 0] x z h hu (ix3 b a t) = ((∑ s ∈ range (t + 1), X s : ℝ) : EReal) := by
  rw [← shifted X t t.2]
  show List.foldl _ _ _ = _
  rw [foldl_add]
  dsimp only
  simp only [hz (Shape.Idx.first hu)]
  rw [zero_add, ← List.ofFn_eq_map, List.sum_ofFn]
  have hW : (⟨3, ![1, 1, 64]⟩ : Shape).numel = 64 := by decide
  refine Fintype.sum_equiv (finCongr hW) _ _ fun n => ?_
  have hw := Shape.rowMajor_val_three (d := ![1, 1, 64]) ((⟨3, ![1, 1, 64]⟩ : Shape).rowMajor.symm n)
  rw [Equiv.apply_symm_apply] at hw
  have w0 : (((⟨3, ![1, 1, 64]⟩ : Shape).rowMajor.symm n 0 : Fin 1) : ℕ) = 0 := Nat.lt_one_iff.1 (Fin.isLt _)
  have w1 : (((⟨3, ![1, 1, 64]⟩ : Shape).rowMajor.symm n 1 : Fin 1) : ℕ) = 0 := Nat.lt_one_iff.1 (Fin.isLt _)
  have w2 : (((⟨3, ![1, 1, 64]⟩ : Shape).rowMajor.symm n 2 : Fin 64) : ℕ) = n := by
    rw [hw]
    show (((⟨3, ![1, 1, 64]⟩ : Shape).rowMajor.symm n 2 : Fin 64) : ℕ) = (_ * 1 + _) * 64 + _
    omega
  have hn : (n : ℕ) < 64 := lt_of_lt_of_eq n.2 hW
  refine win_at x b a X hx ((t : ℕ) + n) (by omega) _ ?_ ?_ ?_ _
  · show (b : ℕ) * 1 + (((⟨3, ![1, 1, 64]⟩ : Shape).rowMajor.symm n 0 : Fin 1) : ℕ) = b
    omega
  · show (a : ℕ) * 1 + (((⟨3, ![1, 1, 64]⟩ : Shape).rowMajor.symm n 1 : Fin 1) : ℕ) = a
    omega
  · show (t : ℕ) * 1 + (((⟨3, ![1, 1, 64]⟩ : Shape).rowMajor.symm n 2 : Fin 64) : ℕ) = t + n
    omega

end Cert.ReferenceIdeal.Ref

end

end
-- ==== Proof.RefSlice.lean ====
/- The reads and the write of a chunk at the loop's counter. -/
module

public import proofs.«01_k».proof.Proof.RefCum

@[expose] public section

set_option maxRecDepth 16384

noncomputable section

open Idealize.ShloMosaic Idealize.ShloMosaic.TcCoe Idealize.SL.Sem

namespace Cert.ReferenceIdeal.Ref

open Cert.ReferenceIdeal Cert.ReferenceIdeal.Value

/-- A chunk read out of a carried array: the chunk's number is the counter. -/
theorem slice5 {α : Type} (x : S4x32x8x64x128.Idx → α) (ctr : S_.Idx → BitVec 32) {j : ℕ} (hj : j < 4) (hc : ctr = fun _ => BitVec.ofNat 32 j)
    (h1 : S4x32x8x64x128.Slices (fun _ => 0) S1x32x8x64x128) (h2 : S1x32x8x64x128.ShapeCasts S32x8x64x128) (h3 : 0 < S_.numel)
    (b : Fin 32) (a : Fin 8) (t : Fin 64) (d : Fin 128) :
    shapeCast S32x8x64x128 (Host.dynamicSlice S1x32x8x64x128 x (fun k => ((![ctr, constantI S_ 32 0#32, constantI S_ 32 0#32,
      constantI S_ 32 0#32, constantI S_ 32 0#32] : Fin 5 → S_.Idx → BitVec 32) k (Shape.Idx.first h3)).toInt) h1) h2 (ix4 b a t d)
      = x (ix5 ⟨j, hj⟩ b a t d) := by
  subst hc
  pointwise
  have e : ∀ k : Fin 5, Host.clampedStart S4x32x8x64x128 S1x32x8x64x128 h1.1 (fun k => BitVec.toInt ((![fun _ => BitVec.ofNat 32 j,
      constantI S_ 32 0#32, constantI S_ 32 0#32, constantI S_ 32 0#32, constantI S_ 32 0#32] : Fin 5 → S_.Idx → BitVec 32) k (Shape.Idx.first h3))) k
      = if k = 0 then j else 0 := by
    intro k
    interval_cases j <;> fin_cases k <;> rfl
  refine congrArg x ((ix5_inj ..).2 ⟨Fin.ext (e 0), Fin.ext ?_, Fin.ext ?_, Fin.ext ?_, Fin.ext ?_⟩)
  · exact (congrArg (· + (b : ℕ)) (e 1)).trans (Nat.zero_add _)
  · exact (congrArg (· + (a : ℕ)) (e 2)).trans (Nat.zero_add _)
  · exact (congrArg (· + (t : ℕ)) (e 3)).trans (Nat.zero_add _)
  · exact (congrArg (· + (d : ℕ)) (e 4)).trans (Nat.zero_add _)

theorem slice4 {α : Type} (x : S4x32x8x64.Idx → α) (ctr : S_.Idx → BitVec 32) {j : ℕ} (hj : j < 4) (hc : ctr = fun _ => BitVec.ofNat 32 j)
    (h1 : S4x32x8x64.Slices (fun _ => 0) S1x32x8x64) (h2 : S1x32x8x64.ShapeCasts S32x8x64) (h3 : 0 < S_.numel)
    (b : Fin 32) (a : Fin 8) (t : Fin 64) :
    shapeCast S32x8x64 (Host.dynamicSlice S1x32x8x64 x (fun k => ((![ctr, constantI S_ 32 0#32, constantI S_ 32 0#32,
      constantI S_ 32 0#32] : Fin 4 → S_.Idx → BitVec 32) k (Shape.Idx.first h3)).toInt) h1) h2 (ix3 b a t)
      = x (ix4 ⟨j, hj⟩ b a t) := by
  subst hc
  pointwise
  have e : ∀ k : Fin 4, Host.clampedStart S4x32x8x64 S1x32x8x64 h1.1 (fun k => BitVec.toInt ((![fun _ => BitVec.ofNat 32 j,
      constantI S_ 32 0#32, constantI S_ 32 0#32, constantI S_ 32 0#32] : Fin 4 → S_.Idx → BitVec 32) k (Shape.Idx.first h3))) k
      = if k = 0 then j else 0 := by
    intro k
    interval_cases j <;> fin_cases k <;> rfl
  refine congrArg x ((ix4_inj ..).2 ⟨Fin.ext (e 0), Fin.ext ?_, Fin.ext ?_, Fin.ext ?_⟩)
  · exact (congrArg (· + (b : ℕ)) (e 1)).trans (Nat.zero_add _)
  · exact (congrArg (· + (a : ℕ)) (e 2)).trans (Nat.zero_add _)
  · exact (congrArg (· + (t : ℕ)) (e 3)).trans (Nat.zero_add _)

/-- The results of a trip written at the counter's place, read back. -/
theorem update5 {α : Type} (x : S4x32x8x64x128.Idx → α) (u : S1x32x8x64x128.Idx → α) (ctr : S_.Idx → BitVec 32) {j : ℕ} (hj : j < 4)
    (hc : ctr = fun _ => BitVec.ofNat 32 j)
    (h1 : S4x32x8x64x128.Slices (fun _ => 0) S1x32x8x64x128) (h3 : 0 < S_.numel)
    (c : Fin 4) (b : Fin 32) (a : Fin 8) (t : Fin 64) (d : Fin 128) :
    Host.dynamicUpdateSlice x u (fun k => ((![ctr, constantI S_ 32 0#32, constantI S_ 32 0#32,
      constantI S_ 32 0#32, constantI S_ 32 0#32] : Fin 5 → S_.Idx → BitVec 32) k (Shape.Idx.first h3)).toInt) h1 (ix5 c b a t d)
      = if (c : ℕ) = j then u (ix5 0 b a t d) else x (ix5 c b a t d) := by
  subst hc
  rw [Host.dynamicUpdateSlice_apply]
  have e : ∀ k : Fin 5, Host.clampedStart S4x32x8x64x128 S1x32x8x64x128 h1.1 (fun k => BitVec.toInt ((![fun _ => BitVec.ofNat 32 j,
      constantI S_ 32 0#32, constantI S_ 32 0#32, constantI S_ 32 0#32, constantI S_ 32 0#32] : Fin 5 → S_.Idx → BitVec 32) k (Shape.Idx.first h3))) k
      = if k = 0 then j else 0 := by
    intro k
    interval_cases j <;> fin_cases k <;> rfl
  by_cases hcj : (c : ℕ) = j
  · rw [if_pos hcj, dif_pos]
    · refine congrArg u ?_
      funext k
      refine Fin.ext ?_
      match k with
      | 0 => exact (congrArg ((c : ℕ) - ·) (e 0)).trans (by rw [if_pos rfl, hcj, Nat.sub_self]; rfl)
      | 1 => exact (congrArg ((b : ℕ) - ·) (e 1)).trans (Nat.sub_zero _)
      | 2 => exact (congrArg ((a : ℕ) - ·) (e 2)).trans (Nat.sub_zero _)
      | 3 => exact (congrArg ((t : ℕ) - ·) (e 3)).trans (Nat.sub_zero _)
      | 4 => exact (congrArg ((d : ℕ) - ·) (e 4)).trans (Nat.sub_zero _)
    · intro k
      rw [e k]
      match k with
      | 0 => exact ⟨by show j ≤ c; omega, by show (c : ℕ) < j + 1; omega⟩
      | 1 => exact ⟨Nat.zero_le _, by show (b : ℕ) < 0 + 32; omega⟩
      | 2 => exact ⟨Nat.zero_le _, by show (a : ℕ) < 0 + 8; omega⟩
      | 3 => exact ⟨Nat.zero_le _, by show (t : ℕ) < 0 + 64; omega⟩
      | 4 => exact ⟨Nat.zero_le _, by show (d : ℕ) < 0 + 128; omega⟩
  · rw [if_neg hcj, dif_neg]
    intro hin
    have h0 := hin 0
    rw [e 0] at h0
    have h0' : j ≤ (c : ℕ) ∧ (c : ℕ) < j + 1 := h0
    omega

end Cert.ReferenceIdeal.Ref

end

end
-- ==== Proof.RefOps.lean ====
/- The operations of one trip of the reference's loop, read at an index. -/
module

public import proofs.«01_k».proof.Proof.RefSlice

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen

variable (B I M A : FVec Ideal S32x8x64 .f32) (W D : FVec Ideal S32x8x64x64 .f32) (q k v : FVec Ideal S32x8x64x128 .f32)
  (C : FVec Ideal S32x8x128x128 .f32) (N : FVec Ideal S32x8x128 .f32) (m z : FVec Ideal S32x8 .f32)

def rowMax : FVec Ideal S32x8x64 .f32 :=
  maximumf B (Host.reduce FloatOps.maximumf W (constant S_ .f32 0xFF800000#32) reducesTo_S32x8x64x64_S32x8x64_d3 h_S_)
theorem rowMax_at (b : Fin 32) (a : Fin 8) (t : Fin 64) :
    rowMax B W (ix3 b a t) = max (B (ix3 b a t)) (Finset.univ.fold max (⊥ : EReal) fun s => W (ix4 b a t s)) := by
  pointwise [rowMax, Recur.ninf]

def score : FVec Ideal S32x8x64x64 .f32 :=
  mulf (Host.dotGeneral dot_S32x8x64x128_S32x8x64x128_S32x8x64x64_3_3_2_2_01_01 none q k)
    (Host.exp (subf W (broadcastInDim S32x8x64x64 ![0, 1, 2, 3] bcast_S32x8x64x1_S32x8x64x64_0_1_2_3
      (broadcastInDim S32x8x64x1 ![0, 1, 2] bcast_S32x8x64_S32x8x64x1_0_1_2 M))))
theorem score_at (b : Fin 32) (a : Fin 8) (t s : Fin 64) :
    score M W q k (ix4 b a t s) = (∑ d : Fin 128, q (ix4 b a t d) * k (ix4 b a s d)) * Ideal.exp (W (ix4 b a t s) - M (ix3 b a t)) := by
  pointwise [score]

def numer : FVec Ideal S32x8x64x128 .f32 :=
  addf (mulf (broadcastInDim S32x8x64x128 ![0, 1, 2, 3] bcast_S32x8x64x1_S32x8x64x128_0_1_2_3
      (broadcastInDim S32x8x64x1 ![0, 1, 2] bcast_S32x8x64_S32x8x64x1_0_1_2 A))
    (Host.dotGeneral dot_S32x8x64x128_S32x8x128x128_S32x8x64x128_3_2_2_3_01_01 none q C))
    (Host.dotGeneral dot_S32x8x64x64_S32x8x64x128_S32x8x64x128_3_2_2_3_01_01 none D v)
theorem numer_at (b : Fin 32) (a : Fin 8) (t : Fin 64) (e : Fin 128) :
    numer A D q v C (ix4 b a t e) = A (ix3 b a t) * (∑ d : Fin 128, q (ix4 b a t d) * C (ix4 b a d e))
      + ∑ s : Fin 64, D (ix4 b a t s) * v (ix4 b a s e) := by
  pointwise [numer]

def denom : FVec Ideal S32x8x64 .f32 :=
  maximumf (Host.absf (addf (mulf A (Host.dotGeneral dot_S32x8x64x128_S32x8x128_S32x8x64_3_2_2_n_01_01 none q N))
    (Host.reduceAdd D (constant S_ .f32 0x00000000#32) reducesTo_S32x8x64x64_S32x8x64_d3 h_S_))) (Host.exp (Host.negf M))
theorem denom_at (b : Fin 32) (a : Fin 8) (t : Fin 64) :
    denom M A D q N (ix3 b a t)
      = max (FloatOps.absf (F := Ideal) (φ := .f32) (A (ix3 b a t) * (∑ d : Fin 128, q (ix4 b a t d) * N (ix3 b a d)) + ∑ s : Fin 64, D (ix4 b a t s)))
        (Ideal.exp (-M (ix3 b a t))) := by
  pointwise [denom, zero_add]

def quot (X : FVec Ideal S32x8x64x128 .f32) : FVec Ideal S1x32x8x64x128 .f32 :=
  broadcastInDim S1x32x8x64x128 ![1, 2, 3, 4] bcast_S32x8x64x128_S1x32x8x64x128_1_2_3_4 (Host.divf X
    (broadcastInDim S32x8x64x128 ![0, 1, 2, 3] bcast_S32x8x64x1_S32x8x64x128_0_1_2_3 (broadcastInDim S32x8x64x1 ![0, 1, 2] bcast_S32x8x64_S32x8x64x1_0_1_2 B)))
theorem quot_at (X : FVec Ideal S32x8x64x128 .f32) (b : Fin 32) (a : Fin 8) (t : Fin 64) (e : Fin 128) :
    quot B X (ix5 0 b a t e) = Ideal.div (X (ix4 b a t e)) (B (ix3 b a t)) := by
  pointwise [quot]

def lastRow : FVec Ideal S32x8 .f32 :=
  shapeCast S32x8 (extractStridedSlice S32x8x1 ![0, 0, 63] B slices_S32x8x64_S32x8x1_0_0_63) shapeCasts_S32x8x1_S32x8
theorem lastRow_at (b : Fin 32) (a : Fin 8) : lastRow B (ix2 b a) = B (ix3 b a 63) := by
  pointwise [lastRow]

def weight : FVec Ideal S32x8x64 .f32 :=
  Host.exp (subf (addf (subf (broadcastInDim S32x8x64 ![0, 1, 2] bcast_S32x8x1_S32x8x64_0_1_2
      (extractStridedSlice S32x8x1 ![0, 0, 63] B slices_S32x8x64_S32x8x1_0_0_63)) B) I)
    (broadcastInDim S32x8x64 ![0, 1, 2] bcast_S32x8x1_S32x8x64_0_1_2 (broadcastInDim S32x8x1 ![0, 1] bcast_S32x8_S32x8x1_0_1 m)))
theorem weight_at (b : Fin 32) (a : Fin 8) (s : Fin 64) :
    weight B I m (ix3 b a s) = Ideal.exp (B (ix3 b a 63) - B (ix3 b a s) + I (ix3 b a s) - m (ix2 b a)) := by
  pointwise [weight]

def decay : FVec Ideal S32x8 .f32 :=
  Host.exp (subf (addf (shapeCast S32x8 (extractStridedSlice S32x8x1 ![0, 0, 63] B slices_S32x8x64_S32x8x1_0_0_63) shapeCasts_S32x8x1_S32x8) z) m)
theorem decay_at (b : Fin 32) (a : Fin 8) : decay B m z (ix2 b a) = Ideal.exp (B (ix3 b a 63) + z (ix2 b a) - m (ix2 b a)) := by
  pointwise [decay]

def memory : FVec Ideal S32x8x128x128 .f32 :=
  addf (mulf (broadcastInDim S32x8x128x128 ![0, 1, 2, 3] bcast_S32x8x1x1_S32x8x128x128_0_1_2_3
      (broadcastInDim S32x8x1x1 ![0, 1] bcast_S32x8_S32x8x1x1_0_1 m)) C)
    (Host.dotGeneral dot_S32x8x64x128_S32x8x64x128_S32x8x128x128_2_2_3_3_01_01 none
      (mulf (broadcastInDim S32x8x64x128 ![0, 1, 2, 3] bcast_S32x8x64x1_S32x8x64x128_0_1_2_3
        (broadcastInDim S32x8x64x1 ![0, 1, 2] bcast_S32x8x64_S32x8x64x1_0_1_2 A)) k) v)
theorem memory_at (b : Fin 32) (a : Fin 8) (d e : Fin 128) :
    memory A k v C m (ix4 b a d e) = m (ix2 b a) * C (ix4 b a d e) + ∑ s : Fin 64, A (ix3 b a s) * k (ix4 b a s d) * v (ix4 b a s e) := by
  pointwise [memory]

def normal : FVec Ideal S32x8x128 .f32 :=
  addf (mulf (broadcastInDim S32x8x128 ![0, 1, 2] bcast_S32x8x1_S32x8x128_0_1_2 (broadcastInDim S32x8x1 ![0, 1] bcast_S32x8_S32x8x1_0_1 m)) N)
    (Host.dotGeneral dot_S32x8x64_S32x8x64x128_S32x8x128_2_2_n_3_01_01 none A k)
theorem normal_at (b : Fin 32) (a : Fin 8) (d : Fin 128) :
    normal A k N m (ix3 b a d) = m (ix2 b a) * N (ix3 b a d) + ∑ s : Fin 64, A (ix3 b a s) * k (ix4 b a s d) := by
  pointwise [normal]

end Cert.ReferenceIdeal.Ref

end

end
-- ==== Proof.RefStep.lean ====
/- One trip of the reference's loop over the chunks. -/
module

public import proofs.«01_k».proof.Proof.RefOps

@[expose] public section

set_option maxRecDepth 16384

noncomputable section

open Idealize.ShloMosaic Idealize.ShloMosaic.TcCoe Idealize.SL.Sem

namespace Cert.ReferenceIdeal.Ref

open Cert.ReferenceIdeal Cert.ReferenceIdeal.Value

/-- The carried buffers' entries as they are before trip `j`, over the reals: `Q`, `K`, `X` the rows of a head's
    queries, keys and values in the order the head takes them, `I` and `F` its gates. -/
structure Inv (Q K X : Fin 32 → Fin 8 → ℕ → Fin 128 → ℝ) (I F : Fin 32 → Fin 8 → ℕ → ℝ) (V0 : Valuation τ sig (Elt Ideal)) (j : ℕ) : Prop where
  q : ∀ (c : Fin 4) b a (t : Fin 64) d, V0 (Proc.devRef .tc main_v52_0) (ix5 c b a t d) = ((Q b a (64 * c + t) d : ℝ) : EReal)
  k : ∀ (c : Fin 4) b a (t : Fin 64) d, V0 (Proc.devRef .tc main_v52_1) (ix5 c b a t d) = ((K b a (64 * c + t) d : ℝ) : EReal)
  v : ∀ (c : Fin 4) b a (t : Fin 64) d, V0 (Proc.devRef .tc main_v52_2) (ix5 c b a t d) = ((X b a (64 * c + t) d : ℝ) : EReal)
  i : ∀ (c : Fin 4) b a (t : Fin 64), V0 (Proc.devRef .tc main_v52_3) (ix4 c b a t) = ((I b a (64 * c + t) : ℝ) : EReal)
  f : ∀ (c : Fin 4) b a (t : Fin 64), V0 (Proc.devRef .tc main_v52_4) (ix4 c b a t) = ((F b a (64 * c + t) : ℝ) : EReal)
  tri : ∀ (t s : Fin 64), V0 (Proc.devRef .tc main_v52_5) (ix2 t s) = BitVec.ofBool (decide ((s : ℕ) ≤ t))
  ctr : V0 (Proc.devRef .tc main_v52_6) = fun _ => BitVec.ofNat 32 j
  C : ∀ b a d e, V0 (Proc.devRef .tc main_v52_7) (ix4 b a d e)
    = ((Real.exp (-Recur.mx (F b a) (I b a) (64 * j)) * Recur.acc (F b a) (I b a) (fun s => K b a s d * X b a s e) (64 * j) : ℝ) : EReal)
  n : ∀ b a d, V0 (Proc.devRef .tc main_v52_8) (ix3 b a d)
    = ((Real.exp (-Recur.mx (F b a) (I b a) (64 * j)) * Recur.acc (F b a) (I b a) (fun s => K b a s d * 1) (64 * j) : ℝ) : EReal)
  m : ∀ b a, V0 (Proc.devRef .tc main_v52_9) (ix2 b a) = ((Recur.mx (F b a) (I b a) (64 * j) : ℝ) : EReal)
  h : ∀ (c : Fin 4) b a (t : Fin 64) e, (c : ℕ) < j → V0 (Proc.devRef .tc main_v52_10) (ix5 c b a t e)
    = (((∑ d : Fin 128, Q b a (64 * c + t) d * Recur.acc (F b a) (I b a) (fun s => K b a s d * X b a s e) (64 * c + t + 1))
        / max |∑ d : Fin 128, Q b a (64 * c + t) d * Recur.acc (F b a) (I b a) (fun s => K b a s d * 1) (64 * c + t + 1)| 1 : ℝ) : EReal)

variable {Q K X : Fin 32 → Fin 8 → ℕ → Fin 128 → ℝ} {I F : Fin 32 → Fin 8 → ℕ → ℝ} {V0 : Valuation τ sig (Elt Ideal)} {j : ℕ}
  (H : Inv Q K X I F V0 j) (hj : j < 4)

include H hj

theorem q_at (b : Fin 32) (a : Fin 8) (t : Fin 64) (d : Fin 128) :
    res_main_while0b_v67 V0 (ix4 b a t d) = ((Q b a (64 * j + t) d : ℝ) : EReal) := by
  unfold res_main_while0b_v67
  exact (slice5 _ _ hj H.ctr _ _ _ b a t d).trans (H.q ⟨j, hj⟩ b a t d)

theorem k_at (b : Fin 32) (a : Fin 8) (t : Fin 64) (d : Fin 128) :
    res_main_while0b_v68 V0 (ix4 b a t d) = ((K b a (64 * j + t) d : ℝ) : EReal) := by
  unfold res_main_while0b_v68
  exact (slice5 _ _ hj H.ctr _ _ _ b a t d).trans (H.k ⟨j, hj⟩ b a t d)

theorem v_at (b : Fin 32) (a : Fin 8) (t : Fin 64) (d : Fin 128) :
    res_main_while0b_v69 V0 (ix4 b a t d) = ((X b a (64 * j + t) d : ℝ) : EReal) := by
  unfold res_main_while0b_v69
  exact (slice5 _ _ hj H.ctr _ _ _ b a t d).trans (H.v ⟨j, hj⟩ b a t d)

theorem i_at (b : Fin 32) (a : Fin 8) (t : Fin 64) :
    res_main_while0b_v70 V0 (ix3 b a t) = ((I b a (64 * j + t) : ℝ) : EReal) := by
  unfold res_main_while0b_v70
  exact (slice4 _ _ hj H.ctr _ _ _ b a t).trans (H.i ⟨j, hj⟩ b a t)

/-- The forget logs summed along the chunk. -/
theorem b_at (b : Fin 32) (a : Fin 8) (t : Fin 64) :
    res_main_while0b_v72 V0 (ix3 b a t) = ((Recur.bs (F b a) (64 * j) t : ℝ) : EReal) := by
  unfold res_main_while0b_v72
  refine cumsum_at _ _ (fun i => ?_) b a (fun s => F b a (64 * j + s)) (fun s => ?_) t _ _
  · pointwise
  · exact (slice4 _ _ hj H.ctr _ _ _ b a s).trans (H.f ⟨j, hj⟩ b a s)

/-- A token's weight before its row's scale is taken out, and minus infinity above the diagonal. -/
theorem w_at (b : Fin 32) (a : Fin 8) (t s : Fin 64) :
    res_main_while0b_v81 V0 (ix4 b a t s)
      = if (s : ℕ) ≤ t then ((Recur.bs (F b a) (64 * j) t - Recur.bs (F b a) (64 * j) s + I b a (64 * j + s) : ℝ) : EReal) else ⊥ := by
  pointwise [res_main_while0b_v81, b_at H hj, i_at H hj, H.tri]
  refine (ite_congr rfl (fun _ => ?_) fun _ => Recur.ninf)
  rw [EReal.coe_add, EReal.coe_sub]

theorem x_at (b : Fin 32) (a : Fin 8) (t : Fin 64) :
    res_main_while0b_v84 V0 (ix3 b a t) = ((Recur.bs (F b a) (64 * j) t + Recur.mx (F b a) (I b a) (64 * j) : ℝ) : EReal) := by
  pointwise [res_main_while0b_v84, b_at H hj, H.m]
  rw [EReal.coe_add]

/-- A row's scale. -/
theorem m_at (b : Fin 32) (a : Fin 8) (t : Fin 64) :
    res_main_while0b_v86 V0 (ix3 b a t) = ((Recur.mx (F b a) (I b a) (64 * j + (t + 1)) : ℝ) : EReal) := by
  refine (rowMax_at (res_main_while0b_v84 V0) (res_main_while0b_v81 V0) b a t).trans ?_
  simp only [x_at H hj, w_at H hj]
  refine (Recur.max_fold (fun s : Fin 64 => (s : ℕ) ≤ t) _ _ (fun s => Recur.bs (F b a) (64 * j) t - Recur.bs (F b a) (64 * j) s + I b a (64 * j + s)) fun c => ?_)
  rw [Recur.mx_chunk_le]
  refine and_congr_right fun _ => ⟨fun h s hs => h s hs, fun h s hs => h ⟨s, by omega⟩ hs⟩

theorem s_at (b : Fin 32) (a : Fin 8) (t s : Fin 64) :
    res_main_while0b_v92 V0 (ix4 b a t s) = (((if (s : ℕ) ≤ t then (∑ d : Fin 128, Q b a (64 * j + t) d * K b a (64 * j + s) d)
      * Real.exp (Recur.bs (F b a) (64 * j) t - Recur.bs (F b a) (64 * j) s + I b a (64 * j + s)
        - Recur.mx (F b a) (I b a) (64 * j + (t + 1))) else 0 : ℝ)) : EReal) := by
  refine (score_at (res_main_while0b_v86 V0) (res_main_while0b_v81 V0) (res_main_while0b_v67 V0) (res_main_while0b_v68 V0) b a t s).trans ?_
  simp only [q_at H hj, k_at H hj, w_at H hj, m_at H hj, ← EReal.coe_mul]
  rw [Recur.coe_sum]
  split_ifs
  · rw [← EReal.coe_sub, Ideal.exp_coe, ← EReal.coe_mul]
  · rw [EReal.bot_sub, Ideal.exp_bot, mul_zero]; rfl

theorem a_at (b : Fin 32) (a : Fin 8) (t : Fin 64) :
    res_main_while0b_v94 V0 (ix3 b a t)
      = ((Real.exp (Recur.bs (F b a) (64 * j) t + Recur.mx (F b a) (I b a) (64 * j) - Recur.mx (F b a) (I b a) (64 * j + (t + 1))) : ℝ) : EReal) := by
  pointwise [res_main_while0b_v94, x_at H hj, m_at H hj]
  rw [← EReal.coe_sub, Ideal.exp_coe]

theorem last_at (b : Fin 32) (a : Fin 8) :
    res_main_while0b_v113 V0 (ix2 b a) = ((Recur.mx (F b a) (I b a) (64 * j + 64) : ℝ) : EReal) :=
  (lastRow_at (res_main_while0b_v86 V0) b a).trans (m_at H hj b a 63)

theorem ws_at (b : Fin 32) (a : Fin 8) (s : Fin 64) :
    res_main_while0b_v121 V0 (ix3 b a s)
      = ((Real.exp (Recur.bs (F b a) (64 * j) (64 - 1) - Recur.bs (F b a) (64 * j) s + I b a (64 * j + s) - Recur.mx (F b a) (I b a) (64 * j + 64)) : ℝ) : EReal) := by
  refine (weight_at (res_main_while0b_v72 V0) (res_main_while0b_v70 V0) (res_main_while0b_v113 V0) b a s).trans ?_
  rw [b_at H hj, b_at H hj, i_at H hj, last_at H hj, ← EReal.coe_sub, ← EReal.coe_add, ← EReal.coe_sub, Ideal.exp_coe]
  rfl

theorem dec_at (b : Fin 32) (a : Fin 8) :
    res_main_while0b_v126 V0 (ix2 b a)
      = ((Real.exp (Recur.bs (F b a) (64 * j) (64 - 1) + Recur.mx (F b a) (I b a) (64 * j) - Recur.mx (F b a) (I b a) (64 * j + 64)) : ℝ) : EReal) := by
  refine (decay_at (res_main_while0b_v72 V0) (res_main_while0b_v113 V0) (V0 (Proc.devRef .tc main_v52_9)) b a).trans ?_
  rw [b_at H hj, H.m, last_at H hj, ← EReal.coe_add, ← EReal.coe_sub, Ideal.exp_coe]
  rfl

theorem step_C (b : Fin 32) (a : Fin 8) (d e : Fin 128) : step_main_v52_7 V0 (ix4 b a d e)
    = ((Real.exp (-Recur.mx (F b a) (I b a) (64 * (j + 1))) * Recur.acc (F b a) (I b a) (fun s => K b a s d * X b a s e) (64 * (j + 1)) : ℝ) : EReal) := by
  refine (memory_at (res_main_while0b_v121 V0) (res_main_while0b_v68 V0) (res_main_while0b_v69 V0) (V0 (Proc.devRef .tc main_v52_7))
    (res_main_while0b_v126 V0) b a d e).trans ?_
  simp only [dec_at H hj, H.C, ws_at H hj, k_at H hj, v_at H hj, ← EReal.coe_mul]
  rw [Recur.coe_sum, ← EReal.coe_add]
  refine congrArg _ ?_
  rw [Nat.mul_succ, ← Recur.chunk_state (T := 64) (F b a) (I b a) (fun s => K b a s d * X b a s e) (64 * j) (by omega)]
  congr 1
  exact Finset.sum_congr rfl fun s _ => mul_assoc _ _ _

theorem step_n (b : Fin 32) (a : Fin 8) (d : Fin 128) : step_main_v52_8 V0 (ix3 b a d)
    = ((Real.exp (-Recur.mx (F b a) (I b a) (64 * (j + 1))) * Recur.acc (F b a) (I b a) (fun s => K b a s d * 1) (64 * (j + 1)) : ℝ) : EReal) := by
  refine (normal_at (res_main_while0b_v121 V0) (res_main_while0b_v68 V0) (V0 (Proc.devRef .tc main_v52_8)) (res_main_while0b_v126 V0) b a d).trans ?_
  simp only [dec_at H hj, H.n, ws_at H hj, k_at H hj, ← EReal.coe_mul]
  rw [Recur.coe_sum, ← EReal.coe_add]
  refine congrArg _ ?_
  rw [Nat.mul_succ, ← Recur.chunk_state (T := 64) (F b a) (I b a) (fun s => K b a s d * 1) (64 * j) (by omega)]
  congr 1
  exact Finset.sum_congr rfl fun s _ => by rw [mul_one]

/-- The chunk's output rows. -/
theorem h_at (b : Fin 32) (a : Fin 8) (t : Fin 64) (e : Fin 128) :
    quot (denom (res_main_while0b_v86 V0) (res_main_while0b_v94 V0) (res_main_while0b_v92 V0) (res_main_while0b_v67 V0) (V0 (Proc.devRef .tc main_v52_8)))
      (numer (res_main_while0b_v94 V0) (res_main_while0b_v92 V0) (res_main_while0b_v67 V0) (res_main_while0b_v69 V0) (V0 (Proc.devRef .tc main_v52_7))) (ix5 0 b a t e)
    = (((∑ d : Fin 128, Q b a (64 * j + t) d * Recur.acc (F b a) (I b a) (fun s => K b a s d * X b a s e) (64 * j + t + 1))
        / max |∑ d : Fin 128, Q b a (64 * j + t) d * Recur.acc (F b a) (I b a) (fun s => K b a s d * 1) (64 * j + t + 1)| 1 : ℝ) : EReal) := by
  rw [quot_at, numer_at, denom_at]
  simp only [m_at H hj, a_at H hj, s_at H hj, q_at H hj, v_at H hj, H.C, H.n, ← EReal.coe_mul, ← EReal.coe_neg]
  simp only [Recur.coe_sum, ← EReal.coe_mul, ← EReal.coe_add, Ideal.exp_coe]
  rw [Recur.absf_coe, ← Recur.coe_max, Recur.coe_div]
  · refine congrArg _ ?_
    have h1 := Recur.chunk_num (F b a) (I b a) (Q b a (64 * j + t)) (K b a) (fun s => X b a s e) (64 * j) t t.2 (Recur.mx (F b a) (I b a) (64 * j + (t + 1)))
    have h2 := Recur.chunk_num (F b a) (I b a) (Q b a (64 * j + t)) (K b a) (fun _ => 1) (64 * j) t t.2 (Recur.mx (F b a) (I b a) (64 * j + (t + 1)))
    simp only [mul_one] at h2 ⊢
    rw [h1, h2, Recur.ratio, add_assoc (64 * j)]
  · exact (lt_of_lt_of_le (Real.exp_pos _) (le_max_right _ _)).ne'

/-- One trip keeps the carried buffers as the recurrence has them. -/
theorem step : Inv Q K X I F (STEP V0) (j + 1) where
  q c b a t d := by rw [STEP_main_v52_0]; exact H.q c b a t d
  k c b a t d := by rw [STEP_main_v52_1]; exact H.k c b a t d
  v c b a t d := by rw [STEP_main_v52_2]; exact H.v c b a t d
  i c b a t := by rw [STEP_main_v52_3]; exact H.i c b a t
  f c b a t := by rw [STEP_main_v52_4]; exact H.f c b a t
  tri t s := by rw [STEP_main_v52_5]; exact H.tri t s
  ctr := by
    rw [STEP_main_v52_6]
    unfold step_main_v52_6
    rw [H.ctr]
    interval_cases j <;> rfl
  C b a d e := by rw [STEP_main_v52_7]; exact step_C H hj b a d e
  n b a d := by rw [STEP_main_v52_8]; exact step_n H hj b a d
  m b a := by
    rw [STEP_main_v52_9]
    exact last_at H hj b a
  h c b a t e hc := by
    rw [STEP_main_v52_10]
    refine (update5 _ _ _ hj H.ctr Gen.updateFits_S4x32x8x64x128_S1x32x8x64x128 _ c b a t e).trans ?_
    by_cases hcj : (c : ℕ) = j
    · rw [if_pos hcj, hcj]
      exact h_at H hj b a t e
    · rw [if_neg hcj]
      exact H.h c b a t e (by omega)

end Cert.ReferenceIdeal.Ref

end

end
-- ==== Proof.RefEntry.lean ====
/- What the reference's operations before the loop leave in the carried buffers. -/
module

public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Value
open StableHlo

/-- The chunks of an argument's heads, those of the backward direction with their tokens in reverse. -/
def chunks (x : FVec Ideal S24576x512 .bf16) : FVec Ideal S4x32x8x64x128 .f32 :=
  let y : FVec Ideal S32x4x256x128 .f32 := transpose S32x4x256x128 [0, 2, 1, 3] (shapeCast S32x256x4x128
    (extf .f32 (extractStridedSlice S8192x512 ![0, 0] x slices_S24576x512_S8192x512_0_0) bitsLt_bf16_f32) shapeCasts_S8192x512_S32x256x4x128)
    transposes_S32x256x4x128_S32x4x256x128_0_2_1_3
  transpose S4x32x8x64x128 [2, 0, 1, 3, 4] (shapeCast S32x8x4x64x128
    (concatenate S32x8x256x128 1 [⟨S32x4x256x128, y⟩, ⟨S32x4x256x128, Host.reverse [2] y⟩] concatenates_S32x4x256x128_S32x4x256x128_S32x8x256x128_d1)
    shapeCasts_S32x8x256x128_S32x8x4x64x128) transposes_S32x8x4x64x128_S4x32x8x64x128_2_0_1_3_4

theorem chunks_at (x : FVec Ideal S24576x512 .bf16) (c : Fin 4) (b : Fin 32) (a : Fin 8) (t : Fin 64) (d : Fin 128) :
    chunks x (ix5 c b a t d) = if (a : ℕ) < 4 then x (ix2 ⟨256 * b + (64 * c + t), by omega⟩ ⟨128 * (a % 4) + d, by omega⟩)
      else x (ix2 ⟨256 * b + (255 - (64 * c + t)), by omega⟩ ⟨128 * (a % 4) + d, by omega⟩) := by
  pointwise [chunks]
  by_cases h : (a : ℕ) < 4
  · rw [dif_pos h, if_pos h]
    refine congrArg x ((ix2_inj ..).2 ⟨Fin.ext ?_, Fin.ext ?_⟩) <;> simp <;> omega
  · rw [dif_neg h]
    refine Eq.trans ?_ (if_neg h).symm
    refine congrArg x ((ix2_inj ..).2 ⟨Fin.ext ?_, Fin.ext ?_⟩) <;> simp [Fin.val_rev] <;> omega

/-- The chunks of the heads' gates, those of the backward direction with their tokens in reverse. -/
def gateChunks (y : FVec Ideal S8192x8 .f32) : FVec Ideal S4x32x8x64 .f32 :=
  let z : FVec Ideal S2x32x4x256 .f32 := transpose S2x32x4x256 [2, 0, 3, 1] (shapeCast S32x256x2x4 y shapeCasts_S8192x8_S32x256x2x4) transposes_S32x256x2x4_S2x32x4x256_2_0_3_1
  transpose S4x32x8x64 [2, 0, 1, 3] (shapeCast S32x8x4x64 (concatenate S32x8x256 1
    [⟨S32x4x256, shapeCast S32x4x256 (extractStridedSlice S1x32x4x256 ![0, 0, 0, 0] z slices_S2x32x4x256_S1x32x4x256_0_0_0_0) shapeCasts_S1x32x4x256_S32x4x256⟩,
      ⟨S32x4x256, Host.reverse [2] (shapeCast S32x4x256 (extractStridedSlice S1x32x4x256 ![1, 0, 0, 0] z slices_S2x32x4x256_S1x32x4x256_1_0_0_0) shapeCasts_S1x32x4x256_S32x4x256)⟩]
    concatenates_S32x4x256_S32x4x256_S32x8x256_d1) shapeCasts_S32x8x256_S32x8x4x64) transposes_S32x8x4x64_S4x32x8x64_2_0_1_3

theorem gateChunks_at (y : FVec Ideal S8192x8 .f32) (c : Fin 4) (b : Fin 32) (a : Fin 8) (t : Fin 64) :
    gateChunks y (ix4 c b a t) = if (a : ℕ) < 4 then y (ix2 ⟨256 * b + (64 * c + t), by omega⟩ a)
      else y (ix2 ⟨256 * b + (255 - (64 * c + t)), by omega⟩ a) := by
  pointwise [gateChunks]
  by_cases h : (a : ℕ) < 4
  · rw [dif_pos h, if_pos h]
    refine congrArg y ((ix2_inj ..).2 ⟨Fin.ext ?_, Fin.ext ?_⟩) <;> simp <;> omega
  · rw [dif_neg h]
    refine Eq.trans ?_ (if_neg h).symm
    refine congrArg y ((ix2_inj ..).2 ⟨Fin.ext ?_, Fin.ext ?_⟩) <;> simp [Fin.val_rev] <;> omega

variable (m : (ℓ : Loc nD τ sig) → Buf (Elt Ideal) ℓ) (c : Dev nD)

theorem entry0 : entryContents preI m c (Proc.devRef .tc main_v52_0) = chunks (m ((c.tc : Thread nD τ).loc main_arg0)) := by
  simp only [entryContents, afterL_cons, afterL_nil]
  after_reads_simp
  rfl

theorem entry1 : entryContents preI m c (Proc.devRef .tc main_v52_1) = chunks (m ((c.tc : Thread nD τ).loc main_arg1)) := by
  simp only [entryContents, afterL_cons, afterL_nil]
  after_reads_simp
  rfl

theorem entry2 : entryContents preI m c (Proc.devRef .tc main_v52_2) = chunks (m ((c.tc : Thread nD τ).loc main_arg2)) := by
  simp only [entryContents, afterL_cons, afterL_nil]
  after_reads_simp
  rfl

theorem entry3 : entryContents preI m c (Proc.devRef .tc main_v52_3) = gateChunks (extractStridedSlice S8192x8 ![0, 0] (m ((c.tc : Thread nD τ).loc main_arg3)) slices_S24576x128_S8192x8_0_0) := by
  simp only [entryContents, afterL_cons, afterL_nil]
  after_reads_simp
  rfl

theorem entry4 : entryContents preI m c (Proc.devRef .tc main_v52_4) = gateChunks (extractStridedSlice S8192x8 ![0, 8] (m ((c.tc : Thread nD τ).loc main_arg3)) slices_S24576x128_S8192x8_0_8) := by
  simp only [entryContents, afterL_cons, afterL_nil]
  after_reads_simp
  rfl

theorem entry5 : entryContents preI m c (Proc.devRef .tc main_v52_5) = select
    (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) := by
  simp only [entryContents, afterL_cons, afterL_nil]
  after_reads_simp
  rfl

theorem entry7 : entryContents preI m c (Proc.devRef .tc main_v52_7) = broadcastInDim S32x8x128x128 ![] bcast_S_S32x8x128x128 (constant S_ .f32 0x00000000#32 : FVec Ideal S_ .f32) := by
  simp only [entryContents, afterL_cons, afterL_nil]
  after_reads_simp
  rfl

theorem entry8 : entryContents preI m c (Proc.devRef .tc main_v52_8) = broadcastInDim S32x8x128 ![] bcast_S_S32x8x128 (constant S_ .f32 0x00000000#32 : FVec Ideal S_ .f32) := by
  simp only [entryContents, afterL_cons, afterL_nil]
  after_reads_simp
  rfl

theorem entry9 : entryContents preI m c (Proc.devRef .tc main_v52_9) = broadcastInDim S32x8 ![] bcast_S_S32x8 (constant S_ .f32 0x00000000#32 : FVec Ideal S_ .f32) := by
  simp only [entryContents, afterL_cons, afterL_nil]
  after_reads_simp
  rfl

theorem entry10 : entryContents preI m c (Proc.devRef .tc main_v52_10) = broadcastInDim S4x32x8x64x128 ![] bcast_S_S4x32x8x64x128 (constant S_ .f32 0x00000000#32 : FVec Ideal S_ .f32) := by
  simp only [entryContents, afterL_cons, afterL_nil]
  after_reads_simp
  rfl

end Cert.ReferenceIdeal.Ref

end

end
-- ==== Proof.RefOut.lean ====
/- What the reference's operations after the loop make of the carried buffers. -/
module

public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen

/-- The forward direction's rows, laid out by token and head. -/
def outF (x : FVec Ideal S4x32x8x64x128 .f32) : FVec Ideal S8192x512 .f32 :=
  shapeCast _ (transpose S32x256x4x128 [0, 2, 1, 3] (extractStridedSlice S32x4x256x128 ![0, 0, 0, 0] (shapeCast _ (transpose S32x8x4x64x128 [1, 2, 0, 3, 4] x
    transposes_S4x32x8x64x128_S32x8x4x64x128_1_2_0_3_4) shapeCasts_S32x8x4x64x128_S32x8x256x128) slices_S32x8x256x128_S32x4x256x128_0_0_0_0)
    transposes_S32x4x256x128_S32x256x4x128_0_2_1_3) shapeCasts_S32x256x4x128_S8192x512

theorem outF_at (x : FVec Ideal S4x32x8x64x128 .f32) (i : Fin 8192) (j : Fin 512) : outF x (ix2 i j)
    = x (ix5 ⟨i % 256 / 64, by omega⟩ ⟨i / 256, by omega⟩ ⟨j / 128, by omega⟩ ⟨i % 256 % 64, by omega⟩ ⟨j % 128, by omega⟩) := by
  pointwise [outF]

/-- The backward direction's rows, laid out by token and head. -/
def outB (x : FVec Ideal S4x32x8x64x128 .f32) : FVec Ideal S8192x512 .f32 :=
  shapeCast _ (transpose S32x256x4x128 [0, 2, 1, 3] (Host.reverse [2] (extractStridedSlice S32x4x256x128 ![0, 4, 0, 0] (shapeCast _ (transpose S32x8x4x64x128 [1, 2, 0, 3, 4] x
    transposes_S4x32x8x64x128_S32x8x4x64x128_1_2_0_3_4) shapeCasts_S32x8x4x64x128_S32x8x256x128) slices_S32x8x256x128_S32x4x256x128_0_4_0_0))
    transposes_S32x4x256x128_S32x256x4x128_0_2_1_3) shapeCasts_S32x256x4x128_S8192x512

theorem outB_at (x : FVec Ideal S4x32x8x64x128 .f32) (i : Fin 8192) (j : Fin 512) : outB x (ix2 i j)
    = x (ix5 ⟨(255 - i % 256) / 64, by omega⟩ ⟨i / 256, by omega⟩ ⟨4 + j / 128, by omega⟩ ⟨(255 - i % 256) % 64, by omega⟩ ⟨j % 128, by omega⟩) := by
  pointwise [outB]
  refine congrArg x ((ix5_inj ..).2 ⟨Fin.ext ?_, Fin.ext ?_, Fin.ext ?_, Fin.ext ?_, Fin.ext ?_⟩) <;> simp [Fin.val_rev] <;> omega

/-- Memory and normalizer side by side. -/
def outC (x : FVec Ideal S32x8x128x128 .f32) (y : FVec Ideal S32x8x128 .f32) : FVec Ideal S32x8x128x256 .f32 :=
  concatenate S32x8x128x256 3 [⟨S32x8x128x128, x⟩, ⟨S32x8x128x128, (broadcastInDim S32x8x128x128 ![0, 1, 2, 3] bcast_S32x8x128x1_S32x8x128x128_0_1_2_3
    (broadcastInDim S32x8x128x1 ![0, 1, 2] bcast_S32x8x128_S32x8x128x1_0_1_2 y))⟩] concatenates_S32x8x128x128_S32x8x128x128_S32x8x128x256_d3

theorem outC_at (x : FVec Ideal S32x8x128x128 .f32) (y : FVec Ideal S32x8x128 .f32) (b : Fin 32) (a : Fin 8) (d : Fin 128) (e : Fin 256) :
    outC x y (ix4 b a d e) = if h : (e : ℕ) < 128 then x (ix4 b a d ⟨e, h⟩) else y (ix3 b a d) := by
  pointwise [outC]

/-- The scale, along a row of lanes. -/
def outM (x : FVec Ideal S32x8 .f32) : FVec Ideal S32x8x128 .f32 :=
  broadcastInDim S32x8x128 ![0, 1, 2] bcast_S32x8x1_S32x8x128_0_1_2 (broadcastInDim S32x8x1 ![0, 1] bcast_S32x8_S32x8x1_0_1 x)

theorem outM_at (x : FVec Ideal S32x8 .f32) (b : Fin 32) (a : Fin 8) (l : Fin 128) : outM x (ix3 b a l) = x (ix2 b a) := by
  pointwise [outM]

theorem zero4_at (b a d e) : broadcastInDim S32x8x128x128 ![] bcast_S_S32x8x128x128 (constant S_ .f32 0x00000000#32 : FVec Ideal S_ .f32) (ix4 b a d e) = 0 := by
  pointwise []
theorem zero3_at (b a d) : broadcastInDim S32x8x128 ![] bcast_S_S32x8x128 (constant S_ .f32 0x00000000#32 : FVec Ideal S_ .f32) (ix3 b a d) = 0 := by
  pointwise []
theorem zero2_at (b a) : broadcastInDim S32x8 ![] bcast_S_S32x8 (constant S_ .f32 0x00000000#32 : FVec Ideal S_ .f32) (ix2 b a) = 0 := by
  pointwise []

theorem tri_at (t s : Fin 64) : select
    (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) (ix2 t s)
    = BitVec.ofBool (decide ((s : ℕ) ≤ t)) := by
  pointwise []
  revert t s
  decide +kernel

end Cert.ReferenceIdeal.Ref

end

end
-- ==== Proof.RefValue.lean ====
/- The reference's results are the same functions of the arguments as the kernel's. -/
module

public import proofs.«01_k».proof.Proof.RefStep
public import proofs.«01_k».proof.Proof.RefEntry
public import proofs.«01_k».proof.Proof.RefOut
public import proofs.«01_k».proof.Proof.KernelValue

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Value
open Cert.KernelIdeal.Head Cert.KernelIdeal.Arr
open StableHlo

/-- The order in which a head takes its tokens: backward for the last four. -/
def sg (a : Fin 8) : Equiv.Perm (Fin 256) := if (a : ℕ) < 4 then Equiv.refl _ else Fin.revPerm

theorem seq_at (a : Fin 8) (X : Fin 256 → ℝ) (s : ℕ) (hs : s < 256) :
    seqOf (sg a) X s = if (a : ℕ) < 4 then X ⟨s, hs⟩ else X ⟨255 - s, by omega⟩ := by
  have e : Fin.ofNat 256 s = ⟨s, hs⟩ := Fin.ext (Nat.mod_eq_of_lt hs)
  unfold seqOf sg
  rw [e]
  by_cases h : (a : ℕ) < 4
  · rw [if_pos h, if_pos h]; rfl
  · rw [if_neg h, if_neg h, Fin.revPerm_symm, Fin.revPerm_apply]
    exact congrArg X (Fin.ext (by simp only [Fin.val_rev]; omega))

variable (q k v : Fin 24576 → Fin 512 → ℝ) (g : Fin 24576 → Fin 128 → ℝ)

/-- A head's rows and gates in its order. -/
def rows (x : Fin 24576 → Fin 512 → ℝ) (b : Fin 32) (a : Fin 8) (s : ℕ) (d : Fin 128) : ℝ := sX (sg a) ⟨a % 4, by omega⟩ (rowsOf x b) s d
def logI (b : Fin 32) (a : Fin 8) : ℕ → ℝ := sI (sg a) (rowsOf g b) a
def logF (b : Fin 32) (a : Fin 8) : ℕ → ℝ := sF (sg a) (rowsOf g b) a

theorem chunks_rows {x : FVec Ideal S24576x512 .bf16} {r : Fin 24576 → Fin 512 → ℝ} (h : ∀ i j, x (ix2 i j) = ((r i j : ℝ) : EReal))
    (c : Fin 4) (b : Fin 32) (a : Fin 8) (t : Fin 64) (d : Fin 128) :
    chunks x (ix5 c b a t d) = ((rows r b a (64 * c + t) d : ℝ) : EReal) := by
  rw [chunks_at, rows, sX, seq_at _ _ _ (by omega)]
  by_cases e : (a : ℕ) < 4
  · rw [if_pos e, if_pos e, h]; rfl
  · rw [if_neg e, if_neg e, h]; rfl

theorem gates_at {y : FVec Ideal S24576x128 .f32} (b : Fin 32) (r : Fin 256) (a : Fin 8) :
    extractStridedSlice S8192x8 ![0, 0] y slices_S24576x128_S8192x8_0_0 (ix2 ⟨256 * b + r, by omega⟩ a)
      = y (ix2 ⟨256 * b + r, by omega⟩ ⟨a, by omega⟩) := by
  pointwise []

theorem gates_at8 {y : FVec Ideal S24576x128 .f32} (b : Fin 32) (r : Fin 256) (a : Fin 8) :
    extractStridedSlice S8192x8 ![0, 8] y slices_S24576x128_S8192x8_0_8 (ix2 ⟨256 * b + r, by omega⟩ a)
      = y (ix2 ⟨256 * b + r, by omega⟩ ⟨8 + a, by omega⟩) := by
  pointwise []

variable {g} in
theorem gates_logI {y : FVec Ideal S24576x128 .f32} (h : ∀ i j, y (ix2 i j) = ((g i j : ℝ) : EReal))
    (c : Fin 4) (b : Fin 32) (a : Fin 8) (t : Fin 64) :
    gateChunks (extractStridedSlice S8192x8 ![0, 0] y slices_S24576x128_S8192x8_0_0) (ix4 c b a t) = ((logI g b a (64 * c + t) : ℝ) : EReal) := by
  rw [gateChunks_at, logI, sI, seq_at _ _ _ (by omega)]
  by_cases e : (a : ℕ) < 4
  · rw [if_pos e, if_pos e]; exact (gates_at b ⟨64 * c + t, by omega⟩ a).trans (h ..)
  · rw [if_neg e, if_neg e]; exact (gates_at b ⟨255 - (64 * c + t), by omega⟩ a).trans (h ..)

variable {g} in
theorem gates_logF {y : FVec Ideal S24576x128 .f32} (h : ∀ i j, y (ix2 i j) = ((g i j : ℝ) : EReal))
    (c : Fin 4) (b : Fin 32) (a : Fin 8) (t : Fin 64) :
    gateChunks (extractStridedSlice S8192x8 ![0, 8] y slices_S24576x128_S8192x8_0_8) (ix4 c b a t) = ((logF g b a (64 * c + t) : ℝ) : EReal) := by
  rw [gateChunks_at, logF, sF, seq_at _ _ _ (by omega)]
  by_cases e : (a : ℕ) < 4
  · rw [if_pos e, if_pos e]; exact (gates_at8 b ⟨64 * c + t, by omega⟩ a).trans (h ..)
  · rw [if_neg e, if_neg e]; exact (gates_at8 b ⟨255 - (64 * c + t), by omega⟩ a).trans (h ..)

/-- A result row, by the head's sequences. -/
theorem oH_rows (b : Fin 32) (a : Fin 8) (t : Fin 256) (e : Fin 128) :
    oH (sg a) (rowsOf q b) (rowsOf k b) (rowsOf v b) (rowsOf g b) a ⟨a % 4, by omega⟩ t e
      = (∑ d : Fin 128, rows q b a (sg a t) d * Recur.acc (logF g b a) (logI g b a) (fun s => rows k b a s d * rows v b a s e) (sg a t + 1))
        / max |∑ d : Fin 128, rows q b a (sg a t) d * Recur.acc (logF g b a) (logI g b a) (fun s => rows k b a s d * 1) (sg a t + 1)| 1 := by
  have h (d : Fin 128) : rows q b a (sg a t) d = rowsOf q b t ⟨128 * (a % 4) + d, by omega⟩ := by
    have := seqOf_at (sg a) (fun t => rowsOf q b t ⟨128 * (a % 4) + d, by omega⟩) t
    rwa [Nat.zero_add] at this
  simp only [h]
  rfl

variable {q k v g} (m : (ℓ : Loc nD τ sig) → Buf (Elt Ideal) ℓ) (c : Dev nD)

theorem entry (hq : ∀ i j, (m ((c.tc : Thread nD τ).loc main_arg0) : FVec Ideal S24576x512 .bf16) (ix2 i j) = ((q i j : ℝ) : EReal))
    (hk : ∀ i j, (m ((c.tc : Thread nD τ).loc main_arg1) : FVec Ideal S24576x512 .bf16) (ix2 i j) = ((k i j : ℝ) : EReal))
    (hv : ∀ i j, (m ((c.tc : Thread nD τ).loc main_arg2) : FVec Ideal S24576x512 .bf16) (ix2 i j) = ((v i j : ℝ) : EReal))
    (hg : ∀ i j, (m ((c.tc : Thread nD τ).loc main_arg3) : FVec Ideal S24576x128 .f32) (ix2 i j) = ((g i j : ℝ) : EReal)) :
    Inv (rows q) (rows k) (rows v) (logI g) (logF g) (entryContents preI m c) 0 where
  q c' b a t d := (congrFun (entry0 m c) _).trans (chunks_rows hq c' b a t d)
  k c' b a t d := (congrFun (entry1 m c) _).trans (chunks_rows hk c' b a t d)
  v c' b a t d := (congrFun (entry2 m c) _).trans (chunks_rows hv c' b a t d)
  i c' b a t := (congrFun (entry3 m c) _).trans (gates_logI hg c' b a t)
  f c' b a t := (congrFun (entry4 m c) _).trans (gates_logF hg c' b a t)
  tri t s := (congrFun (entry5 m c) _).trans (tri_at t s)
  ctr := ctr_entry m c
  C b a d e := (congrFun (entry7 m c) _).trans ((zero4_at b a d e).trans (by simp [Recur.acc]))
  n b a d := (congrFun (entry8 m c) _).trans ((zero3_at b a d).trans (by simp [Recur.acc]))
  m b a := (congrFun (entry9 m c) _).trans ((zero2_at b a).trans (by simp [Recur.mx]))
  h _ _ _ _ _ h := absurd h (Nat.not_lt_zero _)

section Out

variable {V0 : Valuation τ sig (Elt Ideal)} (H : Inv (rows q) (rows k) (rows v) (logI g) (logF g) V0 4)
include H

theorem hf_out : out_main_v60 V0 = fun i : S8192x512.Idx => ((hfR q k v g (i 0) (i 1) : ℝ) : EReal) := by
  funext x
  idx_vars x
  refine (outF_at (V0 (Proc.devRef .tc main_v52_10)) x0 x1).trans ((H.h _ _ _ _ _ (by show _ % 256 / 64 < 4; omega)).trans (congrArg ((↑) : ℝ → EReal) ?_))
  have e := oH_rows q k v g ⟨x0 / 256, by omega⟩ ⟨x1 / 128, by omega⟩ ⟨x0 % 256, by omega⟩ ⟨x1 % 128, by omega⟩
  have es : sg ⟨x1 / 128, by omega⟩ = Equiv.refl _ := if_pos (by simp only; omega)
  have ea : (⟨((⟨x1 / 128, by omega⟩ : Fin 8) : ℕ) % 4, by omega⟩ : Fin 4) = ⟨x1 / 128, by omega⟩ := Fin.ext (by simp only; omega)
  rw [ea, es] at e
  have et : 64 * (x0 % 256 / 64) + x0 % 256 % 64 = (x0 % 256 : ℕ) := by omega
  simp only [et]
  exact e.symm

theorem hb_out : out_main_v64 V0 = fun i : S8192x512.Idx => ((hbR q k v g (i 0) (i 1) : ℝ) : EReal) := by
  funext x
  idx_vars x
  refine (outB_at (V0 (Proc.devRef .tc main_v52_10)) x0 x1).trans ((H.h _ _ _ _ _ (by show (255 - _ % 256) / 64 < 4; omega)).trans (congrArg ((↑) : ℝ → EReal) ?_))
  have e := oH_rows q k v g ⟨x0 / 256, by omega⟩ ⟨4 + x1 / 128, by omega⟩ ⟨x0 % 256, by omega⟩ ⟨x1 % 128, by omega⟩
  have es : sg ⟨4 + x1 / 128, by omega⟩ = Fin.revPerm := if_neg (by simp only; omega)
  have ea : (⟨((⟨4 + x1 / 128, by omega⟩ : Fin 8) : ℕ) % 4, by omega⟩ : Fin 4) = ⟨x1 / 128, by omega⟩ := Fin.ext (by simp only; omega)
  rw [ea, es] at e
  have et : 64 * ((255 - x0 % 256) / 64) + (255 - x0 % 256) % 64 = (Fin.revPerm (⟨x0 % 256, by omega⟩ : Fin 256) : ℕ) := by
    rw [Fin.revPerm_apply, Fin.val_rev]; simp only; omega
  simp only [et]
  exact e.symm

theorem c_out : out_main_v57 V0 = fun i : S32x8x128x256.Idx => ((cR k v g (i 0) (i 1) (i 2) (i 3) : ℝ) : EReal) := by
  funext x
  idx_vars x
  refine (outC_at (V0 (Proc.devRef .tc main_v52_7)) (V0 (Proc.devRef .tc main_v52_8)) x0 x1 x2 x3).trans ?_
  show _ = ((Cert.KernelIdeal.Body.stC _ _ _ _ _ _ x1 x2 x3 : ℝ) : EReal)
  unfold Cert.KernelIdeal.Body.stC
  by_cases e : (x3 : ℕ) < 128
  · rw [dif_pos e, H.C]
    by_cases h : (x1 : ℕ) < 4
    · rw [if_pos h, dif_pos e]; simp only [rows, logI, logF, show sg x1 = Equiv.refl _ from if_pos h]; rfl
    · rw [if_neg h, dif_pos e]; simp only [rows, logI, logF, show sg x1 = Fin.revPerm from if_neg h]; rfl
  · rw [dif_neg e, H.n]
    by_cases h : (x1 : ℕ) < 4
    · rw [if_pos h, dif_neg e]; simp only [rows, logI, logF, show sg x1 = Equiv.refl _ from if_pos h]; rfl
    · rw [if_neg h, dif_neg e]; simp only [rows, logI, logF, show sg x1 = Fin.revPerm from if_neg h]; rfl

theorem m_out : out_main_v66 V0 = fun i : S32x8x128.Idx => ((mR g (i 0) (i 1) : ℝ) : EReal) := by
  funext x
  idx_vars x
  refine (outM_at (V0 (Proc.devRef .tc main_v52_9)) x0 x1 x2).trans ((H.m _ _).trans (congrArg ((↑) : ℝ → EReal) ?_))
  show _ = Cert.KernelIdeal.Body.stM _ _ x1
  unfold Cert.KernelIdeal.Body.stM
  by_cases h : (x1 : ℕ) < 4
  · rw [if_pos h]; simp only [logI, logF, show sg x1 = Equiv.refl _ from if_pos h]; rfl
  · rw [if_neg h]; simp only [logI, logF, show sg x1 = Fin.revPerm from if_neg h]; rfl

end Out

theorem four {Q K X : Fin 32 → Fin 8 → ℕ → Fin 128 → ℝ} {I F : Fin 32 → Fin 8 → ℕ → ℝ} {V0 : Valuation τ sig (Elt Ideal)}
    (H : Inv Q K X I F V0 0) : Inv Q K X I F (STEP^[4] V0) 4 :=
  step (step (step (step H (by omega)) (by omega)) (by omega)) (by omega)

end Cert.ReferenceIdeal.Ref

end

end
-- ==== Proof.PreFinite.lean ====
/- The precondition, read: every element of the arguments is a real number. -/
module

public import proofs.«01_k».proof.Defs
public import proofs.«01_k».proof.Proof.KernelBlocks
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite

/-- The predicate's shape relations. -/
theorem hfacts : Cert.Pre_finite.Facts where
  bitsLt_bf16_f32 := by decide
  bcast_S_S24576x512 := by decide
  reducesTo_S24576x512_S_d0_1 := by decide
  h_S_ := by decide
  bcast_S_S24576x128 := by decide
  reducesTo_S24576x128_S_d0_1 := by decide

theorem real_of {x : EReal} (h : max x (-x) < ⊤) : ∃ r : ℝ, x = (r : EReal) := by
  rw [max_lt_iff] at h
  refine ⟨x.toReal, (EReal.coe_toReal h.1.ne ?_).symm⟩
  rintro rfl
  exact absurd h.2 (by simp)

theorem pinf : Ideal.ofBits .f32 0x7F800000#32 = (⊤ : EReal) := by simp [Ideal.ofBits, Ideal.ieee]

/-- An element whose comparison with infinity came out true is a real number. -/
theorem real_of_cmp {s : Shape} (x : FVec Ideal s .f32) (b : S_.BroadcastsInDim s (![] : Fin 0 → Fin s.rank)) (i : s.Idx)
    (h : cmpf .olt (Host.absf x) (broadcastInDim s ![] b (constant S_ .f32 0x7F800000#32 : FVec Ideal S_ .f32)) i = 1#1) : ∃ r : ℝ, x i = (r : EReal) := by
  refine real_of ?_
  have h' : BitVec.ofBool (decide (max (x i) (-(x i)) < Ideal.ofBits .f32 0x7F800000#32)) = 1#1 := h
  rw [pinf] at h'
  by_contra hn
  rw [decide_eq_false hn] at h'
  exact absurd h' (by decide)

instance : Subsingleton S_.Idx := ⟨fun a b => funext fun k => k.elim0⟩

variable [Facts] (q k v : FVec Ideal S24576x512 .bf16) (g : FVec Ideal S24576x128 .f32)

theorem real0 (h : (fn (F := Ideal) q k v g).1 = fun _ => 1#1) (i : S24576x512.Idx) : ∃ r : ℝ, q i = (r : EReal) := by
  have e := congrFun h (fun k => k.elim0)
  simp only [fn, fn_part1] at e
  have e' := Host.reduce_andi_all _ _ _ _ _ e i
  exact real_of_cmp (extf .f32 q Facts.bitsLt_bf16_f32) _ i e'
theorem real1 (h : (fn (F := Ideal) q k v g).2.1 = fun _ => 1#1) (i : S24576x512.Idx) : ∃ r : ℝ, k i = (r : EReal) := by
  have e := congrFun h (fun k => k.elim0)
  simp only [fn, fn_part1] at e
  have e' := Host.reduce_andi_all _ _ _ _ _ e i
  exact real_of_cmp (extf .f32 k Facts.bitsLt_bf16_f32) _ i e'
theorem real2 (h : (fn (F := Ideal) q k v g).2.2.1 = fun _ => 1#1) (i : S24576x512.Idx) : ∃ r : ℝ, v i = (r : EReal) := by
  have e := congrFun h (fun k => k.elim0)
  simp only [fn, fn_part1] at e
  have e' := Host.reduce_andi_all _ _ _ _ _ e i
  exact real_of_cmp (extf .f32 v Facts.bitsLt_bf16_f32) _ i e'
theorem real3 (h : (fn (F := Ideal) q k v g).2.2.2 = fun _ => 1#1) (i : S24576x128.Idx) : ∃ r : ℝ, g i = (r : EReal) := by
  have e := congrFun h (fun k => k.elim0)
  simp only [fn, fn_part1] at e
  have e' := Host.reduce_andi_all _ _ _ _ _ e i
  exact real_of_cmp g _ i e'

open Cert.KernelIdeal in
theorem realArgs (m : (ℓ : Loc nD τ sig) → Buf (Elt Ideal) ℓ) (h : Cert.Pre_KernelIdeal_finite m) (c : Dev nD) :
    ∃ q k v g, Cert.KernelIdeal.Arr.RealArgs m c q k v g := by
  obtain ⟨h0, h1, h2, h3⟩ := h c
  choose q hq using fun i j => real0 _ _ _ _ h0 (ix2 i j)
  choose k hk using fun i j => real1 _ _ _ _ h1 (ix2 i j)
  choose v hv using fun i j => real2 _ _ _ _ h2 (ix2 i j)
  choose g hg using fun i j => real3 _ _ _ _ h3 (ix2 i j)
  exact ⟨q, k, v, g, hq, hk, hv, hg⟩

end Cert.Pre_finite

end

end
-- ==== Proof.ProjSpec.lean ====
/- What the projection of the layer's tokens gives, in extended real numbers: the normed and modulated token, its
   products with the weight's columns, the gated convolution along a segment, and the gates. -/
module

public import Idealize.ShloMosaic.Lib.Pointwise

@[expose] public section

set_option maxRecDepth 16384

noncomputable section

open Idealize.ShloMosaic Idealize.ShloMosaic.TcCoe Idealize.SL.Sem

namespace Cert.Proj

/-- The arguments, as functions of their indices. -/
structure Args where
  X0 : Fin 8192 → Fin 1024 → EReal
  X1 : Fin 16384 → Fin 1024 → EReal
  M : Fin 8 → Fin 6144 → EReal
  G : Fin 1024 → EReal
  W : Fin 1024 → Fin 3600 → EReal
  BI : Fin 2 → Fin 4 → EReal
  BF : Fin 2 → Fin 4 → EReal
  CW : Fin 3 → Fin 512 → EReal
  CB : Fin 512 → EReal

/-- A row over the root of its mean square. -/
def nrm (x : Fin 1024 → EReal) (k : Fin 1024) : EReal :=
  x k * Ideal.rsqrt (Ideal.div (∑ j, x j * x j) (Ideal.ofBits .f32 0x44800000#32) + Ideal.ofBits .f32 0x358637BD#32)

/-- The normed row, scaled and shifted. -/
def modu (x g sc sh : Fin 1024 → EReal) (k : Fin 1024) : EReal := nrm x k * g k * (1 + sc k) + sh k

/-- The logarithm of the logistic function, as written from the smaller side. -/
def lsig (z : EReal) : EReal := min z 0 - Ideal.log (1 + Ideal.exp (-(max z (-z))))

theorem lsig_eq (z : EReal) : -(max (-z) 0 + Ideal.log (1 + Ideal.exp (-(max (-z) (- -z))))) = lsig z := by
  have hL : Ideal.log (1 + Ideal.exp (-(max z (-z)))) ≠ ⊥ := by
    have h0 : -(max z (-z)) ≠ ⊤ := by
      intro h
      have h1 := EReal.neg_eq_top_iff.1 h
      rcases max_eq_bot.1 h1 with ⟨a, b⟩
      rw [a] at b
      simp at b
    induction h : -(max z (-z)) with
    | bot =>
      rw [show Ideal.exp (⊥ : EReal) = 0 from rfl, add_zero, show (1 : EReal) = ((1 : ℝ) : EReal) from rfl,
        show Ideal.log ((1 : ℝ) : EReal) = if (1 : ℝ) ≤ 0 then ⊥ else (Real.log 1 : EReal) from rfl, if_neg (by norm_num)]
      exact EReal.coe_ne_bot _
    | top => exact absurd h h0
    | coe r =>
      rw [show Ideal.exp (r : EReal) = (Real.exp r : EReal) from rfl, show (1 : EReal) = ((1 : ℝ) : EReal) from rfl, ← EReal.coe_add,
        show Ideal.log ((1 + Real.exp r : ℝ) : EReal) = if (1 + Real.exp r) ≤ 0 then ⊥ else (Real.log (1 + Real.exp r) : EReal) from rfl,
        if_neg (by have := Real.exp_pos r; linarith)]
      exact EReal.coe_ne_bot _
  have hM : max (-z) 0 ≠ ⊥ := fun h => by
    have := (max_eq_bot.1 h).2
    simp at this
  have hm : -(max (-z) 0) = min z 0 := by
    rcases le_total z 0 with h | h
    · rw [max_eq_left (by simpa using h), min_eq_left h, neg_neg]
    · rw [max_eq_right (by simpa using h), min_eq_right h, neg_zero]
  rw [neg_neg, max_comm (-z) z, EReal.neg_add (Or.inl hM) (Or.inr hL), hm]
  rfl

variable (A : Args)

/-- Token `r` of all tokens, the context's first. -/
def tok (r : ℕ) : Fin 1024 → EReal :=
  if h : r < 8192 then A.X0 ⟨r, h⟩ else A.X1 ⟨(r - 8192) % 16384, Nat.mod_lt _ (by decide)⟩

/-- The row of the modulation a token reads: the first for the context, then one for each sequence. -/
def mrow (r : ℕ) : Fin 8 := ⟨if r < 8192 then 0 else 1 + (r - 8192) / 4096 % 4, by split <;> omega⟩

/-- The normed and modulated token. -/
def hid (r : ℕ) : Fin 1024 → EReal :=
  modu (tok A r) A.G (fun k => A.M (mrow r) ⟨1024 + k, by omega⟩) (fun k => A.M (mrow r) ⟨k, by omega⟩)

/-- The token's product with column `c` of the weight. -/
def proj (r : ℕ) (c : Fin 3600) : EReal := ∑ k, hid A r k * A.W k c

/-- What the convolution runs over. -/
def u (r : ℕ) (c : Fin 512) : EReal := proj A r ⟨512 + c, by omega⟩ * proj A r ⟨1024 + c, by omega⟩

/-- The length of a segment of the convolution. -/
def seg (r : ℕ) : ℕ := if r < 8192 then 256 else 64

/-- The gated convolution of width three within a segment. -/
def conv (r : ℕ) (c : Fin 512) : EReal :=
  proj A r ⟨c, by omega⟩ * ((if r % seg r = 0 then 0 else u A (r - 1) c) * A.CW 0 c + u A r c * A.CW 1 c
    + (if r % seg r = seg r - 1 then 0 else u A (r + 1) c) * A.CW 2 c + A.CB c)

/-- The gates before the nonlinearity: eight input gates, eight forget gates, then zeros. -/
def pre (r : ℕ) (l : Fin 128) : EReal :=
  if h : l.val < 16 then proj A r ⟨3584 + l, by omega⟩
    + (if l.val < 8 then A.BI ⟨l.val / 4 % 2, by omega⟩ ⟨l.val % 4, by omega⟩ else A.BF ⟨l.val / 4 % 2, by omega⟩ ⟨l.val % 4, by omega⟩) else 0

def gate (r : ℕ) (l : Fin 128) : EReal := if l.val < 8 then pre A r l else lsig (pre A r l)

end Cert.Proj

end

end
-- ==== Proof.ProjBody.lean ====
/- The arithmetic of one block of the projection's kernel, read at an index. -/
module

public import proofs.«01_k».proof.Proof.Gen.Kernel2Ideal.Value
public import proofs.«01_k».proof.Proof.ProjSpec

@[expose] public section

set_option maxRecDepth 16384

noncomputable section

open Idealize.ShloMosaic Idealize.ShloMosaic.TcCoe Idealize.SL.Sem

namespace Cert.Kernel2Ideal.Body

open Cert.Kernel2Ideal Cert.Kernel2Ideal.Gen Cert.Proj

variable (i : grid0.Coords) (xa xb n : FVec Ideal S512x1024 .f32) (sh sc g : FVec Ideal S1x1024 .f32)
  (hb : FVec Ideal S512x1024 .bf16) (w w' : FVec Ideal S1024x512 .bf16) (b b1 b2 b3 : FVec Ideal S1x512 .f32)

theorem grid_lt (i : grid0.Coords) : (i 0).val < 48 := (i 0).isLt
theorem ctx_bit : ∀ n : Fin 48, Scalar.cmpi .slt (BitVec.ofNat 32 n.val) 16#32 = if n.val < 16 then 1#1 else 0#1 := by
  decide +kernel
theorem lane_bit : ∀ l : Fin 128, IntOp.cmpi .sge (BitVec.ofNat 32 l.val) 8#32 = if l.val < 8 then 0#1 else 1#1 := by
  decide +kernel
theorem last_256 : ∀ y : Fin 512, IntOp.andi (BitVec.ofNat 32 y.val) 255#32 = 255#32 ↔ y.val % 256 = 255 := by
  decide +kernel
theorem last_64 : ∀ y : Fin 512, IntOp.andi (BitVec.ofNat 32 y.val) 63#32 = 63#32 ↔ y.val % 64 = 63 := by
  decide +kernel
theorem first_256 : ∀ y : Fin 512, IntOp.andi (BitVec.ofNat 32 y.val) 255#32 = 0#32 ↔ y.val % 256 = 0 := by
  decide +kernel
theorem first_64 : ∀ y : Fin 512, IntOp.andi (BitVec.ofNat 32 y.val) 63#32 = 0#32 ↔ y.val % 64 = 0 := by
  decide +kernel
theorem ctx_eq : Scalar.cmpi .slt (BitVec.ofNat 32 (i 0).val) 16#32 = if (i 0).val < 16 then 1#1 else 0#1 := ctx_bit ⟨_, grid_lt i⟩
theorem sel_one {α : Type} (a b : α) : Scalar.select 1#1 a b = a := if_pos rfl
theorem sel_zero {α : Type} (a b : α) : Scalar.select 0#1 a b = b := if_neg (by decide)
theorem sel_eq {α : Type} {n : ℕ} (p q : BitVec n) (a b : α) :
    Scalar.select (IntOp.cmpi .eq p q) a b = if p = q then a else b := by
  by_cases h : p = q
  · rw [if_pos h, h, show IntOp.cmpi .eq q q = 1#1 by simp [IntOp.cmpi]]
    exact sel_one a b
  · rw [if_neg h, show IntOp.cmpi .eq p q = 0#1 by simp [IntOp.cmpi, beq_eq_false_iff_ne.2 h]]
    exact sel_zero a b

/-- The length of a segment in a block of the context, and in a block of the sequences. -/
def len (s : BitVec 1) : ℕ := if s = 1 then 256 else 64

theorem nrm_ctx (h : (i 0).val < 16) (y : Fin 512) (k : Fin 1024) :
    (k0_pay2 i xa xb : FVec Ideal S512x1024 .f32) (ix2 y k) = nrm (fun j => xa (ix2 y j)) k := by
  have hi := (ctx_eq i).trans (if_pos h)
  pointwise [k0_pay2, hi, sel_one]
  rfl
theorem nrm_lat (h : ¬ (i 0).val < 16) (y : Fin 512) (k : Fin 1024) :
    (k0_pay2 i xa xb : FVec Ideal S512x1024 .f32) (ix2 y k) = nrm (fun j => xb (ix2 y j)) k := by
  have hi := (ctx_eq i).trans (if_neg h)
  pointwise [k0_pay2, hi, sel_zero]
  rfl
theorem hb_at (y : Fin 512) (k : Fin 1024) : k0_pay3 sh sc n g (ix2 y k)
    = n (ix2 y k) * g (ix2 0 k) * (1 + sc (ix2 0 k)) + sh (ix2 0 k) := by
  pointwise [k0_pay3]
theorem q_at (y c : Fin 512) : k0_pay10 hb w (ix2 y c) = (∑ k, hb (ix2 y k) * w (ix2 k c)) * Ideal.ofBits .f32 0x3DB504F3#32 := by
  pointwise [k0_pay10]
theorem k_at (y c : Fin 512) : k0_pay11 hb w (ix2 y c) = ∑ k, hb (ix2 y k) * w (ix2 k c) := by
  pointwise [k0_pay11]
theorem v_at (y c : Fin 512) : k0_pay12 hb w (ix2 y c) = ∑ k, hb (ix2 y k) * w (ix2 k c) := by
  pointwise [k0_pay12]
theorem og_at (y c : Fin 512) : k0_pay13 hb w (ix2 y c) = ∑ k, hb (ix2 y k) * w (ix2 k c) := by
  pointwise [k0_pay13]
theorem u_at (y c : Fin 512) : k0_pay4 sh sc n g w w' (ix2 y c)
    = (∑ k, k0_pay3 sh sc n g (ix2 y k) * w (ix2 k c)) * ∑ k, k0_pay3 sh sc n g (ix2 y k) * w' (ix2 k c) := by
  pointwise [k0_pay4]
theorem pos_at (s : BitVec 1) (y : Fin 512) : k0_pay5 s (ix2 y 0) = IntOp.andi (BitVec.ofNat 32 y.val) (Scalar.select s 255#32 63#32) := by
  pointwise [k0_pay5]
theorem bit_cases (s : BitVec 1) : s = 1#1 ∨ s = 0#1 := by
  revert s
  decide
theorem last_iff (s : BitVec 1) (y : Fin 512) : k0_pay5 s (ix2 y 0) = Scalar.select s 255#32 63#32 ↔ y.val % len s = len s - 1 := by
  rw [pos_at]
  rcases bit_cases s with h | h <;> rw [h]
  · exact last_256 y
  · exact last_64 y
theorem first_iff (s : BitVec 1) (y : Fin 512) : k0_pay5 s (ix2 y 0) = 0#32 ↔ y.val % len s = 0 := by
  rw [pos_at]
  rcases bit_cases s with h | h <;> rw [h]
  · exact first_256 y
  · exact first_64 y
theorem next_at (s : BitVec 1) (y c : Fin 512) : k0_pay6 s sh sc n g w w' (ix2 y c)
    = if y.val % len s = len s - 1 then 0 else k0_pay4 sh sc n g w w' (ix2 ⟨(y + 512 - 511) % 512, by omega⟩ c) := by
  rw [← if_congr (last_iff s y) rfl rfl]
  pointwise [k0_pay6, sel_eq]
theorem prev_at (s : BitVec 1) (y c : Fin 512) : k0_pay7 s sh sc n g w w' b (ix2 y c)
    = (if y.val % len s = 0 then 0 else k0_pay4 sh sc n g w w' (ix2 ⟨(y + 512 - 1) % 512, by omega⟩ c)) * b (ix2 0 c) := by
  rw [← if_congr (first_iff s y) rfl rfl]
  pointwise [k0_pay7, sel_eq]
theorem row_at (y c : Fin 512) : k0_pay8 b (ix2 y c) = b (ix2 0 c) := by
  pointwise [k0_pay8]
theorem conv_at (u0 u1 u2 r1 : FVec Ideal S512x512 .f32) (y c : Fin 512) : k0_pay9 hb u0 u1 u2 r1 b1 b2 w (ix2 y c)
    = (∑ k, hb (ix2 y k) * w (ix2 k c)) * (u2 (ix2 y c) + u0 (ix2 y c) * r1 (ix2 y c) + u1 (ix2 y c) * b1 (ix2 0 c) + b2 (ix2 0 c)) := by
  pointwise [k0_pay9]
theorem gate_at (wg : FVec Ideal S1024x128 .bf16) (bg : FVec Ideal S1x128 .f32) (y : Fin 512) (l : Fin 128) : k0_pay14 hb wg bg (ix2 y l)
    = if l.val < 8 then (∑ k, hb (ix2 y k) * wg (ix2 k l)) + bg (ix2 0 l) else lsig ((∑ k, hb (ix2 y k) * wg (ix2 k l)) + bg (ix2 0 l)) := by
  pointwise [k0_pay14, lane_bit]
  split_ifs
  · exact sel_zero _ _
  · refine (sel_one _ _).trans ?_
    rw [zero_sub]
    rfl
theorem pre_t_at (wg : FVec Ideal S128x1024 .bf16) (bg : FVec Ideal S128x1 .f32) (y : Fin 512) (l : Fin 128) :
    k0_pay15 hb wg bg (ix2 l y) = (∑ k, wg (ix2 l k) * hb (ix2 y k)) + bg (ix2 l 0) := by
  pointwise [k0_pay15]
theorem gate_t_at (z : FVec Ideal S128x512 .f32) (y : Fin 512) (l : Fin 128) :
    k0_pay1 z (iota .tc S128x512 32 [0] iota_S128x512_d0_w32) 8#32 (ix2 l y) = if l.val < 8 then z (ix2 l y) else lsig (z (ix2 l y)) := by
  pointwise [k0_pay1, lane_bit]
  split_ifs
  · exact sel_zero _ _
  · refine (sel_one _ _).trans ?_
    rw [zero_sub]
    rfl
end Cert.Kernel2Ideal.Body

end

end
-- ==== Proof.ProjBlocks.lean ====
/- The blocks the projection's kernel reads, from its arguments. -/
module

public import Idealize.ShloMosaic.Lib.Claim
public import Idealize.ShloMosaic.Lib.Pipeline.ValueKit
public import Idealize.ShloMosaic.Lib.Routing.OpsSet
public import Idealize.ShloMosaic.Lib.Routing.OpsOne
public import proofs.«01_k».proof.Proof.ProjBody

@[expose] public section

set_option maxRecDepth 16384

noncomputable section

open Idealize.ShloMosaic Idealize.ShloMosaic.TcCoe Idealize.SL.Sem

open Idealize.ShloMosaic.Pipeline (Dat)

namespace Cert.Kernel2Ideal.Blocks

open Cert.Kernel2Ideal Cert.Kernel2Ideal.Gen Cert.Proj

theorem idx : ∀ t : Fin cfg0.N, t.val < 48 ∧ (grid0.coords t 0).val = t.val
    ∧ win0_0.index t = ![min t.val 15, 0] ∧ win0_1.index t = ![t.val - 16, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![0, t.val] :=
  (by decide +kernel : ∀ t : Fin grid0.N, _)

/-- The row of the modulation a block reads. -/
theorem off : ∀ t : Fin cfg0.N, k0_off1 (grid0.coords t) = ![if t.val < 16 then 0 else 1 + (t.val - 16) / 8, 0]
    ∧ k0_off2 (grid0.coords t) = ![if t.val < 16 then 0 else 1 + (t.val - 16) / 8, 1024] :=
  (by decide +kernel : ∀ t : Fin grid0.N, _)

variable (m : (ℓ : Loc nD τ sig) → Buf (Elt Ideal) ℓ) (c : Dev nD)

/-- The arguments in memory. -/
def args : Args where
  X0 r k := (m ((c : Thread nD τ).loc main_arg0) : FVec Ideal S8192x1024 .f32) (ix2 r k)
  X1 r k := (m ((c : Thread nD τ).loc main_arg1) : FVec Ideal S16384x1024 .f32) (ix2 r k)
  M r k := (m ((c : Thread nD τ).loc main_arg2) : FVec Ideal S8x6144 .f32) (ix2 r k)
  G k := (m ((c : Thread nD τ).loc main_arg3) : FVec Ideal S1024 .f32) (ix1 k)
  W k j := (m ((c : Thread nD τ).loc main_arg4) : FVec Ideal S1024x3600 .f32) (ix2 k j)
  BI a b := (m ((c : Thread nD τ).loc main_arg5) : FVec Ideal S2x4 .f32) (ix2 a b)
  BF a b := (m ((c : Thread nD τ).loc main_arg6) : FVec Ideal S2x4 .f32) (ix2 a b)
  CW a b := (m ((c : Thread nD τ).loc main_arg7) : FVec Ideal S3x512 .f32) (ix2 a b)
  CB a := (m ((c : Thread nD τ).loc main_arg8) : FVec Ideal S512 .f32) (ix1 a)

variable (t : Fin cfg0.N)

theorem b0 (h : t.val < 16) (y k) : (iblk m c 0 t : FVec Ideal S512x1024 .f32) (ix2 y k) = tok (args m c) (512 * t + y) k := by
  have h' : 512 * t.val + y < 8192 := by omega
  have e : tok (args m c) (512 * t + y) = (args m c).X0 ⟨_, h'⟩ := dif_pos h'
  rw [e]
  show _ = (m ((c : Thread nD τ).loc main_arg0) : FVec Ideal S8192x1024 .f32) _
  blk_ext [iblk, V, idx t]
theorem b1 (h : ¬ t.val < 16) (y k) : (iblk m c 1 t : FVec Ideal S512x1024 .f32) (ix2 y k) = tok (args m c) (512 * t + y) k := by
  have h' : ¬ 512 * t.val + y < 8192 := by omega
  have e : tok (args m c) (512 * t + y) = (args m c).X1 ⟨_, Nat.mod_lt _ (by decide)⟩ := dif_neg h'
  rw [e]
  show _ = (m ((c : Thread nD τ).loc main_arg1) : FVec Ideal S16384x1024 .f32) _
  have := (idx t).1
  blk_ext [iblk, V, idx t]
theorem b2 (r k) : (iblk m c 2 t : FVec Ideal S8x6144 .f32) (ix2 r k) = (args m c).M r k := by
  show _ = (m ((c : Thread nD τ).loc main_arg2) : FVec Ideal S8x6144 .f32) _
  blk_ext [iblk, V, idx t]
theorem b3 (k) : (iblk m c 3 t : FVec Ideal S1x1024 .f32) (ix2 0 k) = (args m c).G k := by
  show _ = (m ((c : Thread nD τ).loc main_arg3) : FVec Ideal S1024 .f32) _
  blk_simp [iblk]
  entry_read
  pointwise
  blk_ext [idx t]
theorem b4 (k) (j : Fin 3584) : (iblk m c 4 t : FVec Ideal S1024x3584 .bf16) (ix2 k j) = (args m c).W k ⟨j, by omega⟩ := by
  show _ = (m ((c : Thread nD τ).loc main_arg4) : FVec Ideal S1024x3600 .f32) _
  blk_simp [iblk]
  entry_read
  pointwise
  blk_ext [idx t]
theorem b9 (k j) : (iblk m c 9 t : FVec Ideal S3x512 .f32) (ix2 k j) = (args m c).CW k j := by
  show _ = (m ((c : Thread nD τ).loc main_arg7) : FVec Ideal S3x512 .f32) _
  blk_ext [iblk, V, idx t]
theorem b10 (k) : (iblk m c 10 t : FVec Ideal S1x512 .f32) (ix2 0 k) = (args m c).CB k := by
  show _ = (m ((c : Thread nD τ).loc main_arg8) : FVec Ideal S512 .f32) _
  blk_simp [iblk]
  entry_read
  pointwise
  blk_ext [idx t]

theorem gw_at (x : FVec Ideal S1024x128 .f32) (hx : ∀ k l, x (ix2 k l) = 0) (i : IVec S1 32) (hi : i (ix1 0) = 0#32) (v : FVec Ideal S1024x16 .f32)
    (k : Fin 1024) (l : Fin 128) : Host.scatter scatter_S1024x128_S1_S1024x16_01_n_1_0 (fun _ b => b) x i v (ix2 k l)
      = if h : l.val < 16 then v (ix2 k ⟨l, h⟩) else 0 := by
  have lands : ∀ (a : Fin 1024) (b : Fin 16), scatter_S1024x128_S1_S1024x16_01_n_1_0.resultIdx? (ix2 a b) i = some (ix2 k l)
      ↔ a = k ∧ b.val = l.val := by
    intro a b
    refine (Routing.resultIdx?_ix2 _ _ _ _ _).trans ?_
    have hw0 : scatter_S1024x128_S1_S1024x16_01_n_1_0.window (ix2 a b) 0 = a.val := rfl
    have hw1 : scatter_S1024x128_S1_S1024x16_01_n_1_0.window (ix2 a b) 1 = b.val := rfl
    have hs0 : scatter_S1024x128_S1_S1024x16_01_n_1_0.start (ix2 a b) i 0 = 0 := rfl
    have hs1 : scatter_S1024x128_S1_S1024x16_01_n_1_0.start (ix2 a b) i 1 = (i (ix1 0)).toInt := by
      unfold ScatterDims.start
      rw [dif_pos (by decide)]
      refine congrArg (fun z => (i z).toInt) ?_
      funext z
      match z with
      | ⟨0, _⟩ => exact Subsingleton.elim (α := Fin 1) _ _
    rw [hw0, hw1, hs0, hs1, hi, Fin.ext_iff]
    simp
  have lands' : ∀ j : S1024x16.Idx, scatter_S1024x128_S1_S1024x16_01_n_1_0.resultIdx? j i = some (ix2 k l)
      → j 0 = k ∧ (j 1).val = l.val := fun j hj =>
    (lands (j 0) (j 1)).1 ((congrArg (fun z => scatter_S1024x128_S1_S1024x16_01_n_1_0.resultIdx? z i) (eq_ix2 j).symm).trans hj)
  by_cases h : l.val < 16
  · rw [dif_pos h]
    refine Routing.scatter_set_hit _ x i v _ _ (fun j hj => ?_) (ix2 k ⟨l, h⟩) ((lands k ⟨l, h⟩).2 ⟨rfl, rfl⟩)
    obtain ⟨p, q⟩ := lands' j hj
    rw [eq_ix2 j]
    exact congrArg v ((ix2_inj ..).2 ⟨p, Fin.ext q⟩)
  · rw [dif_neg h, ← hx k l]
    exact Routing.scatter_set_miss _ x i v _ fun j hj => h (by have := (lands' j hj).2; have h1 : (j 1).val < 16 := (j 1).isLt; omega)

theorem gb_at (x : FVec Ideal S1x128 .f32) (hx : ∀ k l, x (ix2 k l) = 0) (i : IVec S2 32) (h0 : i (ix1 0) = 0#32) (h1 : i (ix1 1) = 0#32)
    (v : FVec Ideal S16 .f32) (l : Fin 128) : Host.scatter scatter_S1x128_S2_S16_0_0_01_0 (fun _ b => b) x i v (ix2 0 l)
      = if h : l.val < 16 then v (ix1 ⟨l, h⟩) else 0 := by
  have lands : ∀ (b : Fin 16), scatter_S1x128_S2_S16_0_0_01_0.resultIdx? (ix1 b) i = some (ix2 0 l)
      ↔ b.val = l.val := by
    intro b
    refine (Routing.resultIdx?_ix2 _ _ _ _ _).trans ?_
    have hw0 : scatter_S1x128_S2_S16_0_0_01_0.window (ix1 b) 0 = 0 := rfl
    have hw1 : scatter_S1x128_S2_S16_0_0_01_0.window (ix1 b) 1 = b.val := rfl
    rw [hw0, hw1, Routing.start_pair _ rfl rfl, Routing.start_pair _ rfl rfl]
    rw [show i (ValueIdx.ix1 0) = 0#32 from h0, show i (ValueIdx.ix1 1) = 0#32 from h1]
    simp
  have lands' : ∀ j : S16.Idx, scatter_S1x128_S2_S16_0_0_01_0.resultIdx? j i = some (ix2 0 l) → (j 0).val = l.val := fun j hj =>
    (lands (j 0)).1 ((congrArg (fun z => scatter_S1x128_S2_S16_0_0_01_0.resultIdx? z i) (eq_ix1 j).symm).trans hj)
  by_cases h : l.val < 16
  · rw [dif_pos h]
    refine Routing.scatter_set_hit _ x i v _ _ (fun j hj => ?_) (ix1 ⟨l, h⟩) ((lands ⟨l, h⟩).2 rfl)
    rw [eq_ix1 j]
    exact congrArg (fun z => v (ix1 z)) (Fin.ext (lands' j hj))
  · rw [dif_neg h, ← hx 0 l]
    exact Routing.scatter_set_miss _ x i v _ fun j hj => h (by have := lands' j hj; have h1 : (j 0).val < 16 := (j 0).isLt; omega)

/-- The gates' weights: sixteen columns, then zeros. -/
def gw (A : Args) (k : Fin 1024) (l : Fin 128) : EReal := if h : l.val < 16 then A.W k ⟨3584 + l, by omega⟩ else 0
/-- The gates' biases: eight, eight, then zeros. -/
def gb (A : Args) (l : Fin 128) : EReal := if l.val < 8 then A.BI ⟨l.val / 4 % 2, by omega⟩ ⟨l.val % 4, by omega⟩
  else if l.val < 16 then A.BF ⟨l.val / 4 % 2, by omega⟩ ⟨l.val % 4, by omega⟩ else 0

theorem gw_val (k : Fin 1024) (l : Fin 128) : Host.scatter scatter_S1024x128_S1_S1024x16_01_n_1_0 (fun x b => b)
      (broadcastInDim S1024x128 ![] bcast_S_S1024x128 (constant S_ FTy.f32 0#32) : FVec Ideal S1024x128 .f32)
      (broadcastInDim S1 ![] bcast_S_S1 (constantI S_ 32 0#32))
      (extractStridedSlice S1024x16 ![0, 3584] (m (c, Proc.tc.devRef main_arg4)) slices_S1024x3600_S1024x16_0_3584) (ix2 k l)
    = gw (args m c) k l := by
  rw [gw_at _ (fun k l => by pointwise) _ (by pointwise)]
  refine dite_congr rfl (fun h => ?_) fun _ => rfl
  show _ = (m ((c : Thread nD τ).loc main_arg4) : FVec Ideal S1024x3600 .f32) _
  pointwise
theorem gb_val (l : Fin 128) : Host.scatter scatter_S1x128_S2_S16_0_0_01_0 (fun x b => b)
      (broadcastInDim S1x128 ![] bcast_S_S1x128 (constant S_ FTy.f32 0#32) : FVec Ideal S1x128 .f32)
      (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0)
      (concatenate S16 0
        [⟨S8, fun i => m (c, Proc.tc.devRef main_arg5) ((Shape.reshapeEquiv shapeCasts_S2x4_S8) i)⟩,
          ⟨S8, fun i => m (c, Proc.tc.devRef main_arg6) ((Shape.reshapeEquiv shapeCasts_S2x4_S8) i)⟩]
        concatenates_S8_S8_S16_d0) (ix2 0 l) = gb (args m c) l := by
  rw [gb_at _ (fun k l => by pointwise) _ (by pointwise) (by pointwise)]
  unfold gb
  by_cases h : l.val < 16
  · rw [dif_pos h]
    pointwise
    by_cases h8 : l.val < 8
    · rw [dif_pos h8]
      refine Eq.trans ?_ (if_pos h8).symm
      show _ = (m ((c : Thread nD τ).loc main_arg5) : FVec Ideal S2x4 .f32) _
      refine congrArg _ ((ix2_inj ..).2 ⟨Fin.ext ?_, rfl⟩)
      show l.val / 4 = l.val / 4 % 2
      omega
    · rw [dif_neg h8]
      refine Eq.trans ?_ (if_neg h8).symm
      refine Eq.trans ?_ (if_pos h).symm
      show _ = (m ((c : Thread nD τ).loc main_arg6) : FVec Ideal S2x4 .f32) _
      refine congrArg _ ((ix2_inj ..).2 ⟨Fin.ext ?_, Fin.ext ?_⟩)
      · show (l.val - 8) / 4 = l.val / 4 % 2
        omega
      · show (l.val - 8) % 4 = l.val % 4
        omega
  · rw [dif_neg h]
    split_ifs
    · omega
    · rfl
theorem b5 (k l) : (iblk m c 5 t : FVec Ideal S1024x128 .bf16) (ix2 k l) = gw (args m c) k l := by
  blk_simp [iblk]
  entry_read
  pointwise
  have e : ((View.whole main_v6).slice (win0_5.rect t)).emb (ix2 k l) = ix2 k l := by
    blk_ext [idx t]
  rw [e]
  exact gw_val m c k l
theorem b6 (k l) : (iblk m c 6 t : FVec Ideal S128x1024 .bf16) (ix2 l k) = gw (args m c) k l := by
  blk_simp [iblk]
  entry_read
  pointwise
  have e : ((View.whole main_v16).slice (win0_6.rect t)).emb (ix2 l k) = ix2 l k := by
    blk_ext [idx t]
  rw [e]
  exact gw_val m c k l
theorem b7 (l) : (iblk m c 7 t : FVec Ideal S1x128 .f32) (ix2 0 l) = gb (args m c) l := by
  blk_simp [iblk]
  entry_read
  pointwise
  have e : ((View.whole main_v14).slice (win0_7.rect t)).emb (ix2 0 l) = ix2 0 l := by
    blk_ext [idx t]
  rw [e]
  exact gb_val m c l
theorem b8 (l) : (iblk m c 8 t : FVec Ideal S128x1 .f32) (ix2 l 0) = gb (args m c) l := by
  blk_simp [iblk]
  entry_read
  pointwise
  have e : ((View.whole main_v17).slice (win0_8.rect t)).emb (ix2 l 0) = ix2 l 0 := by
    blk_ext [idx t]
  rw [e]
  exact gb_val m c l

theorem mrow_blk (y : Fin 512) : (mrow (512 * t + y)).val = if t.val < 16 then 0 else 1 + (t.val - 16) / 8 := by
  have := (idx t).1
  show (if 512 * t.val + y < 8192 then 0 else 1 + (512 * t.val + y - 8192) / 4096 % 4) = _
  split_ifs <;> omega
theorem sh_at (h) (y : Fin 512) (k : Fin 1024) : View.ld (Val := Elt Ideal) (e' := .f32) (iblk m c 2 t) (Rect.unit (s := S8x6144) (k0_off1 (grid0.coords t)) S1x1024.size h) (ix2 0 k)
    = (args m c).M (mrow (512 * t + y)) ⟨k, by omega⟩ := by
  refine Eq.trans ?_ (b2 m c t _ _)
  pointwise
  have := mrow_blk t y
  refine congrArg _ ((ix2_inj ..).2 ⟨Fin.ext ?_, Fin.ext ?_⟩)
  · show k0_off1 (grid0.coords t) 0 = (mrow (512 * t + y)).val
    rw [this, (off t).1]
    rfl
  · show k0_off1 (grid0.coords t) 1 + k.val = k.val
    rw [(off t).1]
    exact Nat.zero_add _
theorem sc_at (h) (y : Fin 512) (k : Fin 1024) : View.ld (Val := Elt Ideal) (e' := .f32) (iblk m c 2 t) (Rect.unit (s := S8x6144) (k0_off2 (grid0.coords t)) S1x1024.size h) (ix2 0 k)
    = (args m c).M (mrow (512 * t + y)) ⟨1024 + k, by omega⟩ := by
  refine Eq.trans ?_ (b2 m c t _ _)
  pointwise
  have := mrow_blk t y
  refine congrArg _ ((ix2_inj ..).2 ⟨Fin.ext ?_, Fin.ext ?_⟩)
  · show k0_off2 (grid0.coords t) 0 = (mrow (512 * t + y)).val
    rw [this, (off t).2]
    rfl
  · show k0_off2 (grid0.coords t) 1 + k.val = 1024 + k.val
    rw [(off t).2]
    rfl
theorem w_at (o : ℕ) (ho : o + 512 ≤ 3584) (h) (k : Fin 1024) (x : Fin 512) :
    View.ld (Val := Elt Ideal) (e' := .bf16) (iblk m c 4 t) (Rect.unit (s := S1024x3584) ![0, o] S1024x512.size h) (ix2 k x)
    = (args m c).W k ⟨o + x, by omega⟩ := by
  refine Eq.trans ?_ (b4 m c t k ⟨o + x, by omega⟩)
  pointwise
theorem cw_at (o : ℕ) (ho : o < 3) (h) (x : Fin 512) :
    View.ld (Val := Elt Ideal) (e' := .f32) (iblk m c 9 t) (Rect.unit (s := S3x512) ![o, 0] S1x512.size h) (ix2 0 x)
    = (args m c).CW ⟨o, ho⟩ x := by
  refine Eq.trans ?_ (b9 m c t ⟨o, ho⟩ x)
  pointwise

/-- The block's normed and modulated tokens. -/
theorem hid_blk (h1 h2) (y : Fin 512) (k : Fin 1024) :
    k0_pay3 (View.ld (Val := Elt Ideal) (e' := .f32) (iblk m c 2 t) (Rect.unit (s := S8x6144) (k0_off1 (grid0.coords t)) S1x1024.size h1))
      (View.ld (Val := Elt Ideal) (e' := .f32) (iblk m c 2 t) (Rect.unit (s := S8x6144) (k0_off2 (grid0.coords t)) S1x1024.size h2))
      (k0_pay2 (grid0.coords t) (iblk m c 0 t) (iblk m c 1 t)) (iblk m c 3 t) (ix2 y k) = hid (args m c) (512 * t + y) k := by
  have hn : (k0_pay2 (grid0.coords t) (iblk m c 0 t) (iblk m c 1 t) : FVec Ideal S512x1024 .f32) (ix2 y k) = nrm (tok (args m c) (512 * t + y)) k := by
    by_cases h : t.val < 16
    · exact (Body.nrm_ctx (grid0.coords t) _ _ (by rw [(idx t).2.1]; exact h) y k).trans (congrArg (nrm · k) (funext fun j => b0 m c t h y j))
    · exact (Body.nrm_lat (grid0.coords t) _ _ (by rw [(idx t).2.1]; exact h) y k).trans (congrArg (nrm · k) (funext fun j => b1 m c t h y j))
  refine (Body.hb_at _ _ _ _ y k).trans ?_
  rw [hn, b3 m c t k, sh_at m c t h1 y k, sc_at m c t h2 y k]
  rfl
theorem ctx_blk (y : Fin 512) : Body.len (Scalar.cmpi .slt (BitVec.ofNat 32 (grid0.coords t 0).val) 16#32) = seg (512 * t + y) := by
  have := (idx t).1
  rw [Body.ctx_eq, (idx t).2.1]
  show (if _ then 256 else 64) = if 512 * t.val + y < 8192 then 256 else 64
  by_cases h : t.val < 16
  · rw [if_pos h, if_pos (by rfl), if_pos (by omega)]
  · rw [if_neg h, if_neg (by decide), if_neg (by omega)]
theorem seg_blk (y : Fin 512) : (512 * t.val + y) % seg (512 * t + y) = y.val % seg (512 * t + y) := by
  unfold seg
  split_ifs <;> omega

section
variable {m c t} {hb : FVec Ideal S512x1024 .bf16} (hh : ∀ y k, hb (ix2 y k) = hid (args m c) (512 * t + y) k)
include hh
theorem proj_blk (o : ℕ) (ho : o + 512 ≤ 3584) (h) (y x : Fin 512) :
    (∑ k, hb (ix2 y k) * View.ld (Val := Elt Ideal) (e' := .bf16) (iblk m c 4 t) (Rect.unit (s := S1024x3584) ![0, o] S1024x512.size h) (ix2 k x))
      = proj (args m c) (512 * t + y) ⟨o + x, by omega⟩ :=
  Finset.sum_congr rfl fun k _ => by rw [hh, w_at m c t o ho h k x]
theorem pre_blk (y : Fin 512) (l : Fin 128) : (∑ k, hb (ix2 y k) * gw (args m c) k l) + gb (args m c) l = pre (args m c) (512 * t + y) l := by
  unfold pre
  by_cases h : l.val < 16
  · rw [dif_pos h]
    refine congrArg₂ (· + ·) (Finset.sum_congr rfl fun k _ => ?_) ?_
    · rw [hh, gw, dif_pos h]
    · unfold gb
      rw [if_pos h]
  · rw [dif_neg h]
    have e1 : gb (args m c) l = 0 := by
      unfold gb
      rw [if_neg h, if_neg (by omega)]
    have e2 : ∀ k, gw (args m c) k l = 0 := fun k => dif_neg h
    rw [e1, add_zero]
    exact Finset.sum_eq_zero fun k _ => by rw [e2, mul_zero]
theorem pre_t_blk (wg : FVec Ideal S128x1024 .bf16) (bg : FVec Ideal S128x1 .f32) (hw : ∀ k l, wg (ix2 l k) = gw (args m c) k l)
    (hg : ∀ l, bg (ix2 l 0) = gb (args m c) l) (y : Fin 512) (l : Fin 128) :
    k0_pay15 hb wg bg (ix2 l y) = pre (args m c) (512 * t + y) l := by
  rw [Body.pre_t_at, hg, ← pre_blk hh y l]
  refine congrArg (· + gb (args m c) l) (Finset.sum_congr rfl fun k _ => ?_)
  rw [hw]
  exact mul_comm _ _
end

theorem out12 (y x : Fin 512) : ((outsAt0 m c t).2.1 : FVec Ideal S512x512 .bf16) (ix2 y x)
    = proj (args m c) (512 * t + y) ⟨1536 + x, by omega⟩ * Ideal.ofBits .f32 0x3DB504F3#32 := by
  simp only [outsAt0]
  frame_out
  exact (Body.q_at _ _ y x).trans (congrArg (· * _) (proj_blk (fun y k => hid_blk m c t _ _ y k) 1536 (by decide) _ y x))
theorem out13 (y x : Fin 512) : ((outsAt0 m c t).2.2.1 : FVec Ideal S512x512 .bf16) (ix2 y x)
    = proj (args m c) (512 * t + y) ⟨2048 + x, by omega⟩ := by
  simp only [outsAt0]
  frame_out
  exact (Body.k_at _ _ y x).trans (proj_blk (fun y k => hid_blk m c t _ _ y k) 2048 (by decide) _ y x)
theorem out14 (y x : Fin 512) : ((outsAt0 m c t).2.2.2.1 : FVec Ideal S512x512 .bf16) (ix2 y x)
    = proj (args m c) (512 * t + y) ⟨2560 + x, by omega⟩ := by
  simp only [outsAt0]
  frame_out
  exact (Body.v_at _ _ y x).trans (proj_blk (fun y k => hid_blk m c t _ _ y k) 2560 (by decide) _ y x)
theorem out15 (y x : Fin 512) : ((outsAt0 m c t).2.2.2.2.1 : FVec Ideal S512x512 .f32) (ix2 y x)
    = proj (args m c) (512 * t + y) ⟨3072 + x, by omega⟩ := by
  simp only [outsAt0]
  frame_out
  exact (Body.og_at _ _ y x).trans (proj_blk (fun y k => hid_blk m c t _ _ y k) 3072 (by decide) _ y x)
theorem out16 (y : Fin 512) (l : Fin 128) : ((outsAt0 m c t).2.2.2.2.2.1 : FVec Ideal S512x128 .f32) (ix2 y l)
    = gate (args m c) (512 * t + y) l := by
  simp only [outsAt0]
  frame_out
  refine (Body.gate_at _ _ _ y l).trans ?_
  have e := pre_blk (fun y k => hid_blk m c t (k0_off1_inb _) (k0_off2_inb _) y k) y l
  have e' := (congrArg₂ (· + ·) (Finset.sum_congr rfl fun k _ => congrArg (_ * ·) (b5 m c t k l)) (b7 m c t l)).trans e
  unfold gate
  by_cases h : l.val < 8
  · rw [if_pos h, if_pos h]
    exact e'
  · rw [if_neg h, if_neg h]
    exact congrArg lsig e'
theorem out17 (y : Fin 512) (l : Fin 128) : ((outsAt0 m c t).2.2.2.2.2.2 : FVec Ideal S128x512 .f32) (ix2 l y)
    = gate (args m c) (512 * t + y) l := by
  simp only [outsAt0]
  frame_out
  refine (Body.gate_t_at _ y l).trans ?_
  have e' := pre_t_blk (fun y k => hid_blk m c t (k0_off1_inb _) (k0_off2_inb _) y k) (iblk m c 6 t) (iblk m c 8 t) (b6 m c t) (b8 m c t) y l
  unfold gate
  by_cases h : l.val < 8
  · rw [if_pos h, if_pos h]
    exact e'
  · rw [if_neg h, if_neg h]
    exact congrArg lsig e'
theorem u_blk (h1 h2 h3 h4) (y x : Fin 512) :
    k0_pay4 (View.ld (Val := Elt Ideal) (e' := .f32) (iblk m c 2 t) (Rect.unit (s := S8x6144) (k0_off1 (grid0.coords t)) S1x1024.size h1))
      (View.ld (Val := Elt Ideal) (e' := .f32) (iblk m c 2 t) (Rect.unit (s := S8x6144) (k0_off2 (grid0.coords t)) S1x1024.size h2))
      (k0_pay2 (grid0.coords t) (iblk m c 0 t) (iblk m c 1 t)) (iblk m c 3 t)
      (View.ld (Val := Elt Ideal) (e' := .bf16) (iblk m c 4 t) (Rect.unit (s := S1024x3584) ![0, 512] S1024x512.size h3))
      (View.ld (Val := Elt Ideal) (e' := .bf16) (iblk m c 4 t) (Rect.unit (s := S1024x3584) ![0, 1024] S1024x512.size h4)) (ix2 y x)
    = u (args m c) (512 * t + y) x :=
  (Body.u_at _ _ _ _ _ _ y x).trans (congrArg₂ (· * ·) (proj_blk (fun y k => hid_blk m c t h1 h2 y k) 512 (by decide) h3 y x)
    (proj_blk (fun y k => hid_blk m c t h1 h2 y k) 1024 (by decide) h4 y x))
theorem out11 (y x : Fin 512) : ((outsAt0 m c t).1 : FVec Ideal S512x512 .bf16) (ix2 y x)
    = conv (args m c) (512 * t + y) x := by
  simp only [outsAt0]
  frame_out
  refine (Body.conv_at _ _ _ _ _ _ _ _ y x).trans ?_
  have hp := (proj_blk (fun y k => hid_blk m c t (k0_off1_inb _) (k0_off2_inb _) y k) 0 (by decide) inb_S1024x3584_S1024x512_0_0 y x)
  refine congrArg₂ (· * ·) (hp.trans ?_) (congrArg₂ (· + ·) (congrArg₂ (· + ·) (congrArg₂ (· + ·) ?_ ?_) ?_) (b10 m c t x))
  · exact congrArg (proj (args m c) _) (Fin.ext (Nat.zero_add _))
  · refine (Body.prev_at _ _ _ _ _ _ _ _ y x).trans ?_
    refine congrArg₂ (· * ·) ?_ (cw_at m c t 0 (by decide) _ x)
    rw [ctx_blk t y, seg_blk t y]
    refine ite_congr rfl (fun _ => rfl) fun h => ?_
    refine (u_blk m c t _ _ _ _ _ x).trans (congrArg (u (args m c) · x) ?_)
    show 512 * t.val + (y.val + 512 - 1) % 512 = 512 * t.val + y - 1
    have : y.val ≠ 0 := fun e => h (by rw [e]; exact Nat.zero_mod _)
    omega
  · exact congrArg₂ (· * ·) (u_blk m c t _ _ _ _ y x) ((Body.row_at _ y x).trans (cw_at m c t 1 (by decide) _ x))
  · refine congrArg₂ (· * ·) ((Body.next_at _ _ _ _ _ _ _ y x).trans ?_) (cw_at m c t 2 (by decide) _ x)
    rw [ctx_blk t y, seg_blk t y]
    refine ite_congr rfl (fun _ => rfl) fun h => ?_
    refine (u_blk m c t _ _ _ _ _ x).trans (congrArg (u (args m c) · x) ?_)
    show 512 * t.val + (y.val + 512 - 511) % 512 = 512 * t.val + y + 1
    have : y.val ≠ 511 := fun e => h (by rw [e]; unfold seg; split_ifs <;> rfl)
    omega
end Cert.Kernel2Ideal.Blocks

end

end
-- ==== Proof.ProjValue.lean ====
/- The seven arrays of the projection's kernel after the run. -/
module

public import proofs.«01_k».proof.Proof.ProjBlocks

@[expose] public section

set_option maxRecDepth 16384

noncomputable section

open Idealize.ShloMosaic Idealize.ShloMosaic.TcCoe Idealize.SL.Sem

open Idealize.ShloMosaic.Pipeline (Dat)

namespace Cert.Kernel2Ideal.Blocks

open Cert.Kernel2Ideal Cert.Kernel2Ideal.Gen Cert.Proj Cert.Kernel2Ideal.Value

variable (m : (ℓ : Loc nD τ sig) → Buf (Elt Ideal) ℓ) (c : Dev nD)

theorem arr11 : (dats m 0 c).arrAt 11 cfg0.N = fun i : S24576x512.Idx => conv (args m c) (i 0).val ⟨(i 1).val, (i 1).isLt⟩ := by
  refine (dats m 0 c).arrAt_eq_of_covers 11 _ (by decide +kernel) fun t hf y => ?_
  blk_simp
  rw [after0_11]
  idx_vars y
  refine (out11 m c t _ _).trans ?_
  blk_simp [idx t]
  rw [mul_comm 512 t.val]
theorem arr12 : (dats m 0 c).arrAt 12 cfg0.N = fun i : S24576x512.Idx => proj (args m c) (i 0).val ⟨1536 + (i 1).val, by have : (i 1).val < 512 := (i 1).isLt; omega⟩ * Ideal.ofBits .f32 0x3DB504F3#32 := by
  refine (dats m 0 c).arrAt_eq_of_covers 12 _ (by decide +kernel) fun t hf y => ?_
  blk_simp
  rw [after0_12]
  idx_vars y
  refine (out12 m c t _ _).trans ?_
  blk_simp [idx t]
  rw [mul_comm 512 t.val]
theorem arr13 : (dats m 0 c).arrAt 13 cfg0.N = fun i : S24576x512.Idx => proj (args m c) (i 0).val ⟨2048 + (i 1).val, by have : (i 1).val < 512 := (i 1).isLt; omega⟩ := by
  refine (dats m 0 c).arrAt_eq_of_covers 13 _ (by decide +kernel) fun t hf y => ?_
  blk_simp
  rw [after0_13]
  idx_vars y
  refine (out13 m c t _ _).trans ?_
  blk_simp [idx t]
  rw [mul_comm 512 t.val]
theorem arr14 : (dats m 0 c).arrAt 14 cfg0.N = fun i : S24576x512.Idx => proj (args m c) (i 0).val ⟨2560 + (i 1).val, by have : (i 1).val < 512 := (i 1).isLt; omega⟩ := by
  refine (dats m 0 c).arrAt_eq_of_covers 14 _ (by decide +kernel) fun t hf y => ?_
  blk_simp
  rw [after0_14]
  idx_vars y
  refine (out14 m c t _ _).trans ?_
  blk_simp [idx t]
  rw [mul_comm 512 t.val]
theorem arr15 : (dats m 0 c).arrAt 15 cfg0.N = fun i : S24576x512.Idx => proj (args m c) (i 0).val ⟨3072 + (i 1).val, by have : (i 1).val < 512 := (i 1).isLt; omega⟩ := by
  refine (dats m 0 c).arrAt_eq_of_covers 15 _ (by decide +kernel) fun t hf y => ?_
  blk_simp
  rw [after0_15]
  idx_vars y
  refine (out15 m c t _ _).trans ?_
  blk_simp [idx t]
  rw [mul_comm 512 t.val]
theorem arr16 : (dats m 0 c).arrAt 16 cfg0.N = fun i : S24576x128.Idx => gate (args m c) (i 0).val ⟨(i 1).val, (i 1).isLt⟩ := by
  refine (dats m 0 c).arrAt_eq_of_covers 16 _ (by decide +kernel) fun t hf y => ?_
  blk_simp
  rw [after0_16]
  idx_vars y
  refine (out16 m c t _ _).trans ?_
  blk_simp [idx t]
  rw [mul_comm 512 t.val]
theorem arr17 : (dats m 0 c).arrAt 17 cfg0.N = fun i : S128x24576.Idx => gate (args m c) (i 1).val ⟨(i 0).val, (i 0).isLt⟩ := by
  refine (dats m 0 c).arrAt_eq_of_covers 17 _ (by decide +kernel) fun t hf y => ?_
  blk_simp
  rw [after0_17]
  idx_vars y
  refine (out17 m c t _ _).trans ?_
  blk_simp [idx t]
  rw [mul_comm 512 t.val]

end Cert.Kernel2Ideal.Blocks

end

end
-- ==== Proof.ProjRef.lean ====
/- The projection's reference read at an index: the context's tokens, the sequences', and the two joined. -/
module

public import Idealize.ShloMosaic.Lib.Pointwise
public import proofs.«01_k».proof.Proof.Gen.Reference2Ideal.Run
public import proofs.«01_k».proof.Proof.Gen.Reference2Ideal.Read
public import proofs.«01_k».proof.Proof.ProjSpec

@[expose] public section

set_option maxRecDepth 16384

noncomputable section

open Idealize.ShloMosaic Idealize.ShloMosaic.TcCoe Idealize.SL.Sem

namespace Cert.Reference2Ideal.Ref

open Cert.Reference2Ideal Cert.Reference2Ideal.Gen Cert.Reference2Ideal.Read Cert.Proj

variable (x0 : FVec Ideal S8192x1024 .f32) (x1 : FVec Ideal S16384x1024 .f32) (x2 : FVec Ideal S8x6144 .f32)
  (x3 : FVec Ideal S1024 .f32) (x4 : FVec Ideal S1024x3600 .f32) (x5 x6 : FVec Ideal S2x4 .f32) (x7 : FVec Ideal S3x512 .f32)
  (x8 : FVec Ideal S512 .f32)

/-- The arguments as functions of their indices. -/
def rargs : Args where
  X0 r k := x0 (ix2 r k)
  X1 r k := x1 (ix2 r k)
  M r k := x2 (ix2 r k)
  G k := x3 (ix1 k)
  W k j := x4 (ix2 k j)
  BI a b := x5 (ix2 a b)
  BF a b := x6 (ix2 a b)
  CW a b := x7 (ix2 a b)
  CB a := x8 (ix1 a)

/-! The log-sigmoid, as the reference writes it. -/

theorem select_self (z a b : EReal) : (if z ≠ z then a else b) = b := if_neg (fun h => h rfl)

theorem lsig_ref (z : EReal) :
    (-if -z ≠ -z then -z else max (-z) 0 + Ideal.log1p (Ideal.exp (-FloatOps.absf (F := Ideal) (φ := .f32) (-z)))) = lsig z :=
  (congrArg (fun y => -y) (select_self (-z) (-z) _)).trans (lsig_eq z)

theorem fconst_zero : (FloatOps.sitofp (F := Ideal) FTy.f32 (0#32) : EReal) = 0 := by
  show (((0#32 : BitVec 32).toInt : ℝ) : EReal) = 0
  simp

/-! A token's row of the modulation and its place in a segment. -/

theorem tok_ctx (b : Fin 32) (l : Fin 256) :
    tok (rargs x0 x1 x2 x3 x4 x5 x6 x7 x8) (b * 256 + l) = fun j => x0 (ix2 ⟨b * 256 + l, by omega⟩ j) :=
  dif_pos (show b.val * 256 + l.val < 8192 by omega)

theorem tok_lat (b : Fin 4) (l : Fin 4096) :
    tok (rargs x0 x1 x2 x3 x4 x5 x6 x7 x8) (8192 + (b * 4096 + l)) = fun j => x1 (ix2 ⟨b * 4096 + l, by omega⟩ j) :=
  (dif_neg (show ¬(8192 + (b.val * 4096 + l.val) < 8192) by omega)).trans
    (funext fun j => congrArg (fun i => x1 (ix2 i j)) (Fin.ext (show (8192 + (b.val * 4096 + l.val) - 8192) % 16384 = _ by
      show _ = b.val * 4096 + l.val
      omega)))

theorem mrow_ctx (b : Fin 32) (l : Fin 256) : mrow (b * 256 + l) = 0 :=
  Fin.ext (if_pos (show b.val * 256 + l.val < 8192 by omega))

theorem mrow_lat (b : Fin 4) (l : Fin 4096) : mrow (8192 + (b * 4096 + l)) = ⟨1 + b, by omega⟩ :=
  Fin.ext ((if_neg (show ¬(8192 + (b.val * 4096 + l.val) < 8192) by omega)).trans (by
    show _ = 1 + b.val
    omega))

theorem seg_ctx (b : Fin 32) (l : Fin 256) : seg (b * 256 + l) = 256 := if_pos (by omega)

theorem seg_lat (b : Fin 4) (l : Fin 4096) : seg (8192 + (b * 4096 + l)) = 64 := if_neg (by omega)

/-! The context's tokens. -/

theorem nrm_ctx (b : Fin 32) (l : Fin 256) (k : Fin 1024) :
    val_main_v18 (F := Ideal) x0 (ix3 b l k) = nrm (fun j => x0 (ix2 ⟨b * 256 + l, by omega⟩ j)) k := by
  pointwise [val_main_v0, val_main_v9, val_main_v10, val_main_v11, val_main_v12, val_main_v13, val_main_v14,
      val_main_v15, val_main_v16, val_main_v17, val_main_v18, val_main_cst, val_main_cst_0, val_main_cst_1]
  rfl

theorem hid_ctx (b : Fin 32) (l : Fin 256) (k : Fin 1024) :
    val_main_v27 (F := Ideal) x0 x2 x3 (ix3 b l k) = hid (rargs x0 x1 x2 x3 x4 x5 x6 x7 x8) (b * 256 + l) k := by
  pointwise [val_main_v1, val_main_v2, val_main_v3, val_main_v4, val_main_v19, val_main_v20, val_main_v21,
      val_main_v22, val_main_v23, val_main_v24, val_main_v25, val_main_v26, val_main_v27, val_main_cst_2]
  rw [nrm_ctx]
  unfold hid
  rw [tok_ctx x0 x1 x2 x3 x4 x5 x6 x7 x8 b l, mrow_ctx b l]
  rfl

theorem proj_ctx (b : Fin 32) (l : Fin 256) (k : Fin 3600) :
    val_main_v28 (F := Ideal) x0 x2 x3 x4 (ix3 b l k) = proj (rargs x0 x1 x2 x3 x4 x5 x6 x7 x8) (b * 256 + l) k := by
  pointwise [val_main_v28]
  exact Finset.sum_congr rfl fun j _ => congrArg (· * x4 (ix2 j k)) (hid_ctx x0 x1 x2 x3 x4 x5 x6 x7 x8 b l j)

theorem ig_ctx (b : Fin 32) (l : Fin 256) (a : Fin 2) (k : Fin 4) :
    val_main_v69 (F := Ideal) x0 x2 x3 x4 x5 (ix4 b l a k) = pre (rargs x0 x1 x2 x3 x4 x5 x6 x7 x8) (b * 256 + l) ⟨a * 4 + k, by omega⟩ := by
  pointwise [val_main_v36, val_main_v66, val_main_v67, val_main_v68, val_main_v69]
  rw [proj_ctx x0 x1 x2 x3 x4 x5 x6 x7 x8]
  refine Eq.trans ?_ (dif_pos (show a.val * 4 + k.val < 16 by omega)).symm
  refine congrArg₂ (· + ·) rfl (Eq.trans ?_ (if_pos (show a.val * 4 + k.val < 8 by omega)).symm)
  exact congrArg₂ (fun i j => x5 (ix2 i j)) (Fin.ext (show a.val = (a.val * 4 + k.val) / 4 % 2 by omega))
    (Fin.ext (show k.val = (a.val * 4 + k.val) % 4 by omega))

theorem fg_ctx (b : Fin 32) (l : Fin 256) (a : Fin 2) (k : Fin 4) :
    val_main_v73 (F := Ideal) x0 x2 x3 x4 x6 (ix4 b l a k) = pre (rargs x0 x1 x2 x3 x4 x5 x6 x7 x8) (b * 256 + l) ⟨8 + (a * 4 + k), by omega⟩ := by
  pointwise [val_main_v37, val_main_v70, val_main_v71, val_main_v72, val_main_v73]
  rw [proj_ctx x0 x1 x2 x3 x4 x5 x6 x7 x8]
  refine Eq.trans ?_ (dif_pos (show 8 + (a.val * 4 + k.val) < 16 by omega)).symm
  refine congrArg₂ (· + ·) (congrArg (proj (rargs x0 x1 x2 x3 x4 x5 x6 x7 x8) _)
    (Fin.ext (show 3592 + (a.val * 4 + k.val) = 3584 + (8 + (a.val * 4 + k.val)) by omega)))
    (Eq.trans ?_ (if_neg (show ¬(8 + (a.val * 4 + k.val) < 8) by omega)).symm)
  exact congrArg₂ (fun i j => x6 (ix2 i j)) (Fin.ext (show a.val = (8 + (a.val * 4 + k.val)) / 4 % 2 by omega))
    (Fin.ext (show k.val = (8 + (a.val * 4 + k.val)) % 4 by omega))

theorem lsig_ctx (b : Fin 32) (l : Fin 256) (a : Fin 2) (k : Fin 4) :
    val_main_v74 (F := Ideal) x0 x2 x3 x4 x6 (ix4 b l a k)
      = lsig (val_main_v73 (F := Ideal) x0 x2 x3 x4 x6 (ix4 b l a k)) := by
  pointwise [val_main_v74, val_main_call1_v0, val_main_call1_v1, val_main_call1_call0_cst, val_main_call1_call0_v0,
      val_main_call1_call0_v1, val_main_call1_call0_v2, val_main_call1_call0_v3, val_main_call1_call0_v4,
      val_main_call1_call0_v5, val_main_call1_call0_v6, val_main_call1_call0_v7, val_main_call1_call0_v8,
      val_main_call1_call0_v9, val_main_call1_call0_v10, val_main_call1_call0_v11]
  exact lsig_ref _

theorem pad_ctx (b : Fin 32) (l : Fin 258) (k : Fin 512) :
    val_main_v39 (F := Ideal) x0 x2 x3 x4 (ix3 b l k)
      = if 1 ≤ l.val ∧ l.val - 1 < 256 then u (rargs x0 x1 x2 x3 x4 x5 x6 x7 x8) (b * 256 + (l - 1)) k else 0 := by
  pointwise [val_main_v39, val_main_v38, val_main_v30, val_main_v31, val_main_call0_v0, val_main_c]
  rw [fconst_zero]
  by_cases h : 1 ≤ l.val ∧ l.val - 1 < 256
  · refine (dif_pos h).trans (Eq.trans ?_ (if_pos h).symm)
    exact congrArg₂ (· * ·) (proj_ctx x0 x1 x2 x3 x4 x5 x6 x7 x8 b ⟨l.val - 1, h.2⟩ _) (proj_ctx x0 x1 x2 x3 x4 x5 x6 x7 x8 b ⟨l.val - 1, h.2⟩ _)
  · exact (dif_neg h).trans (if_neg h).symm

theorem conv_ctx (b : Fin 32) (l : Fin 256) (k : Fin 512) :
    val_main_v63 (F := Ideal) x0 x2 x3 x4 x7 x8 (ix3 b l k) = conv (rargs x0 x1 x2 x3 x4 x5 x6 x7 x8) (b * 256 + l) k := by
  pointwise [val_main_v29, val_main_v40, val_main_v41, val_main_v42, val_main_v43, val_main_v44, val_main_v45,
      val_main_v46, val_main_v47, val_main_v48, val_main_v49, val_main_v50, val_main_v51, val_main_v52,
      val_main_v53, val_main_v54, val_main_v55, val_main_v56, val_main_v57, val_main_v58, val_main_v59,
      val_main_v60, val_main_v61, val_main_v62, val_main_v63]
  rw [pad_ctx x0 x1 x2 x3 x4 x5 x6 x7 x8, pad_ctx x0 x1 x2 x3 x4 x5 x6 x7 x8, pad_ctx x0 x1 x2 x3 x4 x5 x6 x7 x8,
    proj_ctx x0 x1 x2 x3 x4 x5 x6 x7 x8]
  unfold conv
  rw [seg_ctx b l]
  refine congrArg₂ (· * ·) rfl (congrArg₂ (· + ·) (congrArg₂ (· + ·) (congrArg₂ (· + ·) (congrArg₂ (· * ·) ?_ rfl)
    (congrArg₂ (· * ·) ?_ rfl)) (congrArg₂ (· * ·) ?_ rfl)) rfl)
  · by_cases h : (b.val * 256 + l.val) % 256 = 0
    · exact (if_neg (show ¬(1 ≤ l.val ∧ l.val - 1 < 256) by omega)).trans (if_pos h).symm
    · refine (if_pos (show 1 ≤ l.val ∧ l.val - 1 < 256 by omega)).trans (Eq.trans ?_ (if_neg h).symm)
      exact congrArg (fun r => u (rargs x0 x1 x2 x3 x4 x5 x6 x7 x8) r k) (show b.val * 256 + (l.val - 1) = b.val * 256 + l.val - 1 by omega)
  · refine (if_pos (show 1 ≤ 1 + l.val ∧ 1 + l.val - 1 < 256 by omega)).trans ?_
    exact congrArg (fun r => u (rargs x0 x1 x2 x3 x4 x5 x6 x7 x8) r k) (show b.val * 256 + (1 + l.val - 1) = b.val * 256 + l.val by omega)
  · by_cases h : (b.val * 256 + l.val) % 256 = 256 - 1
    · exact (if_neg (show ¬(1 ≤ 2 + l.val ∧ 2 + l.val - 1 < 256) by omega)).trans (if_pos h).symm
    · refine (if_pos (show 1 ≤ 2 + l.val ∧ 2 + l.val - 1 < 256 by omega)).trans (Eq.trans ?_ (if_neg h).symm)
      exact congrArg (fun r => u (rargs x0 x1 x2 x3 x4 x5 x6 x7 x8) r k) (show b.val * 256 + (2 + l.val - 1) = b.val * 256 + l.val + 1 by omega)

/-! The sequences' tokens. -/

theorem nrm_lat (b : Fin 4) (l : Fin 4096) (k : Fin 1024) :
    val_main_v100 (F := Ideal) x1 (ix3 b l k) = nrm (fun j => x1 (ix2 ⟨b * 4096 + l, by omega⟩ j)) k := by
  pointwise [val_main_v82, val_main_v91, val_main_v92, val_main_v93, val_main_v94, val_main_v95, val_main_v96,
      val_main_v97, val_main_v98, val_main_v99, val_main_v100, val_main_cst_4, val_main_cst_5, val_main_cst_6]
  rfl

theorem hid_lat (b : Fin 4) (l : Fin 4096) (k : Fin 1024) :
    val_main_v109 (F := Ideal) x1 x2 x3 (ix3 b l k) = hid (rargs x0 x1 x2 x3 x4 x5 x6 x7 x8) (8192 + (b * 4096 + l)) k := by
  pointwise [val_main_v83, val_main_v84, val_main_v85, val_main_v86, val_main_v101, val_main_v102, val_main_v103,
      val_main_v104, val_main_v105, val_main_v106, val_main_v107, val_main_v108, val_main_v109, val_main_cst_7]
  rw [nrm_lat]
  unfold hid
  rw [tok_lat x0 x1 x2 x3 x4 x5 x6 x7 x8 b l, mrow_lat b l]
  rfl

theorem proj_lat (b : Fin 4) (l : Fin 4096) (k : Fin 3600) :
    val_main_v110 (F := Ideal) x1 x2 x3 x4 (ix3 b l k) = proj (rargs x0 x1 x2 x3 x4 x5 x6 x7 x8) (8192 + (b * 4096 + l)) k := by
  pointwise [val_main_v110]
  exact Finset.sum_congr rfl fun j _ => congrArg (· * x4 (ix2 j k)) (hid_lat x0 x1 x2 x3 x4 x5 x6 x7 x8 b l j)

theorem ig_lat (b : Fin 4) (l : Fin 4096) (a : Fin 2) (k : Fin 4) :
    val_main_v153 (F := Ideal) x1 x2 x3 x4 x5 (ix4 b l a k) = pre (rargs x0 x1 x2 x3 x4 x5 x6 x7 x8) (8192 + (b * 4096 + l)) ⟨a * 4 + k, by omega⟩ := by
  pointwise [val_main_v118, val_main_v150, val_main_v151, val_main_v152, val_main_v153]
  rw [proj_lat x0 x1 x2 x3 x4 x5 x6 x7 x8]
  refine Eq.trans ?_ (dif_pos (show a.val * 4 + k.val < 16 by omega)).symm
  refine congrArg₂ (· + ·) rfl (Eq.trans ?_ (if_pos (show a.val * 4 + k.val < 8 by omega)).symm)
  exact congrArg₂ (fun i j => x5 (ix2 i j)) (Fin.ext (show a.val = (a.val * 4 + k.val) / 4 % 2 by omega))
    (Fin.ext (show k.val = (a.val * 4 + k.val) % 4 by omega))

theorem fg_lat (b : Fin 4) (l : Fin 4096) (a : Fin 2) (k : Fin 4) :
    val_main_v157 (F := Ideal) x1 x2 x3 x4 x6 (ix4 b l a k) = pre (rargs x0 x1 x2 x3 x4 x5 x6 x7 x8) (8192 + (b * 4096 + l)) ⟨8 + (a * 4 + k), by omega⟩ := by
  pointwise [val_main_v119, val_main_v154, val_main_v155, val_main_v156, val_main_v157]
  rw [proj_lat x0 x1 x2 x3 x4 x5 x6 x7 x8]
  refine Eq.trans ?_ (dif_pos (show 8 + (a.val * 4 + k.val) < 16 by omega)).symm
  refine congrArg₂ (· + ·) (congrArg (proj (rargs x0 x1 x2 x3 x4 x5 x6 x7 x8) _)
    (Fin.ext (show 3592 + (a.val * 4 + k.val) = 3584 + (8 + (a.val * 4 + k.val)) by omega)))
    (Eq.trans ?_ (if_neg (show ¬(8 + (a.val * 4 + k.val) < 8) by omega)).symm)
  exact congrArg₂ (fun i j => x6 (ix2 i j)) (Fin.ext (show a.val = (8 + (a.val * 4 + k.val)) / 4 % 2 by omega))
    (Fin.ext (show k.val = (8 + (a.val * 4 + k.val)) % 4 by omega))

theorem lsig_lat (b : Fin 4) (l : Fin 4096) (a : Fin 2) (k : Fin 4) :
    val_main_v158 (F := Ideal) x1 x2 x3 x4 x6 (ix4 b l a k)
      = lsig (val_main_v157 (F := Ideal) x1 x2 x3 x4 x6 (ix4 b l a k)) := by
  pointwise [val_main_v158, val_main_call3_v0, val_main_call3_v1, val_main_call3_call0_cst, val_main_call3_call0_v0,
      val_main_call3_call0_v1, val_main_call3_call0_v2, val_main_call3_call0_v3, val_main_call3_call0_v4,
      val_main_call3_call0_v5, val_main_call3_call0_v6, val_main_call3_call0_v7, val_main_call3_call0_v8,
      val_main_call3_call0_v9, val_main_call3_call0_v10, val_main_call3_call0_v11]
  exact lsig_ref _

theorem pad_lat (b : Fin 256) (l : Fin 66) (k : Fin 512) :
    val_main_v122 (F := Ideal) x1 x2 x3 x4 (ix3 b l k)
      = if 1 ≤ l.val ∧ l.val - 1 < 64 then u (rargs x0 x1 x2 x3 x4 x5 x6 x7 x8) (8192 + (b * 64 + (l - 1))) k else 0 := by
  pointwise [val_main_v120, val_main_v121, val_main_v122, val_main_v112, val_main_v113, val_main_call2_v0,
      val_main_c_8]
  rw [fconst_zero]
  by_cases h : 1 ≤ l.val ∧ l.val - 1 < 64
  · refine (dif_pos h).trans (Eq.trans ?_ (if_pos h).symm)
    have e (j : Fin 3600) := proj_lat x0 x1 x2 x3 x4 x5 x6 x7 x8 ⟨b.val / 64, by omega⟩ ⟨b.val % 64 * 64 + (l.val - 1), by omega⟩ j
    have w : 8192 + (b.val / 64 * 4096 + (b.val % 64 * 64 + (l.val - 1))) = 8192 + (b.val * 64 + (l.val - 1)) := by omega
    exact congrArg₂ (· * ·) ((e _).trans (congrArg (fun r => proj (rargs x0 x1 x2 x3 x4 x5 x6 x7 x8) r _) w)) ((e _).trans (congrArg (fun r => proj (rargs x0 x1 x2 x3 x4 x5 x6 x7 x8) r _) w))
  · exact (dif_neg h).trans (if_neg h).symm

theorem conv_lat (b : Fin 4) (l : Fin 4096) (k : Fin 512) :
    val_main_v147 (F := Ideal) x1 x2 x3 x4 x7 x8 (ix3 b l k) = conv (rargs x0 x1 x2 x3 x4 x5 x6 x7 x8) (8192 + (b * 4096 + l)) k := by
  pointwise [val_main_v111, val_main_v123, val_main_v124, val_main_v125, val_main_v126, val_main_v127, val_main_v128,
      val_main_v129, val_main_v130, val_main_v131, val_main_v132, val_main_v133, val_main_v134, val_main_v135,
      val_main_v136, val_main_v137, val_main_v138, val_main_v139, val_main_v140, val_main_v141, val_main_v142,
      val_main_v143, val_main_v144, val_main_v145, val_main_v146, val_main_v147]
  rw [pad_lat x0 x1 x2 x3 x4 x5 x6 x7 x8, pad_lat x0 x1 x2 x3 x4 x5 x6 x7 x8, pad_lat x0 x1 x2 x3 x4 x5 x6 x7 x8,
    proj_lat x0 x1 x2 x3 x4 x5 x6 x7 x8]
  unfold conv
  rw [seg_lat b l]
  refine congrArg₂ (· * ·) rfl (congrArg₂ (· + ·) (congrArg₂ (· + ·) (congrArg₂ (· + ·) (congrArg₂ (· * ·) ?_ rfl)
    (congrArg₂ (· * ·) ?_ rfl)) (congrArg₂ (· * ·) ?_ rfl)) rfl)
  · by_cases h : (8192 + (b.val * 4096 + l.val)) % 64 = 0
    · exact (if_neg (show ¬(1 ≤ l.val % 64 ∧ l.val % 64 - 1 < 64) by omega)).trans (if_pos h).symm
    · refine (if_pos (show 1 ≤ l.val % 64 ∧ l.val % 64 - 1 < 64 by omega)).trans (Eq.trans ?_ (if_neg h).symm)
      exact congrArg (fun r => u (rargs x0 x1 x2 x3 x4 x5 x6 x7 x8) r k) (show 8192 + ((b.val * 64 + l.val / 64) * 64 + (l.val % 64 - 1)) = 8192 + (b.val * 4096 + l.val) - 1 by omega)
  · refine (if_pos (show 1 ≤ 1 + l.val % 64 ∧ 1 + l.val % 64 - 1 < 64 by omega)).trans ?_
    exact congrArg (fun r => u (rargs x0 x1 x2 x3 x4 x5 x6 x7 x8) r k) (show 8192 + ((b.val * 64 + l.val / 64) * 64 + (1 + l.val % 64 - 1)) = 8192 + (b.val * 4096 + l.val) by omega)
  · by_cases h : (8192 + (b.val * 4096 + l.val)) % 64 = 64 - 1
    · exact (if_neg (show ¬(1 ≤ 2 + l.val % 64 ∧ 2 + l.val % 64 - 1 < 64) by omega)).trans (if_pos h).symm
    · refine (if_pos (show 1 ≤ 2 + l.val % 64 ∧ 2 + l.val % 64 - 1 < 64 by omega)).trans (Eq.trans ?_ (if_neg h).symm)
      exact congrArg (fun r => u (rargs x0 x1 x2 x3 x4 x5 x6 x7 x8) r k) (show 8192 + ((b.val * 64 + l.val / 64) * 64 + (2 + l.val % 64 - 1)) = 8192 + (b.val * 4096 + l.val) + 1 by omega)

/-! The two joined: the context's tokens first. -/

theorem split_ctx (r : Fin 24576) (h : r.val < 8192) : r.val / 256 * 256 + r.val % 256 = r.val := by omega

theorem split_lat (r : Fin 24576) (h : ¬r.val < 8192) : 8192 + ((r.val - 8192) / 4096 * 4096 + (r.val - 8192) % 4096) = r.val := by omega

theorem conv_at (r : Fin 24576) (k : Fin 512) :
    val_main_v176 (F := Ideal) x0 x1 x2 x3 x4 x7 x8 (ix2 r k) = conv (rargs x0 x1 x2 x3 x4 x5 x6 x7 x8) r.val k := by
  pointwise [val_main_v176, val_main_v166, val_main_v75, val_main_v159]
  by_cases h : r.val < 8192
  · refine (dif_pos h).trans ((conv_ctx x0 x1 x2 x3 x4 x5 x6 x7 x8 ⟨r.val / 256, by omega⟩ ⟨r.val % 256, by omega⟩ k).trans ?_)
    exact congrArg (fun r => conv (rargs x0 x1 x2 x3 x4 x5 x6 x7 x8) r k) (split_ctx r h)
  · refine (dif_neg h).trans ((conv_lat x0 x1 x2 x3 x4 x5 x6 x7 x8 ⟨(r.val - 8192) / 4096, by omega⟩ ⟨(r.val - 8192) % 4096, by omega⟩ k).trans ?_)
    exact congrArg (fun r => conv (rargs x0 x1 x2 x3 x4 x5 x6 x7 x8) r k) (split_lat r h)

theorem q_ctx (b : Fin 32) (l : Fin 256) (k : Fin 512) :
    val_main_v65 (F := Ideal) x0 x2 x3 x4 (ix3 b l k) = proj (rargs x0 x1 x2 x3 x4 x5 x6 x7 x8) (b * 256 + l) ⟨1536 + k, by omega⟩ * Ideal.ofBits .f32 0x3DB504F3#32 := by
  pointwise [val_main_v65, val_main_v64, val_main_v32, val_main_cst_3]
  exact congrArg (· * Ideal.ofBits .f32 0x3DB504F3#32) (proj_ctx x0 x1 x2 x3 x4 x5 x6 x7 x8 b l _)

theorem q_lat (b : Fin 4) (l : Fin 4096) (k : Fin 512) :
    val_main_v149 (F := Ideal) x1 x2 x3 x4 (ix3 b l k) = proj (rargs x0 x1 x2 x3 x4 x5 x6 x7 x8) (8192 + (b * 4096 + l)) ⟨1536 + k, by omega⟩ * Ideal.ofBits .f32 0x3DB504F3#32 := by
  pointwise [val_main_v149, val_main_v148, val_main_v114, val_main_cst_9]
  exact congrArg (· * Ideal.ofBits .f32 0x3DB504F3#32) (proj_lat x0 x1 x2 x3 x4 x5 x6 x7 x8 b l _)

theorem q_at (r : Fin 24576) (k : Fin 512) :
    val_main_v177 (F := Ideal) x0 x1 x2 x3 x4 (ix2 r k) = proj (rargs x0 x1 x2 x3 x4 x5 x6 x7 x8) r.val ⟨1536 + k, by omega⟩ * Ideal.ofBits .f32 0x3DB504F3#32 := by
  pointwise [val_main_v177, val_main_v167, val_main_v76, val_main_v160]
  by_cases h : r.val < 8192
  · refine (dif_pos h).trans ((q_ctx x0 x1 x2 x3 x4 x5 x6 x7 x8 ⟨r.val / 256, by omega⟩ ⟨r.val % 256, by omega⟩ k).trans ?_)
    exact congrArg (fun r => proj (rargs x0 x1 x2 x3 x4 x5 x6 x7 x8) r ⟨1536 + k, by omega⟩ * Ideal.ofBits .f32 0x3DB504F3#32) (split_ctx r h)
  · refine (dif_neg h).trans ((q_lat x0 x1 x2 x3 x4 x5 x6 x7 x8 ⟨(r.val - 8192) / 4096, by omega⟩ ⟨(r.val - 8192) % 4096, by omega⟩ k).trans ?_)
    exact congrArg (fun r => proj (rargs x0 x1 x2 x3 x4 x5 x6 x7 x8) r ⟨1536 + k, by omega⟩ * Ideal.ofBits .f32 0x3DB504F3#32) (split_lat r h)

theorem k_ctx (b : Fin 32) (l : Fin 256) (k : Fin 512) :
    val_main_v33 (F := Ideal) x0 x2 x3 x4 (ix3 b l k) = proj (rargs x0 x1 x2 x3 x4 x5 x6 x7 x8) (b * 256 + l) ⟨2048 + k, by omega⟩ := by
  pointwise [val_main_v33]
  exact proj_ctx x0 x1 x2 x3 x4 x5 x6 x7 x8 b l _

theorem k_lat (b : Fin 4) (l : Fin 4096) (k : Fin 512) :
    val_main_v115 (F := Ideal) x1 x2 x3 x4 (ix3 b l k) = proj (rargs x0 x1 x2 x3 x4 x5 x6 x7 x8) (8192 + (b * 4096 + l)) ⟨2048 + k, by omega⟩ := by
  pointwise [val_main_v115]
  exact proj_lat x0 x1 x2 x3 x4 x5 x6 x7 x8 b l _

theorem k_at (r : Fin 24576) (k : Fin 512) :
    val_main_v178 (F := Ideal) x0 x1 x2 x3 x4 (ix2 r k) = proj (rargs x0 x1 x2 x3 x4 x5 x6 x7 x8) r.val ⟨2048 + k, by omega⟩ := by
  pointwise [val_main_v178, val_main_v168, val_main_v77, val_main_v161]
  by_cases h : r.val < 8192
  · refine (dif_pos h).trans ((k_ctx x0 x1 x2 x3 x4 x5 x6 x7 x8 ⟨r.val / 256, by omega⟩ ⟨r.val % 256, by omega⟩ k).trans ?_)
    exact congrArg (fun r => proj (rargs x0 x1 x2 x3 x4 x5 x6 x7 x8) r ⟨2048 + k, by omega⟩) (split_ctx r h)
  · refine (dif_neg h).trans ((k_lat x0 x1 x2 x3 x4 x5 x6 x7 x8 ⟨(r.val - 8192) / 4096, by omega⟩ ⟨(r.val - 8192) % 4096, by omega⟩ k).trans ?_)
    exact congrArg (fun r => proj (rargs x0 x1 x2 x3 x4 x5 x6 x7 x8) r ⟨2048 + k, by omega⟩) (split_lat r h)

theorem v_ctx (b : Fin 32) (l : Fin 256) (k : Fin 512) :
    val_main_v34 (F := Ideal) x0 x2 x3 x4 (ix3 b l k) = proj (rargs x0 x1 x2 x3 x4 x5 x6 x7 x8) (b * 256 + l) ⟨2560 + k, by omega⟩ := by
  pointwise [val_main_v34]
  exact proj_ctx x0 x1 x2 x3 x4 x5 x6 x7 x8 b l _

theorem v_lat (b : Fin 4) (l : Fin 4096) (k : Fin 512) :
    val_main_v116 (F := Ideal) x1 x2 x3 x4 (ix3 b l k) = proj (rargs x0 x1 x2 x3 x4 x5 x6 x7 x8) (8192 + (b * 4096 + l)) ⟨2560 + k, by omega⟩ := by
  pointwise [val_main_v116]
  exact proj_lat x0 x1 x2 x3 x4 x5 x6 x7 x8 b l _

theorem v_at (r : Fin 24576) (k : Fin 512) :
    val_main_v179 (F := Ideal) x0 x1 x2 x3 x4 (ix2 r k) = proj (rargs x0 x1 x2 x3 x4 x5 x6 x7 x8) r.val ⟨2560 + k, by omega⟩ := by
  pointwise [val_main_v179, val_main_v169, val_main_v78, val_main_v162]
  by_cases h : r.val < 8192
  · refine (dif_pos h).trans ((v_ctx x0 x1 x2 x3 x4 x5 x6 x7 x8 ⟨r.val / 256, by omega⟩ ⟨r.val % 256, by omega⟩ k).trans ?_)
    exact congrArg (fun r => proj (rargs x0 x1 x2 x3 x4 x5 x6 x7 x8) r ⟨2560 + k, by omega⟩) (split_ctx r h)
  · refine (dif_neg h).trans ((v_lat x0 x1 x2 x3 x4 x5 x6 x7 x8 ⟨(r.val - 8192) / 4096, by omega⟩ ⟨(r.val - 8192) % 4096, by omega⟩ k).trans ?_)
    exact congrArg (fun r => proj (rargs x0 x1 x2 x3 x4 x5 x6 x7 x8) r ⟨2560 + k, by omega⟩) (split_lat r h)

theorem z_ctx (b : Fin 32) (l : Fin 256) (k : Fin 512) :
    val_main_v35 (F := Ideal) x0 x2 x3 x4 (ix3 b l k) = proj (rargs x0 x1 x2 x3 x4 x5 x6 x7 x8) (b * 256 + l) ⟨3072 + k, by omega⟩ := by
  pointwise [val_main_v35]
  exact proj_ctx x0 x1 x2 x3 x4 x5 x6 x7 x8 b l _

theorem z_lat (b : Fin 4) (l : Fin 4096) (k : Fin 512) :
    val_main_v117 (F := Ideal) x1 x2 x3 x4 (ix3 b l k) = proj (rargs x0 x1 x2 x3 x4 x5 x6 x7 x8) (8192 + (b * 4096 + l)) ⟨3072 + k, by omega⟩ := by
  pointwise [val_main_v117]
  exact proj_lat x0 x1 x2 x3 x4 x5 x6 x7 x8 b l _

theorem z_at (r : Fin 24576) (k : Fin 512) :
    val_main_v170 (F := Ideal) x0 x1 x2 x3 x4 (ix2 r k) = proj (rargs x0 x1 x2 x3 x4 x5 x6 x7 x8) r.val ⟨3072 + k, by omega⟩ := by
  pointwise [val_main_v170, val_main_v79, val_main_v163]
  by_cases h : r.val < 8192
  · refine (dif_pos h).trans ((z_ctx x0 x1 x2 x3 x4 x5 x6 x7 x8 ⟨r.val / 256, by omega⟩ ⟨r.val % 256, by omega⟩ k).trans ?_)
    exact congrArg (fun r => proj (rargs x0 x1 x2 x3 x4 x5 x6 x7 x8) r ⟨3072 + k, by omega⟩) (split_ctx r h)
  · refine (dif_neg h).trans ((z_lat x0 x1 x2 x3 x4 x5 x6 x7 x8 ⟨(r.val - 8192) / 4096, by omega⟩ ⟨(r.val - 8192) % 4096, by omega⟩ k).trans ?_)
    exact congrArg (fun r => proj (rargs x0 x1 x2 x3 x4 x5 x6 x7 x8) r ⟨3072 + k, by omega⟩) (split_lat r h)

theorem zero_at (r : Fin 24576) (k : Fin 112) : val_main_v174 (F := Ideal) (ix2 r k) = lsig 0 := by
  pointwise [val_main_v174, val_main_v173, val_main_cst_10, val_main_call4_v0, val_main_call4_v1,
      val_main_call4_call0_cst, val_main_call4_call0_v0, val_main_call4_call0_v1, val_main_call4_call0_v2,
      val_main_call4_call0_v3, val_main_call4_call0_v4, val_main_call4_call0_v5, val_main_call4_call0_v6,
      val_main_call4_call0_v7, val_main_call4_call0_v8, val_main_call4_call0_v9, val_main_call4_call0_v10,
      val_main_call4_call0_v11]
  exact lsig_ref 0

theorem gate_at (r : Fin 24576) (k : Fin 128) :
    val_main_v175 (F := Ideal) x0 x1 x2 x3 x4 x5 x6 (ix2 r k) = gate (rargs x0 x1 x2 x3 x4 x5 x6 x7 x8) r.val k := by
  pointwise [val_main_v175, val_main_v171, val_main_v172, val_main_v80, val_main_v164, val_main_v81, val_main_v165]
  by_cases h8 : k.val < 8
  · refine (dif_pos h8).trans (Eq.trans ?_ (if_pos h8).symm)
    have e : (⟨k.val / 4 * 4 + k.val % 4, by omega⟩ : Fin 128) = k := Fin.ext (show k.val / 4 * 4 + k.val % 4 = k.val by omega)
    by_cases h : r.val < 8192
    · exact (dif_pos h).trans ((ig_ctx x0 x1 x2 x3 x4 x5 x6 x7 x8 ⟨r.val / 256, by omega⟩ ⟨r.val % 256, by omega⟩ ⟨k.val / 4, by omega⟩ ⟨k.val % 4, by omega⟩).trans
        (congrArg₂ (pre (rargs x0 x1 x2 x3 x4 x5 x6 x7 x8)) (split_ctx r h) e))
    · exact (dif_neg h).trans ((ig_lat x0 x1 x2 x3 x4 x5 x6 x7 x8 ⟨(r.val - 8192) / 4096, by omega⟩ ⟨(r.val - 8192) % 4096, by omega⟩ ⟨k.val / 4, by omega⟩ ⟨k.val % 4, by omega⟩).trans
        (congrArg₂ (pre (rargs x0 x1 x2 x3 x4 x5 x6 x7 x8)) (split_lat r h) e))
  · refine (dif_neg h8).trans (Eq.trans ?_ (if_neg h8).symm)
    by_cases h16 : k.val - 8 < 8
    · refine (dif_pos h16).trans ?_
      have e : (⟨8 + ((k.val - 8) / 4 * 4 + (k.val - 8) % 4), by omega⟩ : Fin 128) = k :=
        Fin.ext (show 8 + ((k.val - 8) / 4 * 4 + (k.val - 8) % 4) = k.val by omega)
      by_cases h : r.val < 8192
      · exact (dif_pos h).trans ((lsig_ctx x0 x2 x3 x4 x6 _ _ _ _).trans (congrArg lsig
          ((fg_ctx x0 x1 x2 x3 x4 x5 x6 x7 x8 ⟨r.val / 256, by omega⟩ ⟨r.val % 256, by omega⟩ ⟨(k.val - 8) / 4, by omega⟩ ⟨(k.val - 8) % 4, by omega⟩).trans
            (congrArg₂ (pre (rargs x0 x1 x2 x3 x4 x5 x6 x7 x8)) (split_ctx r h) e))))
      · exact (dif_neg h).trans ((lsig_lat x1 x2 x3 x4 x6 _ _ _ _).trans (congrArg lsig
          ((fg_lat x0 x1 x2 x3 x4 x5 x6 x7 x8 ⟨(r.val - 8192) / 4096, by omega⟩ ⟨(r.val - 8192) % 4096, by omega⟩ ⟨(k.val - 8) / 4, by omega⟩ ⟨(k.val - 8) % 4, by omega⟩).trans
            (congrArg₂ (pre (rargs x0 x1 x2 x3 x4 x5 x6 x7 x8)) (split_lat r h) e))))
    · refine (dif_neg h16).trans ((zero_at _ _).trans (congrArg lsig ?_))
      unfold pre
      rw [dif_neg (show ¬k.val < 16 by omega)]

theorem gate_t_at (l : Fin 128) (r : Fin 24576) :
    val_main_v180 (F := Ideal) x0 x1 x2 x3 x4 x5 x6 (ix2 l r) = gate (rargs x0 x1 x2 x3 x4 x5 x6 x7 x8) r.val l := by
  pointwise [val_main_v180]
  exact gate_at x0 x1 x2 x3 x4 x5 x6 x7 x8 r l

/-! The seven results as arrays. -/

theorem conv_all : val_main_v176 (F := Ideal) x0 x1 x2 x3 x4 x7 x8
    = fun i : S24576x512.Idx => conv (rargs x0 x1 x2 x3 x4 x5 x6 x7 x8) (i 0).val ⟨(i 1).val, (i 1).isLt⟩ := by
  funext i
  idx_vars i
  exact conv_at x0 x1 x2 x3 x4 x5 x6 x7 x8 _ _

theorem q_all : val_main_v177 (F := Ideal) x0 x1 x2 x3 x4
    = fun i : S24576x512.Idx => proj (rargs x0 x1 x2 x3 x4 x5 x6 x7 x8) (i 0).val
        ⟨1536 + (i 1).val, by have : (i 1).val < 512 := (i 1).isLt; omega⟩ * Ideal.ofBits .f32 0x3DB504F3#32 := by
  funext i
  idx_vars i
  exact q_at x0 x1 x2 x3 x4 x5 x6 x7 x8 _ _

theorem k_all : val_main_v178 (F := Ideal) x0 x1 x2 x3 x4
    = fun i : S24576x512.Idx => proj (rargs x0 x1 x2 x3 x4 x5 x6 x7 x8) (i 0).val
        ⟨2048 + (i 1).val, by have : (i 1).val < 512 := (i 1).isLt; omega⟩ := by
  funext i
  idx_vars i
  exact k_at x0 x1 x2 x3 x4 x5 x6 x7 x8 _ _

theorem v_all : val_main_v179 (F := Ideal) x0 x1 x2 x3 x4
    = fun i : S24576x512.Idx => proj (rargs x0 x1 x2 x3 x4 x5 x6 x7 x8) (i 0).val
        ⟨2560 + (i 1).val, by have : (i 1).val < 512 := (i 1).isLt; omega⟩ := by
  funext i
  idx_vars i
  exact v_at x0 x1 x2 x3 x4 x5 x6 x7 x8 _ _

theorem z_all : val_main_v170 (F := Ideal) x0 x1 x2 x3 x4
    = fun i : S24576x512.Idx => proj (rargs x0 x1 x2 x3 x4 x5 x6 x7 x8) (i 0).val
        ⟨3072 + (i 1).val, by have : (i 1).val < 512 := (i 1).isLt; omega⟩ := by
  funext i
  idx_vars i
  exact z_at x0 x1 x2 x3 x4 x5 x6 x7 x8 _ _

theorem gate_all : val_main_v175 (F := Ideal) x0 x1 x2 x3 x4 x5 x6
    = fun i : S24576x128.Idx => gate (rargs x0 x1 x2 x3 x4 x5 x6 x7 x8) (i 0).val ⟨(i 1).val, (i 1).isLt⟩ := by
  funext i
  idx_vars i
  exact gate_at x0 x1 x2 x3 x4 x5 x6 x7 x8 _ _

theorem gate_t_all : val_main_v180 (F := Ideal) x0 x1 x2 x3 x4 x5 x6
    = fun i : S128x24576.Idx => gate (rargs x0 x1 x2 x3 x4 x5 x6 x7 x8) (i 1).val ⟨(i 0).val, (i 0).isLt⟩ := by
  funext i
  idx_vars i
  exact gate_t_at x0 x1 x2 x3 x4 x5 x6 x7 x8 _ _

end Cert.Reference2Ideal.Ref

end

end
-- ==== Proof.MixSpec.lean ====
/- What is behind the mixers, as formulas of its arguments: the mixed tokens, their second norm, the scores of the keys. -/
module

public import proofs.«01_k».proof.Proof.ProjSpec

@[expose] public section

set_option maxRecDepth 16384

noncomputable section

open Idealize.ShloMosaic Idealize.ShloMosaic.TcCoe Idealize.SL.Sem

namespace Cert.Mix

open Cert.Proj (mrow nrm modu)

/-- The arguments, as functions of their indices. -/
structure Args where
  X0 : Fin 8192 → Fin 1024 → EReal
  X1 : Fin 16384 → Fin 1024 → EReal
  CV : Fin 24576 → Fin 512 → EReal
  F0 : Fin 8192 → Fin 512 → EReal
  F1 : Fin 16384 → Fin 512 → EReal
  B0 : Fin 8192 → Fin 512 → EReal
  B1 : Fin 16384 → Fin 512 → EReal
  OG : Fin 24576 → Fin 512 → EReal
  M : Fin 8 → Fin 6144 → EReal
  GM : Fin 4 → Fin 128 → EReal
  W : Fin 1024 → Fin 1024 → EReal
  G : Fin 1024 → EReal
  WQ : Fin 1024 → Fin 2048 → EReal
  K1 : Fin 128 → Fin 128 → EReal
  K2 : Fin 128 → Fin 128 → EReal

/-- A token's row: the context's tokens first. -/
def pick {α : Type} (a : Fin 8192 → α) (b : Fin 16384 → α) (r : Fin 24576) : α :=
  if h : r.val < 8192 then a ⟨r, h⟩ else b ⟨r - 8192, by omega⟩

/-- A head's row over the root of its mean square. -/
def hnrm (x : Fin 128 → EReal) (k : Fin 128) : EReal :=
  x k * Ideal.rsqrt (Ideal.div (∑ j, x j * x j) (Ideal.ofBits .f32 0x43000000#32) + Ideal.ofBits .f32 0x358637BD#32)

/-- The logistic function. -/
def sig (z : EReal) : EReal := Ideal.div 1 (1 + Ideal.exp (-z))

variable (A : Args)

/-- The two directions of the recurrence, added. -/
def hs (r : Fin 24576) (c : Fin 512) : EReal := pick (fun r => A.F0 r c + A.B0 r c) (fun r => A.F1 r c + A.B1 r c) r

/-- A normed head, scaled, and gated by the output gate. -/
def ml (r : Fin 24576) (c : Fin 512) : EReal :=
  hnrm (fun j => hs A r ⟨c.val / 128 * 128 + j, by omega⟩) ⟨c.val % 128, by omega⟩ * A.GM ⟨c.val / 128, by omega⟩ ⟨c.val % 128, by omega⟩
    * sig (A.OG r c)

/-- The output projection of the convolution and the recurrence beside one another. -/
def out (r : Fin 24576) (c : Fin 1024) : EReal :=
  (∑ k : Fin 512, A.CV r k * A.W ⟨k, by omega⟩ c) + ∑ k : Fin 512, ml A r k * A.W ⟨512 + k, by omega⟩ c

/-- The token after the mixers. -/
def x1 (r : Fin 24576) (c : Fin 1024) : EReal :=
  pick A.X0 A.X1 r c + A.M (mrow r) ⟨2048 + c, by omega⟩ * out A r c

/-- The token after the second norm. -/
def h2 (r : Fin 24576) : Fin 1024 → EReal :=
  modu (x1 A r) A.G (fun k => A.M (mrow r) ⟨4096 + k, by omega⟩) (fun k => A.M (mrow r) ⟨3072 + k, by omega⟩)

/-- The keys of a half of a head. -/
def key (j : Fin 16) : Fin 128 → Fin 128 → EReal := if j.val % 2 = 0 then A.K1 else A.K2

/-- The keys folded into the query's weight. -/
def fold (j : Fin 16) (n : Fin 128) (k : Fin 1024) : EReal := ∑ d : Fin 128, key A j n d * A.WQ k ⟨j.val * 128 + d, by omega⟩

/-- The score of a key, from the folded keys. -/
def score (j : Fin 16) (n : Fin 128) (r : Fin 24576) : EReal := ∑ k, fold A j n k * h2 A r k

end Cert.Mix

end

end
-- ==== Proof.MixBody.lean ====
/- The arithmetic of one block of the mixing kernel, read at an index. -/
module

public import proofs.«01_k».proof.Proof.Gen.Kernel3Ideal.Value
public import Idealize.ShloMosaic.Lib.Pointwise
public import proofs.«01_k».proof.Proof.MixSpec

@[expose] public section

set_option maxRecDepth 16384

noncomputable section

open Idealize.ShloMosaic Idealize.ShloMosaic.TcCoe Idealize.SL.Sem

namespace Cert.Kernel3Ideal.Body

open Cert.Kernel3Ideal Cert.Kernel3Ideal.Gen Cert.Mix
open Cert.Proj (mrow nrm modu)

variable (i : grid0.Coords) (f0 f1 b0 b1 og : FVec Ideal S512x512 .f32) (gm : FVec Ideal S1x512 .f32) (s : BitVec 1)
  (u e o : FVec Ideal S512x512 .f32) (cv : FVec Ideal S512x512 .bf16) (w w' : FVec Ideal S512x1024 .bf16) (xa xb n : FVec Ideal S512x1024 .f32)
  (ga sc sh g : FVec Ideal S1x1024 .f32) (wst : FVec Ideal S2048x1024 .bf16)

theorem grid_lt (i : grid0.Coords) : (i 0).val < 48 := (i 0).isLt
theorem ctx_bit : ∀ n : Fin 48, Scalar.cmpi .slt (BitVec.ofNat 32 n.val) 16#32 = if n.val < 16 then 1#1 else 0#1 := by
  decide +kernel
theorem ctx_eq : Scalar.cmpi .slt (BitVec.ofNat 32 (i 0).val) 16#32 = if (i 0).val < 16 then 1#1 else 0#1 := ctx_bit ⟨_, grid_lt i⟩
theorem sel_one {α : Type} (a b : α) : Scalar.select 1#1 a b = a := if_pos rfl
theorem sel_zero {α : Type} (a b : α) : Scalar.select 0#1 a b = b := if_neg (by decide)

theorem hs_ctx (h : (i 0).val < 16) (y c : Fin 512) : k0_pay3 i f0 b0 f1 b1 (ix2 y c) = f0 (ix2 y c) + b0 (ix2 y c) := by
  have hi := (ctx_eq i).trans (if_pos h)
  pointwise [k0_pay3, hi, sel_one]
theorem hs_lat (h : ¬ (i 0).val < 16) (y c : Fin 512) : k0_pay3 i f0 b0 f1 b1 (ix2 y c) = f1 (ix2 y c) + b1 (ix2 y c) := by
  have hi := (ctx_eq i).trans (if_neg h)
  pointwise [k0_pay3, hi, sel_zero]
theorem head (f : Fin 512 → EReal) (c p : Fin 512) (q : Fin 128 → Fin 512) (hp : p.val = c) (hq : ∀ x, (q x).val = c.val / 128 * 128 + x) :
    f p * Ideal.rsqrt (Ideal.div (∑ x, f (q x) * f (q x)) (Ideal.ofBits .f32 0x43000000#32) + Ideal.ofBits .f32 0x358637BD#32)
      = hnrm (fun j => f ⟨c.val / 128 * 128 + j, by omega⟩) ⟨c.val % 128, by omega⟩ := by
  have e : p = ⟨c.val / 128 * 128 + c.val % 128, by omega⟩ := Fin.ext (by rw [hp]; show c.val = c.val / 128 * 128 + c.val % 128; omega)
  have e' : q = fun j => ⟨c.val / 128 * 128 + j, by omega⟩ := funext fun x => Fin.ext (hq x)
  exact congrArg₂ (fun (p : Fin 512) (q : Fin 128 → Fin 512) => f p * Ideal.rsqrt (Ideal.div (∑ x, f (q x) * f (q x)) (Ideal.ofBits .f32 0x43000000#32)
    + Ideal.ofBits .f32 0x358637BD#32)) e e'
theorem hn_at (y c : Fin 512) : (k0_pay6 (k0_pay3 i f0 b0 f1 b1) (k0_pay4 i f0 b0 f1 b1) (k0_pay5 i f0 b0 f1 b1) gm : FVec Ideal S512x512 .f32) (ix2 y c)
    = hnrm (fun j => (k0_pay3 i f0 b0 f1 b1 : FVec Ideal S512x512 .f32) (ix2 y ⟨c.val / 128 * 128 + j, by omega⟩)) ⟨c.val % 128, by omega⟩ * gm (ix2 0 c) := by
  pointwise [k0_pay6, k0_pay4, k0_pay5]
  refine congrArg (· * gm (ix2 0 c)) ?_
  let f : Fin 512 → EReal := fun z => (k0_pay3 i f0 b0 f1 b1 : FVec Ideal S512x512 .f32) (ix2 y z)
  by_cases h1 : c.val < 128
  · exact (dif_pos h1).trans (head f c c (fun x => ⟨x, by omega⟩) rfl (fun x => by show x.val = _; omega))
  refine (dif_neg h1).trans ?_
  by_cases h2 : c.val - 128 < 128
  · exact (dif_pos h2).trans (head f c ⟨128 + (c.val - 128), by omega⟩ (fun x => ⟨128 + x, by omega⟩) (by show 128 + (c.val - 128) = _; omega) (fun x => by show 128 + x.val = _; omega))
  refine (dif_neg h2).trans ?_
  by_cases h3 : c.val - 128 - 128 < 128
  · exact (dif_pos h3).trans (head f c ⟨256 + (c.val - 128 - 128), by omega⟩ (fun x => ⟨256 + x, by omega⟩) (by show 256 + (c.val - 128 - 128) = _; omega) (fun x => by show 256 + x.val = _; omega))
  exact (dif_neg h3).trans (head f c ⟨384 + (c.val - 128 - 128 - 128), by omega⟩ (fun x => ⟨384 + x, by omega⟩) (by show 384 + (c.val - 128 - 128 - 128) = _; omega) (fun x => by show 384 + x.val = _; omega))
theorem e_at (y c : Fin 512) : (k0_pay7 og : FVec Ideal S512x512 .f32) (ix2 y c) = Ideal.exp (-og (ix2 y c)) := by
  pointwise [k0_pay7]
  exact congrArg Ideal.exp (zero_sub _)
theorem x1_at (y : Fin 512) (c : Fin 1024) : k0_pay9 s u e o cv w w' xa xb ga (ix2 y c)
    = Scalar.select s (xa (ix2 y c)) (xb (ix2 y c)) + ga (ix2 0 c) * ((∑ k, cv (ix2 y k) * w (ix2 k c))
      + ∑ k, u (ix2 y k) * Ideal.div 1 (o (ix2 y k) + e (ix2 y k)) * w' (ix2 k c)) := by
  pointwise [k0_pay9]
theorem one_at (y c : Fin 512) : (k0_pay8 (F := Ideal)) (ix2 y c) = 1 := by
  pointwise [k0_pay8]
theorem nrm_at (y : Fin 512) (c : Fin 1024) : k0_pay10 s u e o cv w w' xa xb ga g (ix2 y c)
    = nrm (fun k => k0_pay9 s u e o cv w w' xa xb ga (ix2 y k)) c * g (ix2 0 c) := by
  pointwise [k0_pay10]
  rfl
theorem h2_at (y : Fin 512) (c : Fin 1024) : k0_pay1 n sc sh (ix2 c y) = n (ix2 y c) * (1 + sc (ix2 0 c)) + sh (ix2 0 c) := by
  pointwise [k0_pay1]
theorem score_at (j : Fin 16) (k : Fin 128) (y : Fin 512) : k0_pay2 n sc sh wst (ix3 j k y)
    = ∑ d, wst (ix2 ⟨j.val * 128 + k, by omega⟩ d) * k0_pay1 n sc sh (ix2 d y) := by
  pointwise [k0_pay2]
end Cert.Kernel3Ideal.Body

end

end
-- ==== Proof.MixBlocks.lean ====
/- The blocks the mixing kernel reads, from its arguments. -/
module

public import Idealize.ShloMosaic.Lib.Claim
public import Idealize.ShloMosaic.Lib.Pipeline.ValueKit
public import proofs.«01_k».proof.Proof.MixBody

@[expose] public section

set_option maxRecDepth 16384

noncomputable section

open Idealize.ShloMosaic Idealize.ShloMosaic.TcCoe Idealize.SL.Sem

open Idealize.ShloMosaic.Pipeline (Dat)

namespace Cert.Kernel3Ideal.Blocks

open Cert.Kernel3Ideal Cert.Kernel3Ideal.Gen Cert.Mix
open Cert.Proj (mrow nrm modu)

theorem idx : ∀ t : Fin cfg0.N, t.val < 48 ∧ (grid0.coords t 0).val = t.val
    ∧ win0_0.index t = ![min t.val 15, 0] ∧ win0_1.index t = ![t.val - 16, 0] ∧ win0_2.index t = ![t.val, 0]
    ∧ win0_3.index t = ![min t.val 15, 0] ∧ win0_4.index t = ![t.val - 16, 0] ∧ win0_5.index t = ![min t.val 15, 0]
    ∧ win0_6.index t = ![t.val - 16, 0] ∧ win0_7.index t = ![t.val, 0] ∧ win0_8.index t = ![0, 0] ∧ win0_9.index t = ![0, 0]
    ∧ win0_10.index t = ![0, 0] ∧ win0_11.index t = ![0, 0] ∧ win0_12.index t = ![0, 0] ∧ win0_13.index t = ![t.val, 0]
    ∧ win0_14.index t = ![0, t.val] ∧ win0_15.index t = ![0, 0, t.val] :=
  (by decide +kernel : ∀ t : Fin grid0.N, _)

/-- The row of the modulation a block reads. -/
theorem off : ∀ t : Fin cfg0.N, k0_off1 (grid0.coords t) = ![if t.val < 16 then 0 else 1 + (t.val - 16) / 8, 2048]
    ∧ k0_off2 (grid0.coords t) = ![if t.val < 16 then 0 else 1 + (t.val - 16) / 8, 4096]
    ∧ k0_off3 (grid0.coords t) = ![if t.val < 16 then 0 else 1 + (t.val - 16) / 8, 3072] :=
  (by decide +kernel : ∀ t : Fin grid0.N, _)

variable (m : (ℓ : Loc nD τ sig) → Buf (Elt Ideal) ℓ) (c : Dev nD)

/-- The arguments in memory. -/
def args : Args where
  X0 r k := (m ((c : Thread nD τ).loc main_arg0) : FVec Ideal S8192x1024 .f32) (ix2 r k)
  X1 r k := (m ((c : Thread nD τ).loc main_arg1) : FVec Ideal S16384x1024 .f32) (ix2 r k)
  CV r k := (m ((c : Thread nD τ).loc main_arg2) : FVec Ideal S24576x512 .bf16) (ix2 r k)
  F0 r k := (m ((c : Thread nD τ).loc main_arg3) : FVec Ideal S8192x512 .f32) (ix2 r k)
  F1 r k := (m ((c : Thread nD τ).loc main_arg4) : FVec Ideal S16384x512 .f32) (ix2 r k)
  B0 r k := (m ((c : Thread nD τ).loc main_arg5) : FVec Ideal S8192x512 .f32) (ix2 r k)
  B1 r k := (m ((c : Thread nD τ).loc main_arg6) : FVec Ideal S16384x512 .f32) (ix2 r k)
  OG r k := (m ((c : Thread nD τ).loc main_arg7) : FVec Ideal S24576x512 .f32) (ix2 r k)
  M r k := (m ((c : Thread nD τ).loc main_arg8) : FVec Ideal S8x6144 .f32) (ix2 r k)
  GM a b := (m ((c : Thread nD τ).loc main_arg9) : FVec Ideal S4x128 .f32) (ix2 a b)
  W k j := (m ((c : Thread nD τ).loc main_arg10) : FVec Ideal S1024x1024 .f32) (ix2 k j)
  G k := (m ((c : Thread nD τ).loc main_arg11) : FVec Ideal S1024 .f32) (ix1 k)
  WQ k j := (m ((c : Thread nD τ).loc main_arg12) : FVec Ideal S1024x2048 .f32) (ix2 k j)
  K1 a b := (m ((c : Thread nD τ).loc main_arg13) : FVec Ideal S128x128 .f32) (ix2 a b)
  K2 a b := (m ((c : Thread nD τ).loc main_arg14) : FVec Ideal S128x128 .f32) (ix2 a b)

variable (t : Fin cfg0.N)

/-- The token a block's row is. -/
def row (y : Fin 512) : Fin 24576 := ⟨512 * t.val + y, by have := (idx t).1; omega⟩

theorem pick_ctx {α : Type} (a : Fin 8192 → α) (b : Fin 16384 → α) (h : t.val < 16) (y : Fin 512) :
    pick a b (row t y) = a ⟨512 * t.val + y, by omega⟩ := dif_pos (show 512 * t.val + y.val < 8192 by omega)
theorem pick_lat {α : Type} (a : Fin 8192 → α) (b : Fin 16384 → α) (h : ¬ t.val < 16) (y : Fin 512) :
    pick a b (row t y) = b ⟨512 * t.val + y - 8192, by have := (idx t).1; omega⟩ := dif_neg (show ¬ 512 * t.val + y.val < 8192 by omega)

theorem b0 (h : t.val < 16) (y k) : (iblk m c 0 t : FVec Ideal S512x1024 .f32) (ix2 y k) = (args m c).X0 ⟨512 * t.val + y.val, by omega⟩ k := by
  show _ = (m ((c : Thread nD τ).loc main_arg0) : FVec Ideal S8192x1024 .f32) _
  blk_ext [iblk, V, idx t]
theorem b3 (h : t.val < 16) (y k) : (iblk m c 3 t : FVec Ideal S512x512 .f32) (ix2 y k) = (args m c).F0 ⟨512 * t.val + y.val, by omega⟩ k := by
  show _ = (m ((c : Thread nD τ).loc main_arg3) : FVec Ideal S8192x512 .f32) _
  blk_ext [iblk, V, idx t]
theorem b5 (h : t.val < 16) (y k) : (iblk m c 5 t : FVec Ideal S512x512 .f32) (ix2 y k) = (args m c).B0 ⟨512 * t.val + y.val, by omega⟩ k := by
  show _ = (m ((c : Thread nD τ).loc main_arg5) : FVec Ideal S8192x512 .f32) _
  blk_ext [iblk, V, idx t]
theorem b1 (h : ¬ t.val < 16) (y k) : (iblk m c 1 t : FVec Ideal S512x1024 .f32) (ix2 y k)
    = (args m c).X1 ⟨512 * t.val + y.val - 8192, by have := (idx t).1; have := y.isLt; omega⟩ k := by
  show _ = (m ((c : Thread nD τ).loc main_arg1) : FVec Ideal S16384x1024 .f32) _
  have := (idx t).1
  blk_ext [iblk, V, idx t]
theorem b4 (h : ¬ t.val < 16) (y k) : (iblk m c 4 t : FVec Ideal S512x512 .f32) (ix2 y k)
    = (args m c).F1 ⟨512 * t.val + y.val - 8192, by have := (idx t).1; have := y.isLt; omega⟩ k := by
  show _ = (m ((c : Thread nD τ).loc main_arg4) : FVec Ideal S16384x512 .f32) _
  have := (idx t).1
  blk_ext [iblk, V, idx t]
theorem b6 (h : ¬ t.val < 16) (y k) : (iblk m c 6 t : FVec Ideal S512x512 .f32) (ix2 y k)
    = (args m c).B1 ⟨512 * t.val + y.val - 8192, by have := (idx t).1; have := y.isLt; omega⟩ k := by
  show _ = (m ((c : Thread nD τ).loc main_arg6) : FVec Ideal S16384x512 .f32) _
  have := (idx t).1
  blk_ext [iblk, V, idx t]
theorem b2 (y k) : (iblk m c 2 t : FVec Ideal S512x512 .bf16) (ix2 y k) = (args m c).CV (row t y) k := by
  show _ = (m ((c : Thread nD τ).loc main_arg2) : FVec Ideal S24576x512 .bf16) _
  unfold row
  blk_ext [iblk, V, idx t]
theorem b7 (y k) : (iblk m c 7 t : FVec Ideal S512x512 .f32) (ix2 y k) = (args m c).OG (row t y) k := by
  show _ = (m ((c : Thread nD τ).loc main_arg7) : FVec Ideal S24576x512 .f32) _
  unfold row
  blk_ext [iblk, V, idx t]
theorem b8 (r k) : (iblk m c 8 t : FVec Ideal S8x6144 .f32) (ix2 r k) = (args m c).M r k := by
  show _ = (m ((c : Thread nD τ).loc main_arg8) : FVec Ideal S8x6144 .f32) _
  blk_ext [iblk, V, idx t]
theorem b9 (k : Fin 512) : (iblk m c 9 t : FVec Ideal S1x512 .f32) (ix2 0 k) = (args m c).GM ⟨k.val / 128, by omega⟩ ⟨k.val % 128, by omega⟩ := by
  show _ = (m ((c : Thread nD τ).loc main_arg9) : FVec Ideal S4x128 .f32) _
  blk_simp [iblk]
  entry_read
  have e : ((View.whole main_v0).slice (win0_9.rect t)).emb (ix2 0 k) = ix2 0 k := by
    blk_ext [idx t]
  rw [e]
  pointwise
theorem b10 (k j) : (iblk m c 10 t : FVec Ideal S1024x1024 .bf16) (ix2 k j) = (args m c).W k j := by
  show _ = (m ((c : Thread nD τ).loc main_arg10) : FVec Ideal S1024x1024 .f32) _
  blk_simp [iblk]
  entry_read
  pointwise
  blk_ext [idx t]
theorem b11 (k) : (iblk m c 11 t : FVec Ideal S1x1024 .f32) (ix2 0 k) = (args m c).G k := by
  show _ = (m ((c : Thread nD τ).loc main_arg11) : FVec Ideal S1024 .f32) _
  blk_simp [iblk]
  entry_read
  pointwise
  blk_ext [idx t]
theorem fold_val (A : Args) (wq : FVec Ideal S1024x2048 .f32) (k1 k2 : FVec Ideal S128x128 .f32) (hq : ∀ a b, wq (ix2 a b) = A.WQ a b)
    (h1 : ∀ a b, k1 (ix2 a b) = A.K1 a b) (h2 : ∀ a b, k2 (ix2 a b) = A.K2 a b) (j : Fin 16) (n : Fin 128) (k : Fin 1024) :
    (∑ x : Fin 128, wq (ix2 k ⟨(j.val * 128 + n.val) / 256 * 256 + (j.val * 128 + n.val) / 128 % 2 * 128 + x.val, by omega⟩) *
        if h : (j.val * 128 + n.val) / 128 % 2 < 1 then k1 (ix2 ⟨(j.val * 128 + n.val) % 128, by omega⟩ x)
        else k2 (ix2 ⟨(j.val * 128 + n.val) % 128, by omega⟩ x)) = fold A j n k := by
  have e : (⟨(j.val * 128 + n.val) % 128, by omega⟩ : Fin 128) = n := Fin.ext (show (j.val * 128 + n.val) % 128 = n.val by omega)
  refine Finset.sum_congr rfl fun d _ => ?_
  refine (mul_comm (_ : EReal) _).trans (congrArg₂ (fun a b : EReal => a * b) ?_ ?_)
  · unfold key
    by_cases h : j.val % 2 = 0
    · rw [if_pos h]
      exact (dif_pos (show (j.val * 128 + n.val) / 128 % 2 < 1 by omega)).trans ((h1 _ _).trans (congrArg (fun z => A.K1 z d) e))
    · rw [if_neg h]
      exact (dif_neg (show ¬ (j.val * 128 + n.val) / 128 % 2 < 1 by omega)).trans ((h2 _ _).trans (congrArg (fun z => A.K2 z d) e))
  · exact (hq _ _).trans <| congrArg (A.WQ k) (Fin.ext (show (j.val * 128 + n.val) / 256 * 256 + (j.val * 128 + n.val) / 128 % 2 * 128 + d.val = j.val * 128 + d.val by omega))
theorem b12 (j : Fin 16) (n : Fin 128) (k : Fin 1024) : (iblk m c 12 t : FVec Ideal S2048x1024 .bf16) (ix2 ⟨j.val * 128 + n, by omega⟩ k) = fold (args m c) j n k := by
  blk_simp [iblk]
  entry_read
  have e : ((View.whole main_v10).slice (win0_12.rect t)).emb (ix2 ⟨j.val * 128 + n, by omega⟩ k) = ix2 ⟨j.val * 128 + n, by omega⟩ k := by
    blk_ext [idx t]
  rw [e]
  pointwise
  exact fold_val (args m c) (m ((c : Thread nD τ).loc main_arg12)) (m ((c : Thread nD τ).loc main_arg13)) (m ((c : Thread nD τ).loc main_arg14))
    (fun _ _ => rfl) (fun _ _ => rfl) (fun _ _ => rfl) j n k

theorem mrow_blk (y : Fin 512) : (mrow (row t y).val).val = if t.val < 16 then 0 else 1 + (t.val - 16) / 8 := by
  have := (idx t).1
  show (if 512 * t.val + y < 8192 then 0 else 1 + (512 * t.val + y - 8192) / 4096 % 4) = _
  split_ifs <;> omega
theorem ga_at (h) (y : Fin 512) (k : Fin 1024) : View.ld (Val := Elt Ideal) (e' := .f32) (iblk m c 8 t) (Rect.unit (s := S8x6144) (k0_off1 (grid0.coords t)) S1x1024.size h) (ix2 0 k)
    = (args m c).M (mrow (row t y).val) ⟨2048 + k, by omega⟩ := by
  refine Eq.trans ?_ (b8 m c t _ _)
  pointwise
  have := mrow_blk t y
  refine congrArg _ ((ix2_inj ..).2 ⟨Fin.ext ?_, Fin.ext ?_⟩)
  · show k0_off1 (grid0.coords t) 0 = (mrow (row t y).val).val
    rw [this, (off t).1]
    rfl
  · show k0_off1 (grid0.coords t) 1 + k.val = 2048 + k.val
    rw [(off t).1]
    rfl
theorem sc_at (h) (y : Fin 512) (k : Fin 1024) : View.ld (Val := Elt Ideal) (e' := .f32) (iblk m c 8 t) (Rect.unit (s := S8x6144) (k0_off2 (grid0.coords t)) S1x1024.size h) (ix2 0 k)
    = (args m c).M (mrow (row t y).val) ⟨4096 + k, by omega⟩ := by
  refine Eq.trans ?_ (b8 m c t _ _)
  pointwise
  have := mrow_blk t y
  refine congrArg _ ((ix2_inj ..).2 ⟨Fin.ext ?_, Fin.ext ?_⟩)
  · show k0_off2 (grid0.coords t) 0 = (mrow (row t y).val).val
    rw [this, (off t).2.1]
    rfl
  · show k0_off2 (grid0.coords t) 1 + k.val = 4096 + k.val
    rw [(off t).2.1]
    rfl
theorem sh_at (h) (y : Fin 512) (k : Fin 1024) : View.ld (Val := Elt Ideal) (e' := .f32) (iblk m c 8 t) (Rect.unit (s := S8x6144) (k0_off3 (grid0.coords t)) S1x1024.size h) (ix2 0 k)
    = (args m c).M (mrow (row t y).val) ⟨3072 + k, by omega⟩ := by
  refine Eq.trans ?_ (b8 m c t _ _)
  pointwise
  have := mrow_blk t y
  refine congrArg _ ((ix2_inj ..).2 ⟨Fin.ext ?_, Fin.ext ?_⟩)
  · show k0_off3 (grid0.coords t) 0 = (mrow (row t y).val).val
    rw [this, (off t).2.2]
    rfl
  · show k0_off3 (grid0.coords t) 1 + k.val = 3072 + k.val
    rw [(off t).2.2]
    rfl
theorem w_at (o : ℕ) (ho : o + 512 ≤ 1024) (h) (k : Fin 512) (x : Fin 1024) :
    View.ld (Val := Elt Ideal) (e' := .bf16) (iblk m c 10 t) (Rect.unit (s := S1024x1024) ![o, 0] S512x1024.size h) (ix2 k x)
    = (args m c).W ⟨o + k, by omega⟩ x := by
  refine Eq.trans ?_ (b10 m c t ⟨o + k, by omega⟩ x)
  pointwise

/-- The block's recurrence, both directions. -/
theorem hs_blk (y k : Fin 512) : (k0_pay3 (grid0.coords t) (iblk m c 3 t) (iblk m c 5 t) (iblk m c 4 t) (iblk m c 6 t) : FVec Ideal S512x512 .f32) (ix2 y k)
    = hs (args m c) (row t y) k := by
  unfold hs
  by_cases h : t.val < 16
  · rw [pick_ctx t _ _ h]
    exact (Body.hs_ctx (grid0.coords t) _ _ _ _ (by rw [(idx t).2.1]; exact h) y k).trans (congrArg₂ (· + ·) (b3 m c t h y k) (b5 m c t h y k))
  · rw [pick_lat t _ _ h]
    exact (Body.hs_lat (grid0.coords t) _ _ _ _ (by rw [(idx t).2.1]; exact h) y k).trans (congrArg₂ (· + ·) (b4 m c t h y k) (b6 m c t h y k))

/-- The block's own tokens. -/
theorem tok_blk (y : Fin 512) (k : Fin 1024) : Scalar.select (Scalar.cmpi .slt (BitVec.ofNat 32 (grid0.coords t 0).val) 16#32)
    ((iblk m c 0 t : FVec Ideal S512x1024 .f32) (ix2 y k)) ((iblk m c 1 t : FVec Ideal S512x1024 .f32) (ix2 y k)) = pick (args m c).X0 (args m c).X1 (row t y) k := by
  rw [Body.ctx_eq, (idx t).2.1]
  by_cases h : t.val < 16
  · rw [if_pos h, Body.sel_one, pick_ctx t _ _ h]
    exact b0 m c t h y k
  · rw [if_neg h, Body.sel_zero, pick_lat t _ _ h]
    exact b1 m c t h y k

/-- The block's gated heads. -/
theorem ml_blk (y k : Fin 512) : (k0_pay6 (k0_pay3 (grid0.coords t) (iblk m c 3 t) (iblk m c 5 t) (iblk m c 4 t) (iblk m c 6 t))
      (k0_pay4 (grid0.coords t) (iblk m c 3 t) (iblk m c 5 t) (iblk m c 4 t) (iblk m c 6 t))
      (k0_pay5 (grid0.coords t) (iblk m c 3 t) (iblk m c 5 t) (iblk m c 4 t) (iblk m c 6 t)) (iblk m c 9 t) : FVec Ideal S512x512 .f32) (ix2 y k)
      * Ideal.div 1 ((k0_pay8 (F := Ideal)) (ix2 y k) + (k0_pay7 (iblk m c 7 t) : FVec Ideal S512x512 .f32) (ix2 y k))
    = ml (args m c) (row t y) k := by
  rw [Body.one_at, Body.e_at, b7]
  refine congrArg (· * _) ((Body.hn_at _ _ _ _ _ _ y k).trans ?_)
  rw [b9]
  exact congrArg (fun f => hnrm f _ * _) (funext fun j => hs_blk m c t y _)

/-- The block's tokens after the mixers. -/
theorem x1_blk (h1 h2 h3) (y : Fin 512) (k : Fin 1024) :
    k0_pay9 (Scalar.cmpi .slt (BitVec.ofNat 32 (grid0.coords t 0).val) 16#32)
      (k0_pay6 (k0_pay3 (grid0.coords t) (iblk m c 3 t) (iblk m c 5 t) (iblk m c 4 t) (iblk m c 6 t))
      (k0_pay4 (grid0.coords t) (iblk m c 3 t) (iblk m c 5 t) (iblk m c 4 t) (iblk m c 6 t))
      (k0_pay5 (grid0.coords t) (iblk m c 3 t) (iblk m c 5 t) (iblk m c 4 t) (iblk m c 6 t)) (iblk m c 9 t))
      (k0_pay7 (iblk m c 7 t)) k0_pay8 (iblk m c 2 t)
      (View.ld (Val := Elt Ideal) (e' := .bf16) (iblk m c 10 t) (Rect.unit (s := S1024x1024) ![0, 0] S512x1024.size h1))
      (View.ld (Val := Elt Ideal) (e' := .bf16) (iblk m c 10 t) (Rect.unit (s := S1024x1024) ![512, 0] S512x1024.size h2))
      (iblk m c 0 t) (iblk m c 1 t)
      (View.ld (Val := Elt Ideal) (e' := .f32) (iblk m c 8 t) (Rect.unit (s := S8x6144) (k0_off1 (grid0.coords t)) S1x1024.size h3)) (ix2 y k)
    = x1 (args m c) (row t y) k := by
  refine (Body.x1_at _ _ _ _ _ _ _ _ _ _ y k).trans ?_
  refine congrArg₂ (· + ·) (tok_blk m c t y k) (congrArg₂ (· * ·) (ga_at m c t h3 y k) (congrArg₂ (· + ·) ?_ ?_))
  · refine Finset.sum_congr rfl fun j _ => congrArg₂ (· * ·) (b2 m c t y j) ((w_at m c t 0 (by decide) h1 j k).trans ?_)
    exact congrArg (fun z => (args m c).W z k) (Fin.ext (Nat.zero_add _))
  · exact Finset.sum_congr rfl fun j _ => congrArg₂ (· * ·) (ml_blk m c t y j) (w_at m c t 512 (by decide) h2 j k)

/-- The block's tokens after the second norm, transposed. -/
theorem h2_blk (h1 h2 h3 h4 h5) (y : Fin 512) (k : Fin 1024) :
    k0_pay1 (k0_pay10 (Scalar.cmpi .slt (BitVec.ofNat 32 (grid0.coords t 0).val) 16#32)
      (k0_pay6 (k0_pay3 (grid0.coords t) (iblk m c 3 t) (iblk m c 5 t) (iblk m c 4 t) (iblk m c 6 t))
      (k0_pay4 (grid0.coords t) (iblk m c 3 t) (iblk m c 5 t) (iblk m c 4 t) (iblk m c 6 t))
      (k0_pay5 (grid0.coords t) (iblk m c 3 t) (iblk m c 5 t) (iblk m c 4 t) (iblk m c 6 t)) (iblk m c 9 t))
      (k0_pay7 (iblk m c 7 t)) k0_pay8 (iblk m c 2 t)
      (View.ld (Val := Elt Ideal) (e' := .bf16) (iblk m c 10 t) (Rect.unit (s := S1024x1024) ![0, 0] S512x1024.size h1))
      (View.ld (Val := Elt Ideal) (e' := .bf16) (iblk m c 10 t) (Rect.unit (s := S1024x1024) ![512, 0] S512x1024.size h2))
      (iblk m c 0 t) (iblk m c 1 t)
      (View.ld (Val := Elt Ideal) (e' := .f32) (iblk m c 8 t) (Rect.unit (s := S8x6144) (k0_off1 (grid0.coords t)) S1x1024.size h3)) (iblk m c 11 t))
      (View.ld (Val := Elt Ideal) (e' := .f32) (iblk m c 8 t) (Rect.unit (s := S8x6144) (k0_off2 (grid0.coords t)) S1x1024.size h4))
      (View.ld (Val := Elt Ideal) (e' := .f32) (iblk m c 8 t) (Rect.unit (s := S8x6144) (k0_off3 (grid0.coords t)) S1x1024.size h5)) (ix2 k y)
    = Cert.Mix.h2 (args m c) (row t y) k := by
  refine (Body.h2_at _ _ _ y k).trans ?_
  refine congrArg₂ (· + ·) (congrArg₂ (· * ·) ((Body.nrm_at _ _ _ _ _ _ _ _ _ _ _ y k).trans ?_) (congrArg (1 + ·) (sc_at m c t h4 y k))) (sh_at m c t h5 y k)
  exact congrArg₂ (· * ·) (congrArg (nrm · k) (funext fun j => x1_blk m c t h1 h2 h3 y j)) (b11 m c t k)

theorem out13 (y : Fin 512) (k : Fin 1024) : ((outsAt0 m c t).1 : FVec Ideal S512x1024 .f32) (ix2 y k) = x1 (args m c) (row t y) k := by
  simp only [outsAt0]
  frame_out
  exact x1_blk m c t _ _ _ y k
theorem out14 (k : Fin 1024) (y : Fin 512) : ((outsAt0 m c t).2.1 : FVec Ideal S1024x512 .bf16) (ix2 k y) = Cert.Mix.h2 (args m c) (row t y) k := by
  simp only [outsAt0]
  frame_out
  exact h2_blk m c t _ _ _ _ _ y k
theorem out15 (j : Fin 16) (n : Fin 128) (y : Fin 512) : ((outsAt0 m c t).2.2 : FVec Ideal S16x128x512 .f32) (ix3 j n y) = score (args m c) j n (row t y) := by
  simp only [outsAt0]
  frame_out
  refine (Body.score_at _ _ _ _ j n y).trans ?_
  exact Finset.sum_congr rfl fun k _ => congrArg₂ (· * ·) (b12 m c t j n k) (h2_blk m c t _ _ _ _ _ y k)
end Cert.Kernel3Ideal.Blocks

end

end
-- ==== Proof.MixValue.lean ====
/- The three arrays of the mixing kernel after the run. -/
module

public import proofs.«01_k».proof.Proof.MixBlocks

@[expose] public section

set_option maxRecDepth 16384

noncomputable section

open Idealize.ShloMosaic Idealize.ShloMosaic.TcCoe Idealize.SL.Sem

open Idealize.ShloMosaic.Pipeline (Dat)

namespace Cert.Kernel3Ideal.Blocks

open Cert.Kernel3Ideal Cert.Kernel3Ideal.Gen Cert.Mix Cert.Kernel3Ideal.Value

variable (m : (ℓ : Loc nD τ sig) → Buf (Elt Ideal) ℓ) (c : Dev nD)

theorem arr13 : (dats m 0 c).arrAt 13 cfg0.N = fun i : S24576x1024.Idx => x1 (args m c) ⟨(i 0).val, (i 0).isLt⟩ ⟨(i 1).val, (i 1).isLt⟩ := by
  refine (dats m 0 c).arrAt_eq_of_covers 13 _ (by decide +kernel) fun t hf y => ?_
  blk_simp
  rw [after0_13]
  idx_vars y
  refine (out13 m c t _ _).trans ?_
  unfold row
  blk_simp [idx t]
  simp only [mul_comm 512 t.val]
theorem arr14 : (dats m 0 c).arrAt 14 cfg0.N = fun i : S1024x24576.Idx => h2 (args m c) ⟨(i 1).val, (i 1).isLt⟩ ⟨(i 0).val, (i 0).isLt⟩ := by
  refine (dats m 0 c).arrAt_eq_of_covers 14 _ (by decide +kernel) fun t hf y => ?_
  blk_simp
  rw [after0_14]
  idx_vars y
  refine (out14 m c t _ _).trans ?_
  unfold row
  blk_simp [idx t]
  simp only [mul_comm 512 t.val]
theorem arr15 : (dats m 0 c).arrAt 15 cfg0.N = fun i : S16x128x24576.Idx => score (args m c) ⟨(i 0).val, (i 0).isLt⟩ ⟨(i 1).val, (i 1).isLt⟩ ⟨(i 2).val, (i 2).isLt⟩ := by
  refine (dats m 0 c).arrAt_eq_of_covers 15 _ (by decide +kernel) fun t hf y => ?_
  blk_simp
  rw [after0_15]
  idx_vars y
  refine (out15 m c t _ _ _).trans ?_
  unfold row
  blk_simp [idx t]
  simp only [mul_comm 512 t.val]

end Cert.Kernel3Ideal.Blocks

end

end
-- ==== Proof.MixReal.lean ====
/- The scores over the real numbers: the norm of any row is real, and the sums of the folded keys change places. -/
module

public import Idealize.ShloMosaic.Lib.Pointwise
public import proofs.«01_k».proof.Proof.MixSpec

@[expose] public section

set_option maxRecDepth 16384

noncomputable section

open Idealize.ShloMosaic Idealize.ShloMosaic.TcCoe Idealize.SL.Sem

namespace Cert.Mix

open Cert.Proj (mrow nrm modu)

theorem coe_sum {ι : Type} [Fintype ι] (f : ι → ℝ) : ((∑ i, f i : ℝ) : EReal) = ∑ i, (f i : EReal) :=
  map_sum (⟨⟨(fun r : ℝ => (r : EReal)), EReal.coe_zero⟩, EReal.coe_add⟩ : ℝ →+ EReal) f Finset.univ

theorem c1024 : Ideal.ofBits .f32 0x44800000#32 = ((1024 : ℝ) : EReal) := by
  simp [Ideal.ofBits, Ideal.ieee]
  rw [← EReal.coe_mul]
  norm_num
theorem eps_real : ∃ e : ℝ, 0 < e ∧ Ideal.ofBits .f32 0x358637BD#32 = (e : EReal) := by
  refine ⟨8796093 * (2 ^ 43)⁻¹, by positivity, ?_⟩
  simp [Ideal.ofBits, Ideal.ieee]
theorem div_real (x : EReal) : Ideal.div x ((1024 : ℝ) : EReal) = x * ((1024⁻¹ : ℝ) : EReal) := by
  unfold Ideal.div
  rw [if_neg (by exact_mod_cast (by norm_num : (1024 : ℝ) ≠ 0)), ← EReal.coe_inv]
theorem rsqrt_top : Ideal.rsqrt ⊤ = 0 := rfl
theorem rsqrt_pos {r : ℝ} (h : 0 < r) : Ideal.rsqrt (r : EReal) = ((√r)⁻¹ : ℝ) :=
  (if_neg h.le.not_gt).trans (if_neg h.ne')
theorem sq_nonneg' (z : EReal) : 0 ≤ z * z := by
  rcases le_total 0 z with h | h
  · exact mul_nonneg h h
  · rw [← neg_mul_neg]
    exact mul_nonneg (EReal.neg_nonneg.2 h) (EReal.neg_nonneg.2 h)

/-- Whatever the row, its norm is real: over an infinite mean square it is zero. -/
theorem nrm_real (x : Fin 1024 → EReal) (k : Fin 1024) : ∃ r : ℝ, nrm x k = (r : EReal) := by
  obtain ⟨e, he, hE⟩ := eps_real
  unfold nrm
  rw [c1024, hE, div_real]
  by_cases h : ∀ j, ∃ r : ℝ, x j = (r : EReal)
  · choose y hy using h
    have hs : (∑ j, x j * x j) = ((∑ j, y j * y j : ℝ) : EReal) := by
      rw [coe_sum]
      exact Finset.sum_congr rfl fun j _ => by rw [hy, EReal.coe_mul]
    have hp : 0 < (∑ j, y j * y j) * 1024⁻¹ + e :=
      add_pos_of_nonneg_of_pos (mul_nonneg (Finset.sum_nonneg fun j _ => mul_self_nonneg _) (by norm_num)) he
    refine ⟨y k * (√((∑ j, y j * y j) * 1024⁻¹ + e))⁻¹, ?_⟩
    rw [hs, ← EReal.coe_mul, ← EReal.coe_add, rsqrt_pos hp, hy k, ← EReal.coe_mul]
  · simp only [not_forall, not_exists] at h
    obtain ⟨j, hj⟩ := h
    have ht : x j * x j = ⊤ := by
      induction hz : x j using EReal.rec with
      | bot => exact EReal.bot_mul_bot
      | top => exact EReal.top_mul_top
      | coe r => exact absurd hz (hj r)
    have hs : (∑ j, x j * x j) = ⊤ :=
      top_le_iff.1 (ht.symm.le.trans (Finset.single_le_sum (f := fun j => x j * x j) (fun i _ => sq_nonneg' _) (Finset.mem_univ j)))
    refine ⟨0, ?_⟩
    rw [hs, EReal.top_mul_coe_of_pos (by norm_num), EReal.top_add_coe, rsqrt_top, mul_zero]
    rfl

theorem swap (a : Fin 128 → ℝ) (w : Fin 1024 → Fin 128 → ℝ) (h : Fin 1024 → ℝ) :
    (∑ k, (∑ d, (a d : EReal) * w k d) * h k) = ∑ d, (∑ k, (h k : EReal) * w k d) * a d := by
  simp only [← EReal.coe_mul, ← coe_sum]
  refine congrArg _ ?_
  simp only [Finset.sum_mul]
  rw [Finset.sum_comm]
  exact Finset.sum_congr rfl fun d _ => Finset.sum_congr rfl fun k _ => by ring

/-- The folded keys' scores are the query's halves times the keys, of real weights. -/
theorem score_eq (A : Args) (hM : ∀ a b, ∃ r : ℝ, A.M a b = (r : EReal)) (hG : ∀ a, ∃ r : ℝ, A.G a = (r : EReal))
    (hQ : ∀ a b, ∃ r : ℝ, A.WQ a b = (r : EReal)) (h1 : ∀ a b, ∃ r : ℝ, A.K1 a b = (r : EReal)) (h2' : ∀ a b, ∃ r : ℝ, A.K2 a b = (r : EReal))
    (j : Fin 16) (n : Fin 128) (r : Fin 24576) :
    score A j n r = ∑ d : Fin 128, (∑ k, h2 A r k * A.WQ k ⟨j.val * 128 + d, by omega⟩) * key A j n d := by
  have hh : ∀ k, ∃ s : ℝ, h2 A r k = (s : EReal) := fun k => by
    obtain ⟨a, ha⟩ := nrm_real (x1 A r) k
    obtain ⟨g, hg⟩ := hG k
    obtain ⟨s, hs⟩ := hM (mrow r) ⟨4096 + k, by omega⟩
    obtain ⟨t, ht⟩ := hM (mrow r) ⟨3072 + k, by omega⟩
    refine ⟨a * g * (1 + s) + t, ?_⟩
    show nrm (x1 A r) k * A.G k * (1 + A.M (mrow r) ⟨4096 + k, by omega⟩) + A.M (mrow r) ⟨3072 + k, by omega⟩ = _
    rw [ha, hg, hs, ht]
    push_cast
    rfl
  have hk : ∀ d, ∃ s : ℝ, key A j n d = (s : EReal) := fun d => by
    unfold key
    split_ifs
    · exact h1 n d
    · exact h2' n d
  choose y hy using hh
  choose a ha using hk
  choose w hw using hQ
  unfold score fold
  simp only [hy, ha, hw]
  exact swap a (fun k d => w k ⟨j.val * 128 + d, by omega⟩) y

end Cert.Mix

end

end
-- ==== Proof.MixRef.lean ====
/- The mixing kernel's reference read at an index: the context's tokens, the sequences', and the two joined. -/
module

public import Idealize.ShloMosaic.Lib.Pointwise
public import proofs.«01_k».proof.Proof.Gen.Reference3Ideal.Run
public import proofs.«01_k».proof.Proof.Gen.Reference3Ideal.Read
public import proofs.«01_k».proof.Proof.MixReal

@[expose] public section

set_option maxRecDepth 16384

noncomputable section

open Idealize.ShloMosaic Idealize.ShloMosaic.TcCoe Idealize.SL.Sem

namespace Cert.Reference3Ideal.Ref

open Cert.Reference3Ideal Cert.Reference3Ideal.Gen Cert.Reference3Ideal.Read Cert.Mix
open Cert.Proj (mrow nrm modu)

variable (x0 : FVec Ideal S8192x1024 .f32) (x1 : FVec Ideal S16384x1024 .f32) (x2 : FVec Ideal S24576x512 .bf16) (x3 : FVec Ideal S8192x512 .f32) (x4 : FVec Ideal S16384x512 .f32) (x5 : FVec Ideal S8192x512 .f32) (x6 : FVec Ideal S16384x512 .f32) (x7 : FVec Ideal S24576x512 .f32) (x8 : FVec Ideal S8x6144 .f32) (x9 : FVec Ideal S4x128 .f32) (x10 : FVec Ideal S1024x1024 .f32) (x11 : FVec Ideal S1024 .f32) (x12 : FVec Ideal S1024x2048 .f32) (x13 : FVec Ideal S128x128 .f32) (x14 : FVec Ideal S128x128 .f32)

/-- The arguments as functions of their indices. -/
def rargs : Args where
  X0 r k := x0 (ix2 r k)
  X1 r k := x1 (ix2 r k)
  CV r k := x2 (ix2 r k)
  F0 r k := x3 (ix2 r k)
  F1 r k := x4 (ix2 r k)
  B0 r k := x5 (ix2 r k)
  B1 r k := x6 (ix2 r k)
  OG r k := x7 (ix2 r k)
  M r k := x8 (ix2 r k)
  GM a b := x9 (ix2 a b)
  W k j := x10 (ix2 k j)
  G k := x11 (ix1 k)
  WQ k j := x12 (ix2 k j)
  K1 a b := x13 (ix2 a b)
  K2 a b := x14 (ix2 a b)

/-- The context's token. -/
def rc (b : Fin 32) (l : Fin 256) : Fin 24576 := ⟨b.val * 256 + l, by omega⟩
/-- The sequences' token. -/
def rl (b : Fin 4) (l : Fin 4096) : Fin 24576 := ⟨8192 + (b.val * 4096 + l), by omega⟩

theorem pick_ctx {α : Type} (f : Fin 8192 → α) (g : Fin 16384 → α) (b : Fin 32) (l : Fin 256) :
    pick f g (rc b l) = f ⟨b.val * 256 + l, by omega⟩ := dif_pos (show b.val * 256 + l.val < 8192 by omega)
theorem pick_lat {α : Type} (f : Fin 8192 → α) (g : Fin 16384 → α) (b : Fin 4) (l : Fin 4096) :
    pick f g (rl b l) = g ⟨b.val * 4096 + l, by omega⟩ :=
  (dif_neg (show ¬ 8192 + (b.val * 4096 + l.val) < 8192 by omega)).trans
    (congrArg g (Fin.ext (show 8192 + (b.val * 4096 + l.val) - 8192 = b.val * 4096 + l.val by omega)))
theorem mrow_ctx (b : Fin 32) (l : Fin 256) : mrow (rc b l).val = 0 :=
  Fin.ext (if_pos (show b.val * 256 + l.val < 8192 by omega))
theorem mrow_lat (b : Fin 4) (l : Fin 4096) : mrow (rl b l).val = ⟨1 + b, by omega⟩ :=
  Fin.ext ((if_neg (show ¬(8192 + (b.val * 4096 + l.val) < 8192) by omega)).trans (by
    show 1 + (8192 + (b.val * 4096 + l.val) - 8192) / 4096 % 4 = 1 + b.val
    omega))

/-! The context's tokens. -/

theorem hs_ctx (b : Fin 32) (l : Fin 256) (k : Fin 512) : hs (rargs x0 x1 x2 x3 x4 x5 x6 x7 x8 x9 x10 x11 x12 x13 x14) (rc b l) k = x3 (ix2 ⟨b.val * 256 + l, by omega⟩ k) + x5 (ix2 ⟨b.val * 256 + l, by omega⟩ k) :=
  pick_ctx _ _ b l
theorem hn_ctx (b : Fin 32) (l : Fin 256) (a : Fin 4) (k : Fin 128) : val_main_v23 (F := Ideal) x3 x5 (ix4 b l a k)
    = hnrm (fun j => hs (rargs x0 x1 x2 x3 x4 x5 x6 x7 x8 x9 x10 x11 x12 x13 x14) (rc b l) ⟨a.val * 128 + j, by omega⟩) k := by
  pointwise [val_main_v12, val_main_v13, val_main_v14, val_main_v15, val_main_v16, val_main_v17, val_main_v18, val_main_v19, val_main_v20, val_main_v21, val_main_v22, val_main_v23, val_main_cst, val_main_cst_0, val_main_cst_1]
  rw [show (fun j : Fin 128 => hs (rargs x0 x1 x2 x3 x4 x5 x6 x7 x8 x9 x10 x11 x12 x13 x14) (rc b l) ⟨a.val * 128 + j.val, by omega⟩) = _ from funext fun j => hs_ctx x0 x1 x2 x3 x4 x5 x6 x7 x8 x9 x10 x11 x12 x13 x14 b l _]
  rfl
theorem ml_ctx (b : Fin 32) (l : Fin 256) (k : Fin 512) : val_main_v35 (F := Ideal) x3 x5 x7 x9 (ix3 b l k) = ml (rargs x0 x1 x2 x3 x4 x5 x6 x7 x8 x9 x10 x11 x12 x13 x14) (rc b l) k := by
  pointwise [val_main_v24, val_main_v25, val_main_v26, val_main_v27, val_main_v28, val_main_v29, val_main_v30, val_main_v31, val_main_v32, val_main_v33, val_main_v34, val_main_v35, val_main_v3, val_main_cst_2, val_main_cst_3]
  rw [hn_ctx x0 x1 x2 x3 x4 x5 x6 x7 x8 x9 x10 x11 x12 x13 x14]
  rfl
theorem lo_ctx (b : Fin 32) (l : Fin 256) (k : Fin 512) : val_main_v37 (F := Ideal) x2 x3 x5 x7 x9 (ix3 b l ⟨k.val, by omega⟩) = (rargs x0 x1 x2 x3 x4 x5 x6 x7 x8 x9 x10 x11 x12 x13 x14).CV (rc b l) k := by
  pointwise [val_main_v0, val_main_v2, val_main_v36, val_main_v37]
  rfl
theorem hi_ctx (b : Fin 32) (l : Fin 256) (k : Fin 512) : val_main_v37 (F := Ideal) x2 x3 x5 x7 x9 (ix3 b l ⟨512 + k.val, by omega⟩) = ml (rargs x0 x1 x2 x3 x4 x5 x6 x7 x8 x9 x10 x11 x12 x13 x14) (rc b l) k := by
  pointwise [val_main_v37]
  exact ml_ctx x0 x1 x2 x3 x4 x5 x6 x7 x8 x9 x10 x11 x12 x13 x14 b l k
theorem out_ctx (b : Fin 32) (l : Fin 256) (k : Fin 1024) : val_main_v38 (F := Ideal) x2 x3 x5 x7 x9 x10 (ix3 b l k) = out (rargs x0 x1 x2 x3 x4 x5 x6 x7 x8 x9 x10 x11 x12 x13 x14) (rc b l) k := by
  pointwise [val_main_v38]
  refine (Fin.sum_univ_add (a := 512) (b := 512) (fun j : Fin 1024 => val_main_v37 (F := Ideal) x2 x3 x5 x7 x9 (ix3 b l j) * x10 (ix2 j k))).trans ?_
  refine congrArg₂ (· + ·) (Finset.sum_congr rfl fun j _ => ?_) (Finset.sum_congr rfl fun j _ => ?_)
  · exact congrArg (· * x10 (ix2 ⟨j.val, by omega⟩ k)) (lo_ctx x0 x1 x2 x3 x4 x5 x6 x7 x8 x9 x10 x11 x12 x13 x14 b l j)
  · exact congrArg (· * x10 (ix2 ⟨512 + j.val, by omega⟩ k)) (hi_ctx x0 x1 x2 x3 x4 x5 x6 x7 x8 x9 x10 x11 x12 x13 x14 b l j)
theorem x1_ctx (b : Fin 32) (l : Fin 256) (k : Fin 1024) : val_main_v41 (F := Ideal) x0 x2 x3 x5 x7 x8 x9 x10 (ix3 b l k) = Mix.x1 (rargs x0 x1 x2 x3 x4 x5 x6 x7 x8 x9 x10 x11 x12 x13 x14) (rc b l) k := by
  pointwise [val_main_v1, val_main_v4, val_main_v5, val_main_v8, val_main_v39, val_main_v40, val_main_v41]
  rw [out_ctx x0 x1 x2 x3 x4 x5 x6 x7 x8 x9 x10 x11 x12 x13 x14]
  unfold Mix.x1
  rw [pick_ctx, mrow_ctx]
  rfl
theorem nrm_ctx (b : Fin 32) (l : Fin 256) (k : Fin 1024) : val_main_v51 (F := Ideal) x0 x2 x3 x5 x7 x8 x9 x10 (ix3 b l k) = nrm (Mix.x1 (rargs x0 x1 x2 x3 x4 x5 x6 x7 x8 x9 x10 x11 x12 x13 x14) (rc b l)) k := by
  pointwise [val_main_v42, val_main_v43, val_main_v44, val_main_v45, val_main_v46, val_main_v47, val_main_v48, val_main_v49, val_main_v50, val_main_v51, val_main_cst_4, val_main_cst_5, val_main_cst_6]
  rw [← show (fun j => val_main_v41 (F := Ideal) x0 x2 x3 x5 x7 x8 x9 x10 (ix3 b l j)) = Mix.x1 (rargs x0 x1 x2 x3 x4 x5 x6 x7 x8 x9 x10 x11 x12 x13 x14) (rc b l) from funext fun j => x1_ctx x0 x1 x2 x3 x4 x5 x6 x7 x8 x9 x10 x11 x12 x13 x14 b l j]
  rfl
theorem h2_ctx (b : Fin 32) (l : Fin 256) (k : Fin 1024) : val_main_v60 (F := Ideal) x0 x2 x3 x5 x7 x8 x9 x10 x11 (ix3 b l k) = h2 (rargs x0 x1 x2 x3 x4 x5 x6 x7 x8 x9 x10 x11 x12 x13 x14) (rc b l) k := by
  pointwise [val_main_v4, val_main_v5, val_main_v9, val_main_v10, val_main_v52, val_main_v53, val_main_v54, val_main_v55, val_main_v56, val_main_v57, val_main_v58, val_main_v59, val_main_v60, val_main_cst_7]
  rw [nrm_ctx x0 x1 x2 x3 x4 x5 x6 x7 x8 x9 x10 x11 x12 x13 x14]
  unfold h2 modu
  rw [mrow_ctx]
  rfl

/-! The sequences' tokens. -/

theorem hs_lat (b : Fin 4) (l : Fin 4096) (k : Fin 512) : hs (rargs x0 x1 x2 x3 x4 x5 x6 x7 x8 x9 x10 x11 x12 x13 x14) (rl b l) k = x4 (ix2 ⟨b.val * 4096 + l, by omega⟩ k) + x6 (ix2 ⟨b.val * 4096 + l, by omega⟩ k) :=
  pick_lat _ _ b l
theorem hn_lat (b : Fin 4) (l : Fin 4096) (a : Fin 4) (k : Fin 128) : val_main_v85 (F := Ideal) x4 x6 (ix4 b l a k)
    = hnrm (fun j => hs (rargs x0 x1 x2 x3 x4 x5 x6 x7 x8 x9 x10 x11 x12 x13 x14) (rl b l) ⟨a.val * 128 + j, by omega⟩) k := by
  pointwise [val_main_v74, val_main_v75, val_main_v76, val_main_v77, val_main_v78, val_main_v79, val_main_v80, val_main_v81, val_main_v82, val_main_v83, val_main_v84, val_main_v85, val_main_cst_8, val_main_cst_9, val_main_cst_10]
  rw [show (fun j : Fin 128 => hs (rargs x0 x1 x2 x3 x4 x5 x6 x7 x8 x9 x10 x11 x12 x13 x14) (rl b l) ⟨a.val * 128 + j.val, by omega⟩) = _ from funext fun j => hs_lat x0 x1 x2 x3 x4 x5 x6 x7 x8 x9 x10 x11 x12 x13 x14 b l _]
  rfl
theorem ml_lat (b : Fin 4) (l : Fin 4096) (k : Fin 512) : val_main_v97 (F := Ideal) x4 x6 x7 x9 (ix3 b l k) = ml (rargs x0 x1 x2 x3 x4 x5 x6 x7 x8 x9 x10 x11 x12 x13 x14) (rl b l) k := by
  pointwise [val_main_v86, val_main_v87, val_main_v88, val_main_v89, val_main_v90, val_main_v91, val_main_v92, val_main_v93, val_main_v94, val_main_v95, val_main_v96, val_main_v97, val_main_v65, val_main_cst_11, val_main_cst_12]
  rw [hn_lat x0 x1 x2 x3 x4 x5 x6 x7 x8 x9 x10 x11 x12 x13 x14]
  rfl
theorem lo_lat (b : Fin 4) (l : Fin 4096) (k : Fin 512) : val_main_v99 (F := Ideal) x2 x4 x6 x7 x9 (ix3 b l ⟨k.val, by omega⟩) = (rargs x0 x1 x2 x3 x4 x5 x6 x7 x8 x9 x10 x11 x12 x13 x14).CV (rl b l) k := by
  pointwise [val_main_v0, val_main_v64, val_main_v98, val_main_v99]
  rfl
theorem hi_lat (b : Fin 4) (l : Fin 4096) (k : Fin 512) : val_main_v99 (F := Ideal) x2 x4 x6 x7 x9 (ix3 b l ⟨512 + k.val, by omega⟩) = ml (rargs x0 x1 x2 x3 x4 x5 x6 x7 x8 x9 x10 x11 x12 x13 x14) (rl b l) k := by
  pointwise [val_main_v99]
  exact ml_lat x0 x1 x2 x3 x4 x5 x6 x7 x8 x9 x10 x11 x12 x13 x14 b l k
theorem out_lat (b : Fin 4) (l : Fin 4096) (k : Fin 1024) : val_main_v100 (F := Ideal) x2 x4 x6 x7 x9 x10 (ix3 b l k) = out (rargs x0 x1 x2 x3 x4 x5 x6 x7 x8 x9 x10 x11 x12 x13 x14) (rl b l) k := by
  pointwise [val_main_v100]
  refine (Fin.sum_univ_add (a := 512) (b := 512) (fun j : Fin 1024 => val_main_v99 (F := Ideal) x2 x4 x6 x7 x9 (ix3 b l j) * x10 (ix2 j k))).trans ?_
  refine congrArg₂ (· + ·) (Finset.sum_congr rfl fun j _ => ?_) (Finset.sum_congr rfl fun j _ => ?_)
  · exact congrArg (· * x10 (ix2 ⟨j.val, by omega⟩ k)) (lo_lat x0 x1 x2 x3 x4 x5 x6 x7 x8 x9 x10 x11 x12 x13 x14 b l j)
  · exact congrArg (· * x10 (ix2 ⟨512 + j.val, by omega⟩ k)) (hi_lat x0 x1 x2 x3 x4 x5 x6 x7 x8 x9 x10 x11 x12 x13 x14 b l j)
theorem x1_lat (b : Fin 4) (l : Fin 4096) (k : Fin 1024) : val_main_v103 (F := Ideal) x1 x2 x4 x6 x7 x8 x9 x10 (ix3 b l k) = Mix.x1 (rargs x0 x1 x2 x3 x4 x5 x6 x7 x8 x9 x10 x11 x12 x13 x14) (rl b l) k := by
  pointwise [val_main_v63, val_main_v66, val_main_v67, val_main_v70, val_main_v101, val_main_v102, val_main_v103]
  rw [out_lat x0 x1 x2 x3 x4 x5 x6 x7 x8 x9 x10 x11 x12 x13 x14]
  unfold Mix.x1
  rw [pick_lat, mrow_lat]
  rfl
theorem nrm_lat (b : Fin 4) (l : Fin 4096) (k : Fin 1024) : val_main_v113 (F := Ideal) x1 x2 x4 x6 x7 x8 x9 x10 (ix3 b l k) = nrm (Mix.x1 (rargs x0 x1 x2 x3 x4 x5 x6 x7 x8 x9 x10 x11 x12 x13 x14) (rl b l)) k := by
  pointwise [val_main_v104, val_main_v105, val_main_v106, val_main_v107, val_main_v108, val_main_v109, val_main_v110, val_main_v111, val_main_v112, val_main_v113, val_main_cst_13, val_main_cst_14, val_main_cst_15]
  rw [← show (fun j => val_main_v103 (F := Ideal) x1 x2 x4 x6 x7 x8 x9 x10 (ix3 b l j)) = Mix.x1 (rargs x0 x1 x2 x3 x4 x5 x6 x7 x8 x9 x10 x11 x12 x13 x14) (rl b l) from funext fun j => x1_lat x0 x1 x2 x3 x4 x5 x6 x7 x8 x9 x10 x11 x12 x13 x14 b l j]
  rfl
theorem h2_lat (b : Fin 4) (l : Fin 4096) (k : Fin 1024) : val_main_v122 (F := Ideal) x1 x2 x4 x6 x7 x8 x9 x10 x11 (ix3 b l k) = h2 (rargs x0 x1 x2 x3 x4 x5 x6 x7 x8 x9 x10 x11 x12 x13 x14) (rl b l) k := by
  pointwise [val_main_v66, val_main_v67, val_main_v71, val_main_v72, val_main_v114, val_main_v115, val_main_v116, val_main_v117, val_main_v118, val_main_v119, val_main_v120, val_main_v121, val_main_v122, val_main_cst_16]
  rw [nrm_lat x0 x1 x2 x3 x4 x5 x6 x7 x8 x9 x10 x11 x12 x13 x14]
  unfold h2 modu
  rw [mrow_lat]
  rfl

/-! The two joined: the context's tokens first. -/

theorem split_ctx (r : Fin 24576) (h : r.val < 8192) : rc ⟨r.val / 256, by omega⟩ ⟨r.val % 256, by omega⟩ = r :=
  Fin.ext (show r.val / 256 * 256 + r.val % 256 = r.val by omega)
theorem split_lat (r : Fin 24576) (h : ¬r.val < 8192) : rl ⟨(r.val - 8192) / 4096, by omega⟩ ⟨(r.val - 8192) % 4096, by omega⟩ = r :=
  Fin.ext (show 8192 + ((r.val - 8192) / 4096 * 4096 + (r.val - 8192) % 4096) = r.val by omega)
theorem x1_at (r : Fin 24576) (k : Fin 1024) : val_main_v125 (F := Ideal) x0 x1 x2 x3 x4 x5 x6 x7 x8 x9 x10 (ix2 r k) = Mix.x1 (rargs x0 x1 x2 x3 x4 x5 x6 x7 x8 x9 x10 x11 x12 x13 x14) r k := by
  pointwise [val_main_v125, val_main_v61, val_main_v123]
  by_cases h : r.val < 8192
  · exact (dif_pos h).trans ((x1_ctx x0 x1 x2 x3 x4 x5 x6 x7 x8 x9 x10 x11 x12 x13 x14 ⟨r.val / 256, by omega⟩ ⟨r.val % 256, by omega⟩ k).trans (congrArg (fun r => Mix.x1 (rargs x0 x1 x2 x3 x4 x5 x6 x7 x8 x9 x10 x11 x12 x13 x14) r k) (split_ctx r h)))
  · exact (dif_neg h).trans ((x1_lat x0 x1 x2 x3 x4 x5 x6 x7 x8 x9 x10 x11 x12 x13 x14 ⟨(r.val - 8192) / 4096, by omega⟩ ⟨(r.val - 8192) % 4096, by omega⟩ k).trans (congrArg (fun r => Mix.x1 (rargs x0 x1 x2 x3 x4 x5 x6 x7 x8 x9 x10 x11 x12 x13 x14) r k) (split_lat r h)))
theorem h2_at (r : Fin 24576) (k : Fin 1024) : val_main_v126 (F := Ideal) x0 x1 x2 x3 x4 x5 x6 x7 x8 x9 x10 x11 (ix2 r k) = h2 (rargs x0 x1 x2 x3 x4 x5 x6 x7 x8 x9 x10 x11 x12 x13 x14) r k := by
  pointwise [val_main_v126, val_main_v62, val_main_v124]
  by_cases h : r.val < 8192
  · exact (dif_pos h).trans ((h2_ctx x0 x1 x2 x3 x4 x5 x6 x7 x8 x9 x10 x11 x12 x13 x14 ⟨r.val / 256, by omega⟩ ⟨r.val % 256, by omega⟩ k).trans (congrArg (fun r => h2 (rargs x0 x1 x2 x3 x4 x5 x6 x7 x8 x9 x10 x11 x12 x13 x14) r k) (split_ctx r h)))
  · exact (dif_neg h).trans ((h2_lat x0 x1 x2 x3 x4 x5 x6 x7 x8 x9 x10 x11 x12 x13 x14 ⟨(r.val - 8192) / 4096, by omega⟩ ⟨(r.val - 8192) % 4096, by omega⟩ k).trans (congrArg (fun r => h2 (rargs x0 x1 x2 x3 x4 x5 x6 x7 x8 x9 x10 x11 x12 x13 x14) r k) (split_lat r h)))

/-- A query's entry. -/
theorem q_at (r : Fin 24576) (k : Fin 2048) : val_main_v127 (F := Ideal) x0 x1 x2 x3 x4 x5 x6 x7 x8 x9 x10 x11 x12 (ix2 r k) = ∑ d, h2 (rargs x0 x1 x2 x3 x4 x5 x6 x7 x8 x9 x10 x11 x12 x13 x14) r d * (rargs x0 x1 x2 x3 x4 x5 x6 x7 x8 x9 x10 x11 x12 x13 x14).WQ d k := by
  pointwise [val_main_v127]
  exact Finset.sum_congr rfl fun j _ => congrArg (· * x12 (ix2 j k)) (h2_at x0 x1 x2 x3 x4 x5 x6 x7 x8 x9 x10 x11 x12 x13 x14 r j)

/-- The scores, as the query's halves times the keys. -/
theorem score_at (j : Fin 16) (n : Fin 128) (r : Fin 24576) : val_main_v139 (F := Ideal) x0 x1 x2 x3 x4 x5 x6 x7 x8 x9 x10 x11 x12 x13 x14 (ix3 j n r)
    = ∑ d : Fin 128, (∑ k, h2 (rargs x0 x1 x2 x3 x4 x5 x6 x7 x8 x9 x10 x11 x12 x13 x14) r k * (rargs x0 x1 x2 x3 x4 x5 x6 x7 x8 x9 x10 x11 x12 x13 x14).WQ k ⟨j.val * 128 + d, by omega⟩) * key (rargs x0 x1 x2 x3 x4 x5 x6 x7 x8 x9 x10 x11 x12 x13 x14) j n d := by
  pointwise [val_main_v128, val_main_v129, val_main_v130, val_main_v131, val_main_v132, val_main_v133, val_main_v134, val_main_v135, val_main_v136, val_main_v139]
  unfold key
  by_cases h : j.val % 2 = 0
  · rw [if_pos h]
    refine (dif_pos (show j.val % 2 < 1 by omega)).trans ?_
    refine Finset.sum_congr rfl fun d _ => congrArg (· * x13 (ix2 n d)) ((q_at x0 x1 x2 x3 x4 x5 x6 x7 x8 x9 x10 x11 x12 x13 x14 r _).trans ?_)
    refine Finset.sum_congr rfl fun k _ => congrArg (fun z => _ * x12 (ix2 k z)) (Fin.ext ?_)
    show j.val / 2 * 256 + d.val = j.val * 128 + d.val
    omega
  · rw [if_neg h]
    refine (dif_neg (show ¬ j.val % 2 < 1 by omega)).trans ?_
    refine Finset.sum_congr rfl fun d _ => congrArg (· * x14 (ix2 n d)) ((q_at x0 x1 x2 x3 x4 x5 x6 x7 x8 x9 x10 x11 x12 x13 x14 r _).trans ?_)
    refine Finset.sum_congr rfl fun k _ => congrArg (fun z => _ * x12 (ix2 k z)) (Fin.ext ?_)
    show j.val / 2 * 256 + (128 + d.val) = j.val * 128 + d.val
    omega

/-! The results as arrays. -/

theorem x1_all : val_main_v125 (F := Ideal) x0 x1 x2 x3 x4 x5 x6 x7 x8 x9 x10
    = fun i : S24576x1024.Idx => Mix.x1 (rargs x0 x1 x2 x3 x4 x5 x6 x7 x8 x9 x10 x11 x12 x13 x14) ⟨(i 0).val, (i 0).isLt⟩ ⟨(i 1).val, (i 1).isLt⟩ := by
  funext i
  idx_vars i
  exact x1_at x0 x1 x2 x3 x4 x5 x6 x7 x8 x9 x10 x11 x12 x13 x14 _ _

theorem h2_all : val_main_v138 (F := Ideal) x0 x1 x2 x3 x4 x5 x6 x7 x8 x9 x10 x11
    = fun i : S1024x24576.Idx => h2 (rargs x0 x1 x2 x3 x4 x5 x6 x7 x8 x9 x10 x11 x12 x13 x14) ⟨(i 1).val, (i 1).isLt⟩ ⟨(i 0).val, (i 0).isLt⟩ := by
  funext i
  idx_vars i
  pointwise [val_main_v137, val_main_v138]
  exact h2_at x0 x1 x2 x3 x4 x5 x6 x7 x8 x9 x10 x11 x12 x13 x14 _ _

theorem score_all (hM : ∀ i, ∃ s : ℝ, x8 i = (s : EReal)) (hG : ∀ i, ∃ s : ℝ, x11 i = (s : EReal)) (hQ : ∀ i, ∃ s : ℝ, x12 i = (s : EReal))
    (h1 : ∀ i, ∃ s : ℝ, x13 i = (s : EReal)) (h2 : ∀ i, ∃ s : ℝ, x14 i = (s : EReal)) :
    val_main_v139 (F := Ideal) x0 x1 x2 x3 x4 x5 x6 x7 x8 x9 x10 x11 x12 x13 x14
    = fun i : S16x128x24576.Idx => score (rargs x0 x1 x2 x3 x4 x5 x6 x7 x8 x9 x10 x11 x12 x13 x14) ⟨(i 0).val, (i 0).isLt⟩ ⟨(i 1).val, (i 1).isLt⟩ ⟨(i 2).val, (i 2).isLt⟩ := by
  funext i
  idx_vars i
  exact (score_at x0 x1 x2 x3 x4 x5 x6 x7 x8 x9 x10 x11 x12 x13 x14 _ _ _).trans (score_eq (rargs x0 x1 x2 x3 x4 x5 x6 x7 x8 x9 x10 x11 x12 x13 x14) (fun a b => hM _) (fun a => hG _) (fun a b => hQ _) (fun a b => h1 _) (fun a b => h2 _) _ _ _).symm

end Cert.Reference3Ideal.Ref

end

end
-- ==== Proof.PreFinite3.lean ====
/- The mixing call's precondition, read: the modulation, the norm's scale, the query's weight and the keys are real numbers. -/
module

public import proofs.«01_k».proof.Defs
public import proofs.«01_k».proof.Proof.PreFinite

@[expose] public section

set_option maxRecDepth 16384

noncomputable section

open Idealize.ShloMosaic Idealize.ShloMosaic.TcCoe Idealize.SL.Sem

namespace Cert.Pre_finite3

/-- The predicate's shape relations. -/
theorem hfacts : Cert.Pre_finite3.Facts where
  bcast_S_S8x6144 := by decide
  reducesTo_S8x6144_S_d0_1 := by decide
  h_S_ := by decide
  bcast_S_S1024 := by decide
  reducesTo_S1024_S_d0 := by decide
  bcast_S_S1024x2048 := by decide
  reducesTo_S1024x2048_S_d0_1 := by decide
  bcast_S_S128x128 := by decide
  reducesTo_S128x128_S_d0_1 := by decide

instance : Subsingleton S_.Idx := ⟨fun a b => funext fun k => k.elim0⟩

variable [Facts] {x0 : FVec Ideal S8192x1024 .f32} {x1 : FVec Ideal S16384x1024 .f32} {x2 : FVec Ideal S24576x512 .bf16} {x3 : FVec Ideal S8192x512 .f32} {x4 : FVec Ideal S16384x512 .f32} {x5 : FVec Ideal S8192x512 .f32} {x6 : FVec Ideal S16384x512 .f32} {x7 : FVec Ideal S24576x512 .f32} {x8 : FVec Ideal S8x6144 .f32} {x9 : FVec Ideal S4x128 .f32} {x10 : FVec Ideal S1024x1024 .f32} {x11 : FVec Ideal S1024 .f32} {x12 : FVec Ideal S1024x2048 .f32} {x13 : FVec Ideal S128x128 .f32} {x14 : FVec Ideal S128x128 .f32}

theorem realM (h : (fn (F := Ideal) x0 x1 x2 x3 x4 x5 x6 x7 x8 x9 x10 x11 x12 x13 x14).1 = fun _ => 1#1) (i : S8x6144.Idx) : ∃ r : ℝ, x8 i = (r : EReal) := by
  have e := congrFun h (fun k => k.elim0)
  simp only [fn, fn_part1] at e
  have e' := Host.reduce_andi_all _ _ _ _ _ e i
  exact Cert.Pre_finite.real_of_cmp x8 _ i e'
theorem realG (h : (fn (F := Ideal) x0 x1 x2 x3 x4 x5 x6 x7 x8 x9 x10 x11 x12 x13 x14).2.1 = fun _ => 1#1) (i : S1024.Idx) : ∃ r : ℝ, x11 i = (r : EReal) := by
  have e := congrFun h (fun k => k.elim0)
  simp only [fn, fn_part1] at e
  have e' := Host.reduce_andi_all _ _ _ _ _ e i
  exact Cert.Pre_finite.real_of_cmp x11 _ i e'
theorem realQ (h : (fn (F := Ideal) x0 x1 x2 x3 x4 x5 x6 x7 x8 x9 x10 x11 x12 x13 x14).2.2.1 = fun _ => 1#1) (i : S1024x2048.Idx) : ∃ r : ℝ, x12 i = (r : EReal) := by
  have e := congrFun h (fun k => k.elim0)
  simp only [fn, fn_part1] at e
  have e' := Host.reduce_andi_all _ _ _ _ _ e i
  exact Cert.Pre_finite.real_of_cmp x12 _ i e'
theorem realA (h : (fn (F := Ideal) x0 x1 x2 x3 x4 x5 x6 x7 x8 x9 x10 x11 x12 x13 x14).2.2.2.1 = fun _ => 1#1) (i : S128x128.Idx) : ∃ r : ℝ, x13 i = (r : EReal) := by
  have e := congrFun h (fun k => k.elim0)
  simp only [fn, fn_part1] at e
  have e' := Host.reduce_andi_all _ _ _ _ _ e i
  exact Cert.Pre_finite.real_of_cmp x13 _ i e'
theorem realB (h : (fn (F := Ideal) x0 x1 x2 x3 x4 x5 x6 x7 x8 x9 x10 x11 x12 x13 x14).2.2.2.2 = fun _ => 1#1) (i : S128x128.Idx) : ∃ r : ℝ, x14 i = (r : EReal) := by
  have e := congrFun h (fun k => k.elim0)
  simp only [fn, fn_part1] at e
  have e' := Host.reduce_andi_all _ _ _ _ _ e i
  exact Cert.Pre_finite.real_of_cmp x14 _ i e'

open Cert.Kernel3Ideal in
theorem realArgs (m : (ℓ : Loc nD τ sig) → Buf (Elt Ideal) ℓ) (h : Cert.Pre_Kernel3Ideal_finite3 m) (c : Dev nD) :
    (∀ i, ∃ r : ℝ, (m ((c : Thread nD τ).loc main_arg8) : FVec Ideal S8x6144 .f32) i = (r : EReal))
    ∧ (∀ i, ∃ r : ℝ, (m ((c : Thread nD τ).loc main_arg11) : FVec Ideal S1024 .f32) i = (r : EReal))
    ∧ (∀ i, ∃ r : ℝ, (m ((c : Thread nD τ).loc main_arg12) : FVec Ideal S1024x2048 .f32) i = (r : EReal))
    ∧ (∀ i, ∃ r : ℝ, (m ((c : Thread nD τ).loc main_arg13) : FVec Ideal S128x128 .f32) i = (r : EReal))
    ∧ (∀ i, ∃ r : ℝ, (m ((c : Thread nD τ).loc main_arg14) : FVec Ideal S128x128 .f32) i = (r : EReal)) := by
  obtain ⟨h0, h1, h2, h3, h4⟩ := h c
  exact ⟨realM h0, realG h1, realQ h2, realA h3, realB h4⟩

end Cert.Pre_finite3

end

end
-- ==== Proof.FoldValue.lean ====
/- The keys folded into the query's weight: the kernel's array and the reference's, one formula of the arguments. -/
module

public import Idealize.ShloMosaic.Lib.Claim
public import Idealize.ShloMosaic.Lib.Pointwise
public import Idealize.ShloMosaic.Lib.Pipeline.ValueKit
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

open Idealize.ShloMosaic.Pipeline (Dat)

namespace Cert.Fold

/-- The row of a key: its product with the columns of its half of its head. -/
def fold (wq : Fin 1024 → Fin 2048 → EReal) (k1 k2 : Fin 128 → Fin 128 → EReal) (j : Fin 16) (n : Fin 128) (k : Fin 1024) : EReal :=
  ∑ d : Fin 128, (if j.val % 2 = 0 then k1 n d else k2 n d) * wq k ⟨j.val * 128 + d, by omega⟩

end Cert.Fold

namespace Cert.Kernel4Ideal.Blocks

open Cert.Kernel4Ideal Cert.Kernel4Ideal.Gen Cert.Fold Cert.Kernel4Ideal.Value

theorem idx : ∀ t : Fin cfg0.N, t.val < 16 ∧ (grid0.coords t 0).val = t.val
    ∧ win0_0.index t = ![t.val % 2, 0, 0] ∧ win0_1.index t = ![0, t.val] ∧ win0_2.index t = ![t.val, 0] :=
  (by decide +kernel : ∀ t : Fin grid0.N, _)

variable (m : (ℓ : Loc nD τ sig) → Buf (Elt Ideal) ℓ) (c : Dev nD)

def wq (a : Fin 1024) (b : Fin 2048) : EReal := (m ((c : Thread nD τ).loc main_arg0) : FVec Ideal S1024x2048 .f32) (ix2 a b)
def k1 (a b : Fin 128) : EReal := (m ((c : Thread nD τ).loc main_arg1) : FVec Ideal S128x128 .f32) (ix2 a b)
def k2 (a b : Fin 128) : EReal := (m ((c : Thread nD τ).loc main_arg2) : FVec Ideal S128x128 .f32) (ix2 a b)

variable (t : Fin cfg0.N)

theorem b0 (n d : Fin 128) : (iblk m c 0 t : FVec Ideal S1x128x128 .f32) (ix3 0 n d) = if t.val % 2 = 0 then k1 m c n d else k2 m c n d := by
  blk_simp [iblk]
  entry_read
  have e : ((View.whole main_v2).slice (win0_0.rect t)).emb (ix3 0 n d) = ix3 ⟨t.val % 2, by omega⟩ n d := by
    blk_ext [idx t]
  rw [e]
  pointwise
  by_cases h : t.val % 2 = 0
  · rw [if_pos h]
    exact dif_pos (show t.val % 2 < 1 by omega)
  · rw [if_neg h]
    exact dif_neg (show ¬ t.val % 2 < 1 by omega)
theorem b1 (k : Fin 1024) (d : Fin 128) : (iblk m c 1 t : FVec Ideal S1024x128 .f32) (ix2 k d)
    = wq m c k ⟨t.val * 128 + d, by have := (idx t).1; omega⟩ := by
  show _ = (m ((c : Thread nD τ).loc main_arg0) : FVec Ideal S1024x2048 .f32) _
  blk_ext [iblk, V, idx t]
theorem pay_at (x : FVec Ideal S1x128x128 .f32) (w : FVec Ideal S1024x128 .f32) (n : Fin 128) (k : Fin 1024) :
    k0_pay1 (F := Ideal) x w (ix2 n k) = ∑ d, x (ix3 0 n d) * w (ix2 k d) := by
  pointwise [k0_pay1]
theorem out2 (n : Fin 128) (k : Fin 1024) : (out0_2 (iblk m c 0 t) (iblk m c 1 t) : FVec Ideal S128x1024 .bf16) (ix2 n k)
    = fold (wq m c) (k1 m c) (k2 m c) ⟨t.val, (idx t).1⟩ n k := by

  frame_out
  refine (pay_at _ _ n k).trans ?_
  exact Finset.sum_congr rfl fun d _ => congrArg₂ (· * ·) (b0 m c t n d) (b1 m c t k d)

theorem arr2 : (dats m 0 c).arrAt 2 cfg0.N = fun i : S2048x1024.Idx =>
    fold (wq m c) (k1 m c) (k2 m c) ⟨(i 0).val / 128, by have : (i 0).val < 2048 := (i 0).isLt; omega⟩ ⟨(i 0).val % 128, by omega⟩ ⟨(i 1).val, (i 1).isLt⟩ := by
  refine (dats m 0 c).arrAt_eq_of_covers 2 _ (by decide +kernel) fun t hf y => ?_
  blk_simp
  rw [after0_2]
  idx_vars y
  refine (out2 m c t _ _).trans ?_
  blk_simp [idx t]
  have h0 := y0.isLt
  congr 1
  · exact Fin.ext (by show t.val = (t.val * 128 + y0.val) / 128; omega)
  · exact Fin.ext (by show y0.val = (t.val * 128 + y0.val) % 128; omega)

end Cert.Kernel4Ideal.Blocks

namespace Cert.Reference4Ideal.Ref

open Cert.Reference4Ideal Cert.Reference4Ideal.Gen Cert.Reference4Ideal.Read Cert.Fold

variable (x0 : FVec Ideal S1024x2048 .f32) (x1 x2 : FVec Ideal S128x128 .f32)

theorem fold_all : val_main_v11 (F := Ideal) x0 x1 x2 = fun i : S2048x1024.Idx =>
    fold (fun a b => x0 (ix2 a b)) (fun a b => x1 (ix2 a b)) (fun a b => x2 (ix2 a b))
      ⟨(i 0).val / 128, by have : (i 0).val < 2048 := (i 0).isLt; omega⟩ ⟨(i 0).val % 128, by omega⟩ ⟨(i 1).val, (i 1).isLt⟩ := by
  funext i
  idx_vars i
  pointwise [val_main_v0, val_main_v1, val_main_v2, val_main_v3, val_main_v4, val_main_v5, val_main_v6, val_main_v7, val_main_v8, val_main_v9, val_main_v10, val_main_v11]
  unfold fold
  by_cases h : i0.val / 128 % 2 < 1
  · refine (dif_pos h).trans (Finset.sum_congr rfl fun x _ => ?_)
    refine congrArg₂ (· * ·) (if_pos (show i0.val / 128 % 2 = 0 by omega)).symm (congrArg x0 ?_)
    exact (ix2_inj ..).2 ⟨rfl, Fin.ext (by show i0.val / 256 * 256 + x.val = i0.val / 128 * 128 + x.val; omega)⟩
  · refine (dif_neg h).trans (Finset.sum_congr rfl fun x _ => ?_)
    refine congrArg₂ (· * ·) (if_neg (show ¬ i0.val / 128 % 2 = 0 by omega)).symm (congrArg x0 ?_)
    exact (ix2_inj ..).2 ⟨rfl, Fin.ext (by show i0.val / 256 * 256 + (128 + x.val) = i0.val / 128 * 128 + x.val; omega)⟩

end Cert.Reference4Ideal.Ref

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.PreFinite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.ProjValue
public import proofs.«01_k».proof.Proof.ProjRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MixValue
public import proofs.«01_k».proof.Proof.MixRef
public import proofs.«01_k».proof.Proof.PreFinite3
public import proofs.«01_k».proof.Proof.FoldValue
public import Idealize.ShloMosaic.Adequacy
public import Idealize.ShloMosaic.Init

@[expose] public section

noncomputable section

namespace Cert.Proof

open Idealize.ShloMosaic Idealize.SL.Sem

/-- The reference's frame: it has no semaphores, so every count ends at zero. -/
theorem frame_ri : Cert.quiescent_ReferenceIdeal := fun m ρ _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run m ρ)

/-- The four results, equal where the arguments are finite. -/
theorem algebraic : Cert.algebraic_KernelIdeal_ReferenceIdeal_pre_finite (hPre_finite := Cert.Pre_finite.hfacts) := by
  intro m ρ m' ρ' hpre hagree
  have hr := fun c => @Cert.Pre_finite.realArgs Cert.Pre_finite.hfacts m hpre c
  choose q k v g H using hr
  refine ⟨_, _, _, _, Cert.KernelIdeal.Value.run_blocks m ρ, ?_⟩
  refine (θ_run (Cert.ReferenceIdeal.defs (F := Ideal)) _ _).mono (fun r h c => ?_) (Cert.ReferenceIdeal.Value.run m' ρ')
  obtain ⟨a0, a1, a2, a3⟩ := hagree c
  obtain ⟨h0, h1, h2, h3, h4⟩ := h c
  have I := Cert.ReferenceIdeal.Ref.four (Cert.ReferenceIdeal.Ref.entry (q := q c) (k := k c) (v := v c) (g := g c) m' c
    (fun i j => (congrFun a0 _).trans ((H c).q i j)) (fun i j => (congrFun a1 _).trans ((H c).k i j))
    (fun i j => (congrFun a2 _).trans ((H c).v i j)) (fun i j => (congrFun a3 _).trans ((H c).g i j)))
  exact ⟨h0.trans ((Cert.ReferenceIdeal.Ref.hf_out I).trans (Cert.KernelIdeal.Arr.arr12 (H c)).symm),
    h1.trans ((Cert.ReferenceIdeal.Ref.hb_out I).trans (Cert.KernelIdeal.Arr.arr13 (H c)).symm),
    h2.trans ((Cert.ReferenceIdeal.Ref.c_out I).trans (Cert.KernelIdeal.Arr.arr14 (H c)).symm),
    h3.trans ((Cert.ReferenceIdeal.Ref.m_out I).trans (Cert.KernelIdeal.Arr.arr15 (H c)).symm), h4⟩

/-- The projection's reference's frame. -/
theorem frame_ri2 : Cert.quiescent_Reference2Ideal := fun m ρ _ =>
  (θ_run (Cert.Reference2Ideal.defs (F := Ideal)) _ _).mono
    (fun r h => ⟨fun c => (h c).2.2.2.2.2.2.2, Idealize.ShloMosaic.sem_eq_zero_of_no_sems (by decide) r.2⟩)
    (Cert.Reference2Ideal.Value.run m ρ)

/-- The projection's seven results, equal for all arguments. -/
theorem algebraic2 : Cert.algebraic_Kernel2Ideal_Reference2Ideal := by
  intro m ρ m' ρ' _ hagree
  refine ⟨_, _, _, _, _, _, _, Cert.Kernel2Ideal.Value.run_blocks m ρ, ?_⟩
  refine (θ_run (Cert.Reference2Ideal.defs (F := Ideal)) _ _).mono (fun r h c => ?_) (Cert.Reference2Ideal.Value.run m' ρ')
  obtain ⟨a0, a1, a2, a3, a4, a5, a6, a7, a8⟩ := hagree c
  obtain ⟨h0, h1, h2, h3, h4, h5, h6, h7⟩ := h c
  have E : Cert.Reference2Ideal.Ref.rargs
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      = Cert.Kernel2Ideal.Blocks.args m c := by
    rw [a0, a1, a2, a3, a4, a5, a6, a7, a8]
    rfl
  rw [Cert.Kernel2Ideal.Blocks.arr11 m c, Cert.Kernel2Ideal.Blocks.arr12 m c, Cert.Kernel2Ideal.Blocks.arr13 m c, Cert.Kernel2Ideal.Blocks.arr14 m c, Cert.Kernel2Ideal.Blocks.arr15 m c, Cert.Kernel2Ideal.Blocks.arr16 m c, Cert.Kernel2Ideal.Blocks.arr17 m c, ← E]
  exact ⟨h0.trans ((Cert.Reference2Ideal.Read.val_main_v176_eq _).trans (Cert.Reference2Ideal.Ref.conv_all _ _ _ _ _ _ _ _ _)),
    h1.trans ((Cert.Reference2Ideal.Read.val_main_v177_eq _).trans (Cert.Reference2Ideal.Ref.q_all _ _ _ _ _ _ _ _ _)),
    h2.trans ((Cert.Reference2Ideal.Read.val_main_v178_eq _).trans (Cert.Reference2Ideal.Ref.k_all _ _ _ _ _ _ _ _ _)),
    h3.trans ((Cert.Reference2Ideal.Read.val_main_v179_eq _).trans (Cert.Reference2Ideal.Ref.v_all _ _ _ _ _ _ _ _ _)),
    h4.trans ((Cert.Reference2Ideal.Read.val_main_v170_eq _).trans (Cert.Reference2Ideal.Ref.z_all _ _ _ _ _ _ _ _ _)),
    h5.trans ((Cert.Reference2Ideal.Read.val_main_v175_eq _).trans (Cert.Reference2Ideal.Ref.gate_all _ _ _ _ _ _ _ _ _)),
    h6.trans ((Cert.Reference2Ideal.Read.val_main_v180_eq _).trans (Cert.Reference2Ideal.Ref.gate_t_all _ _ _ _ _ _ _ _ _)), h7⟩

/-- The mixing's reference's frame. -/
theorem frame_ri3 : Cert.quiescent_Reference3Ideal := fun m ρ _ =>
  (θ_run (Cert.Reference3Ideal.defs (F := Ideal)) _ _).mono
    (fun r h => ⟨fun c => (h c).2.2.2, Idealize.ShloMosaic.sem_eq_zero_of_no_sems (by decide) r.2⟩)
    (Cert.Reference3Ideal.Value.run m ρ)

/-- The mixing's three results, equal where the arguments of the scores' exchange of sums are finite. -/
theorem algebraic3 : Cert.algebraic_Kernel3Ideal_Reference3Ideal_pre_finite3 (hPre_finite3 := Cert.Pre_finite3.hfacts) := by
  intro m ρ m' ρ' hpre hagree
  refine ⟨_, _, _, Cert.Kernel3Ideal.Value.run_blocks m ρ, ?_⟩
  refine (θ_run (Cert.Reference3Ideal.defs (F := Ideal)) _ _).mono (fun r h c => ?_) (Cert.Reference3Ideal.Value.run m' ρ')
  obtain ⟨p0, p1, p2, p3, p4⟩ := @Cert.Pre_finite3.realArgs Cert.Pre_finite3.hfacts m hpre c
  obtain ⟨a0, a1, a2, a3, a4, a5, a6, a7, a8, a9, a10, a11, a12, a13, a14⟩ := hagree c
  obtain ⟨h0, h1, h2, h3⟩ := h c
  have E : Cert.Reference3Ideal.Ref.rargs
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m' ((c.tc : Thread Cert.Reference3Ideal.nD Cert.Reference3Ideal.τ).loc Cert.Reference3Ideal.main_arg9))
      (m' ((c.tc : Thread Cert.Reference3Ideal.nD Cert.Reference3Ideal.τ).loc Cert.Reference3Ideal.main_arg10))
      (m' ((c.tc : Thread Cert.Reference3Ideal.nD Cert.Reference3Ideal.τ).loc Cert.Reference3Ideal.main_arg11))
      (m' ((c.tc : Thread Cert.Reference3Ideal.nD Cert.Reference3Ideal.τ).loc Cert.Reference3Ideal.main_arg12))
      (m' ((c.tc : Thread Cert.Reference3Ideal.nD Cert.Reference3Ideal.τ).loc Cert.Reference3Ideal.main_arg13))
      (m' ((c.tc : Thread Cert.Reference3Ideal.nD Cert.Reference3Ideal.τ).loc Cert.Reference3Ideal.main_arg14))
      = Cert.Kernel3Ideal.Blocks.args m c := by
    rw [a0, a1, a2, a3, a4, a5, a6, a7, a8, a9, a10, a11, a12, a13, a14]
    rfl
  rw [Cert.Kernel3Ideal.Blocks.arr13 m c, Cert.Kernel3Ideal.Blocks.arr14 m c, Cert.Kernel3Ideal.Blocks.arr15 m c, ← E]
  exact ⟨h0.trans ((Cert.Reference3Ideal.Read.val_main_v125_eq m' c).trans (Cert.Reference3Ideal.Ref.x1_all _ _ _ _ _ _ _ _ _ _ _ _ _ _ _)),
    h1.trans ((Cert.Reference3Ideal.Read.val_main_v138_eq m' c).trans (Cert.Reference3Ideal.Ref.h2_all _ _ _ _ _ _ _ _ _ _ _ _ _ _ _)),
    h2.trans ((Cert.Reference3Ideal.Read.val_main_v139_eq m' c).trans (Cert.Reference3Ideal.Ref.score_all _ _ _ _ _ _ _ _ _ _ _ _ _ _ _
      (fun i => (p0 i).imp fun _ e => (congrFun a8 i).trans e) (fun i => (p1 i).imp fun _ e => (congrFun a11 i).trans e)
      (fun i => (p2 i).imp fun _ e => (congrFun a12 i).trans e) (fun i => (p3 i).imp fun _ e => (congrFun a13 i).trans e)
      (fun i => (p4 i).imp fun _ e => (congrFun a14 i).trans e))), h3⟩

/-- The folded keys' reference's frame. -/
theorem frame_ri4 : Cert.quiescent_Reference4Ideal := fun m ρ _ =>
  (θ_run (Cert.Reference4Ideal.defs (F := Ideal)) _ _).mono
    (fun r h => ⟨fun c => (h c).2, Idealize.ShloMosaic.sem_eq_zero_of_no_sems (by decide) r.2⟩)
    (Cert.Reference4Ideal.Value.run m ρ)

/-- The folded keys, equal for all arguments. -/
theorem algebraic4 : Cert.algebraic_Kernel4Ideal_Reference4Ideal := by
  intro m ρ m' ρ' _ hagree
  refine ⟨_, Cert.Kernel4Ideal.Value.run_blocks m ρ, ?_⟩
  refine (θ_run (Cert.Reference4Ideal.defs (F := Ideal)) _ _).mono (fun r h c => ?_) (Cert.Reference4Ideal.Value.run m' ρ')
  obtain ⟨a0, a1, a2⟩ := hagree c
  obtain ⟨h0, h1⟩ := h c
  refine ⟨h0.trans (((Cert.Reference4Ideal.Read.val_main_v11_eq _ _ _).trans (Cert.Reference4Ideal.Ref.fold_all _ _ _)).trans ?_), h1⟩
  rw [Cert.Kernel4Ideal.Blocks.arr2 m c, a0, a1, a2]
  rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.hfacts, Cert.Pre_finite3.hfacts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, fun m ρ _ => Cert.Kernel2.Gen.frame m ρ,
    fun m ρ _ => Cert.Kernel2Ideal.Gen.frame m ρ, frame_ri2, fun m ρ _ => Cert.Kernel3.Gen.frame m ρ,
    fun m ρ _ => Cert.Kernel3Ideal.Gen.frame m ρ, fun m ρ _ => Cert.Kernel3Ideal.Gen.frame m ρ, frame_ri3,
    fun m ρ _ => frame_ri3 m ρ trivial, fun m ρ _ => Cert.Kernel4.Gen.frame m ρ, fun m ρ _ => Cert.Kernel4Ideal.Gen.frame m ρ,
    frame_ri4, trivial, algebraic, trivial, algebraic2, trivial, algebraic3, trivial, algebraic4⟩

end Cert.Proof

end
